-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S32x128x64x64 : S_.BroadcastsInDim S32x128x64x64 (![] : Fin 0 → Fin S32x128x64x64.rank)
  reducesTo_S32x128x64x64_S_d0_1_2_3 : S32x128x64x64.ReducesTo [0, 1, 2, 3] S_

variable [Facts]

def fn_part1 {F : FTy → Type} [FloatOps F] (main_arg2 : FVec F S32x128x64x64 .f32) (main_v12 : IVec S_ 1) (main_v14 : IVec S32x128x64x64 1) (main_v15 : FVec F S32x128x64x64 .f32) : IVec S_ 1 :=
  let main_v16 : IVec S32x128x64x64 1 := cmpf .ogt main_arg2 main_v15
  let main_v17 : IVec S32x128x64x64 1 := andi main_v14 main_v16
  let main_c_6 : IVec S_ 1 := constantI S_ 1 1#1
  let main_v18 : IVec S_ 1 := (fun x v => Host.reduce IntOp.andi x v reducesTo_S32x128x64x64_S_d0_1_2_3 h_S_) main_v17 main_c_6
  let main_v19 : IVec S_ 1 := andi main_v12 main_v18
  main_v19

def fn {F : FTy → Type} [FloatOps F] (main_arg0 : FVec F S2x128x512 .f32) (main_arg1 : FVec F S512x256 .f32) (main_arg2 : FVec F S32x128x64x64 .f32) (main_arg3 : FVec F S32x128x64x64 .f32) (main_arg4 : FVec F S256x512 .f32) : IVec S_ 1 :=
  let main_cst : FVec F S_ .f32 := constant S_ .f32 0x7F800000#32
  let main_v0 : FVec F S2x128x512 .f32 := broadcastInDim S2x128x512 ![] bcast_S_S2x128x512 main_cst
  let main_v1 : IVec S2x128x512 1 := cmpf .olt main_arg0 main_v0
  let main_cst_0 : FVec F S_ .f32 := constant S_ .f32 0xFF800000#32
  let main_v2 : FVec F S2x128x512 .f32 := broadcastInDim S2x128x512 ![] bcast_S_S2x128x512 main_cst_0
  let main_v3 : IVec S2x128x512 1 := cmpf .ogt main_arg0 main_v2
  let main_v4 : IVec S2x128x512 1 := andi main_v1 main_v3
  let main_c : IVec S_ 1 := constantI S_ 1 1#1
  let main_v5 : IVec S_ 1 := (fun x v => Host.reduce IntOp.andi x v reducesTo_S2x128x512_S_d0_1_2 h_S_) main_v4 main_c
  let main_cst_1 : FVec F S_ .f32 := constant S_ .f32 0x7F800000#32
  let main_v6 : FVec F S512x256 .f32 := broadcastInDim S512x256 ![] bcast_S_S512x256 main_cst_1
  let main_v7 : IVec S512x256 1 := cmpf .olt main_arg1 main_v6
  let main_cst_2 : FVec F S_ .f32 := constant S_ .f32 0xFF800000#32
  let main_v8 : FVec F S512x256 .f32 := broadcastInDim S512x256 ![] bcast_S_S512x256 main_cst_2
  let main_v9 : IVec S512x256 1 := cmpf .ogt main_arg1 main_v8
  let main_v10 : IVec S512x256 1 := andi main_v7 main_v9
  let main_c_3 : IVec S_ 1 := constantI S_ 1 1#1
  let main_v11 : IVec S_ 1 := (fun x v => Host.reduce IntOp.andi x v reducesTo_S512x256_S_d0_1 h_S_) main_v10 main_c_3
  let main_v12 : IVec S_ 1 := andi main_v5 main_v11
  let main_cst_4 : FVec F S_ .f32 := constant S_ .f32 0x7F800000#32
  let main_v13 : FVec F S32x128x64x64 .f32 := broadcastInDim S32x128x64x64 ![] bcast_S_S32x128x64x64 main_cst_4
  let main_v14 : IVec S32x128x64x64 1 := cmpf .olt main_arg2 main_v13
  let main_cst_5 : FVec F S_ .f32 := constant S_ .f32 0xFF800000#32
  let main_v15 : FVec F S32x128x64x64 .f32 := broadcastInDim S32x128x64x64 ![] bcast_S_S32x128x64x64 main_cst_5
  fn_part1 (F := F) main_arg2 main_v12 main_v14 main_v15
-- ==== Pre_finite_ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S_ : Shape := ⟨0, ![]⟩

class Facts : Prop where
  bcast_S_S32x128x512 : S_.BroadcastsInDim S32x128x512 (![] : Fin 0 → Fin S32x128x512.rank)
  reducesTo_S32x128x512_S_d0_1_2 : S32x128x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S32x128x64x64 : S_.BroadcastsInDim S32x128x64x64 (![] : Fin 0 → Fin S32x128x64x64.rank)
  reducesTo_S32x128x64x64_S_d0_1_2_3 : S32x128x64x64.ReducesTo [0, 1, 2, 3] S_

variable [Facts]

def fn_part1 {F : FTy → Type} [FloatOps F] (main_arg2 : FVec F S32x128x64x64 .f32) (main_v12 : IVec S_ 1) (main_v14 : IVec S32x128x64x64 1) (main_v15 : FVec F S32x128x64x64 .f32) : IVec S_ 1 :=
  let main_v16 : IVec S32x128x64x64 1 := cmpf .ogt main_arg2 main_v15
  let main_v17 : IVec S32x128x64x64 1 := andi main_v14 main_v16
  let main_c_6 : IVec S_ 1 := constantI S_ 1 1#1
  let main_v18 : IVec S_ 1 := (fun x v => Host.reduce IntOp.andi x v reducesTo_S32x128x64x64_S_d0_1_2_3 h_S_) main_v17 main_c_6
  let main_v19 : IVec S_ 1 := andi main_v12 main_v18
  main_v19

def fn {F : FTy → Type} [FloatOps F] (main_arg0 : FVec F S32x128x512 .f32) (main_arg1 : FVec F S512x4096 .f32) (main_arg2 : FVec F S32x128x64x64 .f32) (main_arg3 : FVec F S32x128x64x64 .f32) (main_arg4 : FVec F S4096x512 .f32) : IVec S_ 1 :=
  let main_cst : FVec F S_ .f32 := constant S_ .f32 0x7F800000#32
  let main_v0 : FVec F S32x128x512 .f32 := broadcastInDim S32x128x512 ![] bcast_S_S32x128x512 main_cst
  let main_v1 : IVec S32x128x512 1 := cmpf .olt main_arg0 main_v0
  let main_cst_0 : FVec F S_ .f32 := constant S_ .f32 0xFF800000#32
  let main_v2 : FVec F S32x128x512 .f32 := broadcastInDim S32x128x512 ![] bcast_S_S32x128x512 main_cst_0
  let main_v3 : IVec S32x128x512 1 := cmpf .ogt main_arg0 main_v2
  let main_v4 : IVec S32x128x512 1 := andi main_v1 main_v3
  let main_c : IVec S_ 1 := constantI S_ 1 1#1
  let main_v5 : IVec S_ 1 := (fun x v => Host.reduce IntOp.andi x v reducesTo_S32x128x512_S_d0_1_2 h_S_) main_v4 main_c
  let main_cst_1 : FVec F S_ .f32 := constant S_ .f32 0x7F800000#32
  let main_v6 : FVec F S512x4096 .f32 := broadcastInDim S512x4096 ![] bcast_S_S512x4096 main_cst_1
  let main_v7 : IVec S512x4096 1 := cmpf .olt main_arg1 main_v6
  let main_cst_2 : FVec F S_ .f32 := constant S_ .f32 0xFF800000#32
  let main_v8 : FVec F S512x4096 .f32 := broadcastInDim S512x4096 ![] bcast_S_S512x4096 main_cst_2
  let main_v9 : IVec S512x4096 1 := cmpf .ogt main_arg1 main_v8
  let main_v10 : IVec S512x4096 1 := andi main_v7 main_v9
  let main_c_3 : IVec S_ 1 := constantI S_ 1 1#1
  let main_v11 : IVec S_ 1 := (fun x v => Host.reduce IntOp.andi x v reducesTo_S512x4096_S_d0_1 h_S_) main_v10 main_c_3
  let main_v12 : IVec S_ 1 := andi main_v5 main_v11
  let main_cst_4 : FVec F S_ .f32 := constant S_ .f32 0x7F800000#32
  let main_v13 : FVec F S32x128x64x64 .f32 := broadcastInDim S32x128x64x64 ![] bcast_S_S32x128x64x64 main_cst_4
  let main_v14 : IVec S32x128x64x64 1 := cmpf .olt main_arg2 main_v13
  let main_cst_5 : FVec F S_ .f32 := constant S_ .f32 0xFF800000#32
  let main_v15 : FVec F S32x128x64x64 .f32 := broadcastInDim S32x128x64x64 ![] bcast_S_S32x128x64x64 main_cst_5
  fn_part1 (F := F) main_arg2 main_v12 main_v14 main_v15
-- ==== Kernel.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S_ : Shape := ⟨0, ![]⟩
abbrev S2x128x64x64 : Shape := ⟨4, ![2, 128, 64, 64]⟩
abbrev S64x2x128x64 : Shape := ⟨4, ![64, 2, 128, 64]⟩
abbrev S16x512x256 : Shape := ⟨3, ![16, 512, 256]⟩
abbrev S16x256x512 : Shape := ⟨3, ![16, 256, 512]⟩
abbrev S16 : Shape := ⟨1, ![16]⟩
abbrev S4 : Shape := ⟨1, ![4]⟩
abbrev S256x256 : Shape := ⟨2, ![256, 256]⟩
abbrev S1 : Shape := ⟨1, ![1]⟩
abbrev S1x512x256 : Shape := ⟨3, ![1, 512, 256]⟩
abbrev S1x256x512 : Shape := ⟨3, ![1, 256, 512]⟩
abbrev S512x64 : Shape := ⟨2, ![512, 64]⟩
abbrev S256x64 : Shape := ⟨2, ![256, 64]⟩
abbrev S1x256x64 : Shape := ⟨3, ![1, 256, 64]⟩
abbrev S4x256x64 : Shape := ⟨3, ![4, 256, 64]⟩
abbrev S4x2x128x64 : Shape := ⟨4, ![4, 2, 128, 64]⟩
abbrev S4x256x256 : Shape := ⟨3, ![4, 256, 256]⟩
abbrev S1x256x256 : Shape := ⟨3, ![1, 256, 256]⟩
abbrev S4x256 : Shape := ⟨2, ![4, 256]⟩
abbrev S4x256x1 : Shape := ⟨3, ![4, 256, 1]⟩
abbrev S4x64x512 : Shape := ⟨3, ![4, 64, 512]⟩
abbrev S4x256x512 : Shape := ⟨3, ![4, 256, 512]⟩

abbrev nBuf : Space → Nat
  | .hbm => 38
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S32x128x64x64, .f32⟩
  | .hbm, ⟨3, _⟩ => ⟨S32x128x64x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x64x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x64x64, .f32⟩
  | .hbm, ⟨33, _⟩ => ⟨S64x2x128x64, .f32⟩
  | .hbm, ⟨34, _⟩ => ⟨S64x2x128x64, .f32⟩
  | .hbm, ⟨35, _⟩ => ⟨S512x256, .bf16⟩
  | .hbm, ⟨36, _⟩ => ⟨S256x512, .bf16⟩
  | .hbm, ⟨37, _⟩ => ⟨S2x128x512, .f32⟩
  | .local _ .vmem, ⟨0, _⟩ => ⟨S2x128x512, .f32⟩
  | .local _ .vmem, ⟨1, _⟩ => ⟨S512x256, .bf16⟩
  | .local _ .vmem, ⟨2, _⟩ => ⟨S64x2x128x64, .f32⟩
  | .local _ .vmem, ⟨3, _⟩ => ⟨S64x2x128x64, .f32⟩
  | .local _ .vmem, ⟨4, _⟩ => ⟨S256x512, .bf16⟩
  | .local _ .vmem, ⟨5, _⟩ => ⟨S2x128x512, .f32⟩
  | .local _ .vmem, ⟨6, _⟩ => ⟨S16x512x256, .bf16⟩
  | .local _ .vmem, ⟨7, _⟩ => ⟨S16x256x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_26 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_25 : BitVec 32 := 1#32
  let v46 : BitVec 32 := Scalar.muli v24 c1_i32_25
  let v47 : BitVec 32 := Scalar.addi c0_i32_26 v46
  v47.toNat
def k0_dev2 (d0 : Dev nD) : Nat :=
  let c0_i32_29 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_28 : BitVec 32 := 1#32
  let v48 : BitVec 32 := Scalar.muli v28 c1_i32_28
  let v49 : BitVec 32 := Scalar.addi c0_i32_29 v48
  v49.toNat
def k0_dev3 (d0 : Dev nD) : Nat :=
  let c0_i32_32 : BitVec 32 := 0#32
  let c4_i32_20 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_18 : BitVec 32 := 1#32
  let v38 : BitVec 32 := Scalar.addi v20 c1_i32_18
  let c4_i32_19 : BitVec 32 := 4#32
  let v39 : BitVec 32 := Scalar.remsi v38 c4_i32_19
  let v40 : BitVec 32 := Scalar.muli c4_i32_20 v39
  let c4_i32 : BitVec 32 := 4#32
  let v3 : BitVec 32 := Scalar.remsi v2 c4_i32
  let v41 : BitVec 32 := Scalar.addi v40 v3
  let c1_i32_31 : BitVec 32 := 1#32
  let v50 : BitVec 32 := Scalar.muli v41 c1_i32_31
  let v51 : BitVec 32 := Scalar.addi c0_i32_32 v50
  v51.toNat
def k0_dev4 (d0 : Dev nD) : Nat :=
  let c0_i32_35 : BitVec 32 := 0#32
  let c4_i32_23 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_21 : BitVec 32 := 3#32
  let v42 : BitVec 32 := Scalar.addi v20 c3_i32_21
  let c4_i32_22 : BitVec 32 := 4#32
  let v43 : BitVec 32 := Scalar.remsi v42 c4_i32_22
  let v44 : BitVec 32 := Scalar.muli c4_i32_23 v43
  let c4_i32 : BitVec 32 := 4#32
  let v3 : BitVec 32 := Scalar.remsi v2 c4_i32
  let v45 : BitVec 32 := Scalar.addi v44 v3
  let c1_i32_34 : BitVec 32 := 1#32
  let v52 : BitVec 32 := Scalar.muli v45 c1_i32_34
  let v53 : BitVec 32 := Scalar.addi c0_i32_35 v52
  v53.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_70 : BitVec 32 := 3#32
  let v165 : BitVec 1 := Scalar.cmpi .slt v20 c3_i32_70
  let v166 : BitVec 32 := Scalar.extui v165
  let c0_i32_71 : BitVec 32 := 0#32
  let v167 : BitVec 1 := Scalar.cmpi .ne v166 c0_i32_71
  v167

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  ![v20.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_444 : BitVec 32 := 0#32
  let c0_i32_445 : BitVec 32 := 0#32
  ![v2.toNat, 0, 0]
def k0_dev5 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_442 : BitVec 32 := 1#32
  let v560 : BitVec 32 := Scalar.muli v29 c1_i32_442
  let v561 : BitVec 32 := Scalar.addi c0_i32_443 v560
  v561.toNat
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_449 : BitVec 32 := 0#32
  ![v2.toNat, 0, 0]
def k0_dev6 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_446 : BitVec 32 := 1#32
  let v568 : BitVec 32 := Scalar.muli v29 c1_i32_446
  let v569 : BitVec 32 := Scalar.addi c0_i32_447 v568
  v569.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_72 : BitVec 32 := 0#32
  let v168 : BitVec 1 := Scalar.cmpi .sgt v20 c0_i32_72
  let v169 : BitVec 32 := Scalar.extui v168
  let c0_i32_73 : BitVec 32 := 0#32
  let v170 : BitVec 1 := Scalar.cmpi .ne v169 c0_i32_73
  v170

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  ![v20.toNat]
def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_444 : BitVec 32 := 0#32
  let c0_i32_445 : BitVec 32 := 0#32
  ![v2.toNat, 0, 0]
def k0_dev7 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_442 : BitVec 32 := 1#32
  let v560 : BitVec 32 := Scalar.muli v30 c1_i32_442
  let v561 : BitVec 32 := Scalar.addi c0_i32_443 v560
  v561.toNat
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_449 : BitVec 32 := 0#32
  ![v2.toNat, 0, 0]
def k0_dev8 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_446 : BitVec 32 := 1#32
  let v568 : BitVec 32 := Scalar.muli v30 c1_i32_446
  let v569 : BitVec 32 := Scalar.addi c0_i32_447 v568
  v569.toNat
def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  ![v20.toNat]
def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let c0_i32_77 : BitVec 32 := 0#32
  ![v2.toNat, 0, 0]
def k0_dev9 (d0 : Dev nD) : Nat :=
  let c0_i32_75 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_74 : BitVec 32 := 1#32
  let v171 : BitVec 32 := Scalar.muli v24 c1_i32_74
  let v172 : BitVec 32 := Scalar.addi c0_i32_75 v171
  v172.toNat
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_80 : BitVec 32 := 0#32
  let c0_i32_81 : BitVec 32 := 0#32
  ![v2.toNat, 0, 0]
def k0_dev10 (d0 : Dev nD) : Nat :=
  let c0_i32_79 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_78 : BitVec 32 := 1#32
  let v179 : BitVec 32 := Scalar.muli v24 c1_i32_78
  let v180 : BitVec 32 := Scalar.addi c0_i32_79 v179
  v180.toNat
def k0_dev11 (d0 : Dev nD) : Nat :=
  let c0_i32_83 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_82 : BitVec 32 := 1#32
  let v187 : BitVec 32 := Scalar.muli v28 c1_i32_82
  let v188 : BitVec 32 := Scalar.addi c0_i32_83 v187
  v188.toNat
def k0_dev12 (d0 : Dev nD) : Nat :=
  let c0_i32_87 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_86 : BitVec 32 := 1#32
  let v195 : BitVec 32 := Scalar.muli v28 c1_i32_86
  let v196 : BitVec 32 := Scalar.addi c0_i32_87 v195
  v196.toNat
def k0_off13 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_98 : BitVec 32 := 4#32
  let v220 : BitVec 32 := Scalar.muli v2 c4_i32_98
  let v221 : Index := Scalar.indexCast v220
  let c0_99 : Index := 0#32
  let c0_100 : Index := 0#32
  let c0_101 : Index := 0#32
  ![v221.toNat, 0, 0, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_120 : BitVec 32 := 1#32
  let v257 : BitVec 1 := Scalar.cmpi .sge v20 c1_i32_120
  let v258 : BitVec 32 := Scalar.extui v257
  let c0_i32_121 : BitVec 32 := 0#32
  let v259 : BitVec 1 := Scalar.cmpi .ne v258 c0_i32_121
  v259

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  ![v561.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  let c0_i32_446 : BitVec 32 := 0#32
  let c0_i32_447 : BitVec 32 := 0#32
  ![v561.toNat, 0, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_450 : BitVec 32 := 3#32
  let v570 : BitVec 1 := Scalar.cmpi .slt v20 c3_i32_450
  let v571 : BitVec 32 := Scalar.extui v570
  let c0_i32_451 : BitVec 32 := 0#32
  let v572 : BitVec 1 := Scalar.cmpi .ne v571 c0_i32_451
  v572

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  ![v560.toNat]
def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  ![v561.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  let c0_i32_516 : BitVec 32 := 0#32
  let c0_i32_517 : BitVec 32 := 0#32
  ![v561.toNat, 0, 0]
def k0_dev13 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_514 : BitVec 32 := 1#32
  let v680 : BitVec 32 := Scalar.muli v29 c1_i32_514
  let v681 : BitVec 32 := Scalar.addi c0_i32_515 v680
  v681.toNat
def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  ![v560.toNat]
def k0_dev14 (d0 : Dev nD) : Nat :=
  let c0_i32_453 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_452 : BitVec 32 := 1#32
  let v573 : BitVec 32 := Scalar.muli v24 c1_i32_452
  let v574 : BitVec 32 := Scalar.addi c0_i32_453 v573
  v574.toNat
def k0_dev15 (d0 : Dev nD) : Nat :=
  let c0_i32_459 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_458 : BitVec 32 := 1#32
  let v583 : BitVec 32 := Scalar.muli v28 c1_i32_458
  let v584 : BitVec 32 := Scalar.addi c0_i32_459 v583
  v584.toNat
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  let c0_i32_466 : BitVec 32 := 0#32
  let c0_i32_467 : BitVec 32 := 0#32
  ![v561.toNat, 0, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_470 : BitVec 32 := 3#32
  let v601 : BitVec 1 := Scalar.cmpi .slt v20 c3_i32_470
  let v602 : BitVec 32 := Scalar.extui v601
  let c0_i32_471 : BitVec 32 := 0#32
  let v603 : BitVec 1 := Scalar.cmpi .ne v602 c0_i32_471
  v603

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  ![v560.toNat]
def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  ![v561.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  let c0_i32_516 : BitVec 32 := 0#32
  let c0_i32_517 : BitVec 32 := 0#32
  ![v561.toNat, 0, 0]
def k0_dev16 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_514 : BitVec 32 := 1#32
  let v680 : BitVec 32 := Scalar.muli v29 c1_i32_514
  let v681 : BitVec 32 := Scalar.addi c0_i32_515 v680
  v681.toNat
def k0_dev17 (d0 : Dev nD) : Nat :=
  let c0_i32_473 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_472 : BitVec 32 := 1#32
  let v604 : BitVec 32 := Scalar.muli v24 c1_i32_472
  let v605 : BitVec 32 := Scalar.addi c0_i32_473 v604
  v605.toNat
def k0_dev18 (d0 : Dev nD) : Nat :=
  let c0_i32_479 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_478 : BitVec 32 := 1#32
  let v614 : BitVec 32 := Scalar.muli v28 c1_i32_478
  let v615 : BitVec 32 := Scalar.addi c0_i32_479 v614
  v615.toNat
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  let v624 : Index := Scalar.indexCast v561
  let c0_484 : Index := 0#32
  let c0_485 : Index := 0#32
  ![v624.toNat, 0, 0]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  let v627 : Index := Scalar.indexCast v561
  let c0_486 : Index := 0#32
  let c0_487 : Index := 0#32
  ![v627.toNat, 0, 0]
def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.subi v2 c4_i32_443
  let c4_i32_492 : BitVec 32 := 4#32
  let v643 : BitVec 32 := Scalar.muli v561 c4_i32_492
  let v644 : Index := Scalar.indexCast v643
  let c0_493 : Index := 0#32
  let c0_494 : Index := 0#32
  let c0_495 : Index := 0#32
  ![v644.toNat, 0, 0, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_122 : BitVec 32 := 1#32
  let v260 : BitVec 32 := Scalar.addi v20 c1_i32_122
  let c3_i32_123 : BitVec 32 := 3#32
  let v261 : BitVec 1 := Scalar.cmpi .sle v260 c3_i32_123
  let v262 : BitVec 32 := Scalar.extui v261
  let c0_i32_124 : BitVec 32 := 0#32
  let v263 : BitVec 1 := Scalar.cmpi .ne v262 c0_i32_124
  v263

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  ![v561.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  let c0_i32_446 : BitVec 32 := 0#32
  let c0_i32_447 : BitVec 32 := 0#32
  ![v561.toNat, 0, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_450 : BitVec 32 := 0#32
  let v570 : BitVec 1 := Scalar.cmpi .sgt v20 c0_i32_450
  let v571 : BitVec 32 := Scalar.extui v570
  let c0_i32_451 : BitVec 32 := 0#32
  let v572 : BitVec 1 := Scalar.cmpi .ne v571 c0_i32_451
  v572

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  ![v560.toNat]
def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  ![v561.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  let c0_i32_516 : BitVec 32 := 0#32
  let c0_i32_517 : BitVec 32 := 0#32
  ![v561.toNat, 0, 0]
def k0_dev19 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_514 : BitVec 32 := 1#32
  let v680 : BitVec 32 := Scalar.muli v30 c1_i32_514
  let v681 : BitVec 32 := Scalar.addi c0_i32_515 v680
  v681.toNat
def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  ![v560.toNat]
def k0_dev20 (d0 : Dev nD) : Nat :=
  let c0_i32_453 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_452 : BitVec 32 := 1#32
  let v573 : BitVec 32 := Scalar.muli v24 c1_i32_452
  let v574 : BitVec 32 := Scalar.addi c0_i32_453 v573
  v574.toNat
def k0_dev21 (d0 : Dev nD) : Nat :=
  let c0_i32_459 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_458 : BitVec 32 := 1#32
  let v583 : BitVec 32 := Scalar.muli v28 c1_i32_458
  let v584 : BitVec 32 := Scalar.addi c0_i32_459 v583
  v584.toNat
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  let c0_i32_466 : BitVec 32 := 0#32
  let c0_i32_467 : BitVec 32 := 0#32
  ![v561.toNat, 0, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_470 : BitVec 32 := 0#32
  let v601 : BitVec 1 := Scalar.cmpi .sgt v20 c0_i32_470
  let v602 : BitVec 32 := Scalar.extui v601
  let c0_i32_471 : BitVec 32 := 0#32
  let v603 : BitVec 1 := Scalar.cmpi .ne v602 c0_i32_471
  v603

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  ![v560.toNat]
def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  ![v561.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  let c0_i32_516 : BitVec 32 := 0#32
  let c0_i32_517 : BitVec 32 := 0#32
  ![v561.toNat, 0, 0]
def k0_dev22 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_514 : BitVec 32 := 1#32
  let v680 : BitVec 32 := Scalar.muli v30 c1_i32_514
  let v681 : BitVec 32 := Scalar.addi c0_i32_515 v680
  v681.toNat
def k0_dev23 (d0 : Dev nD) : Nat :=
  let c0_i32_473 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_472 : BitVec 32 := 1#32
  let v604 : BitVec 32 := Scalar.muli v24 c1_i32_472
  let v605 : BitVec 32 := Scalar.addi c0_i32_473 v604
  v605.toNat
def k0_dev24 (d0 : Dev nD) : Nat :=
  let c0_i32_479 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_478 : BitVec 32 := 1#32
  let v614 : BitVec 32 := Scalar.muli v28 c1_i32_478
  let v615 : BitVec 32 := Scalar.addi c0_i32_479 v614
  v615.toNat
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  let v624 : Index := Scalar.indexCast v561
  let c0_484 : Index := 0#32
  let c0_485 : Index := 0#32
  ![v624.toNat, 0, 0]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  let v627 : Index := Scalar.indexCast v561
  let c0_486 : Index := 0#32
  let c0_487 : Index := 0#32
  ![v627.toNat, 0, 0]
def k0_off39 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_443 : BitVec 32 := 4#32
  let v561 : BitVec 32 := Scalar.addi v2 c4_i32_443
  let c4_i32_492 : BitVec 32 := 4#32
  let v643 : BitVec 32 := Scalar.muli v561 c4_i32_492
  let v644 : Index := Scalar.indexCast v643
  let c0_493 : Index := 0#32
  let c0_494 : Index := 0#32
  let c0_495 : Index := 0#32
  ![v644.toNat, 0, 0, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_125 : BitVec 32 := 2#32
  let v264 : BitVec 1 := Scalar.cmpi .sge v20 c2_i32_125
  let v265 : BitVec 32 := Scalar.extui v264
  let c0_i32_126 : BitVec 32 := 0#32
  let v266 : BitVec 1 := Scalar.cmpi .ne v265 c0_i32_126
  v266

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  ![v561.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  let c0_i32_445 : BitVec 32 := 0#32
  let c0_i32_446 : BitVec 32 := 0#32
  ![v561.toNat, 0, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_449 : BitVec 32 := 3#32
  let v570 : BitVec 1 := Scalar.cmpi .slt v20 c3_i32_449
  let v571 : BitVec 32 := Scalar.extui v570
  let c0_i32_450 : BitVec 32 := 0#32
  let v572 : BitVec 1 := Scalar.cmpi .ne v571 c0_i32_450
  v572

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  ![v560.toNat]
def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  ![v561.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  let c0_i32_515 : BitVec 32 := 0#32
  let c0_i32_516 : BitVec 32 := 0#32
  ![v561.toNat, 0, 0]
def k0_dev25 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_513 : BitVec 32 := 1#32
  let v680 : BitVec 32 := Scalar.muli v29 c1_i32_513
  let v681 : BitVec 32 := Scalar.addi c0_i32_514 v680
  v681.toNat
def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  ![v560.toNat]
def k0_dev26 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_dev27 (d0 : Dev nD) : Nat :=
  let c0_i32_458 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_457 : BitVec 32 := 1#32
  let v583 : BitVec 32 := Scalar.muli v28 c1_i32_457
  let v584 : BitVec 32 := Scalar.addi c0_i32_458 v583
  v584.toNat
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  let c0_i32_465 : BitVec 32 := 0#32
  let c0_i32_466 : BitVec 32 := 0#32
  ![v561.toNat, 0, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_469 : BitVec 32 := 3#32
  let v601 : BitVec 1 := Scalar.cmpi .slt v20 c3_i32_469
  let v602 : BitVec 32 := Scalar.extui v601
  let c0_i32_470 : BitVec 32 := 0#32
  let v603 : BitVec 1 := Scalar.cmpi .ne v602 c0_i32_470
  v603

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  ![v560.toNat]
def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  ![v561.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  let c0_i32_515 : BitVec 32 := 0#32
  let c0_i32_516 : BitVec 32 := 0#32
  ![v561.toNat, 0, 0]
def k0_dev28 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_513 : BitVec 32 := 1#32
  let v680 : BitVec 32 := Scalar.muli v29 c1_i32_513
  let v681 : BitVec 32 := Scalar.addi c0_i32_514 v680
  v681.toNat
def k0_dev29 (d0 : Dev nD) : Nat :=
  let c0_i32_472 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_471 : BitVec 32 := 1#32
  let v604 : BitVec 32 := Scalar.muli v24 c1_i32_471
  let v605 : BitVec 32 := Scalar.addi c0_i32_472 v604
  v605.toNat
def k0_dev30 (d0 : Dev nD) : Nat :=
  let c0_i32_478 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_477 : BitVec 32 := 1#32
  let v614 : BitVec 32 := Scalar.muli v28 c1_i32_477
  let v615 : BitVec 32 := Scalar.addi c0_i32_478 v614
  v615.toNat
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  let v624 : Index := Scalar.indexCast v561
  let c0_483 : Index := 0#32
  let c0_484 : Index := 0#32
  ![v624.toNat, 0, 0]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  let v627 : Index := Scalar.indexCast v561
  let c0_485 : Index := 0#32
  let c0_486 : Index := 0#32
  ![v627.toNat, 0, 0]
def k0_off52 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.subi v2 c8_i32
  let c4_i32_491 : BitVec 32 := 4#32
  let v643 : BitVec 32 := Scalar.muli v561 c4_i32_491
  let v644 : Index := Scalar.indexCast v643
  let c0_492 : Index := 0#32
  let c0_493 : Index := 0#32
  let c0_494 : Index := 0#32
  ![v644.toNat, 0, 0, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_127 : BitVec 32 := 2#32
  let v267 : BitVec 32 := Scalar.addi v20 c2_i32_127
  let c3_i32_128 : BitVec 32 := 3#32
  let v268 : BitVec 1 := Scalar.cmpi .sle v267 c3_i32_128
  let v269 : BitVec 32 := Scalar.extui v268
  let c0_i32_129 : BitVec 32 := 0#32
  let v270 : BitVec 1 := Scalar.cmpi .ne v269 c0_i32_129
  v270

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  ![v561.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  let c0_i32_445 : BitVec 32 := 0#32
  let c0_i32_446 : BitVec 32 := 0#32
  ![v561.toNat, 0, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_449 : BitVec 32 := 0#32
  let v570 : BitVec 1 := Scalar.cmpi .sgt v20 c0_i32_449
  let v571 : BitVec 32 := Scalar.extui v570
  let c0_i32_450 : BitVec 32 := 0#32
  let v572 : BitVec 1 := Scalar.cmpi .ne v571 c0_i32_450
  v572

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  ![v560.toNat]
def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  ![v561.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  let c0_i32_515 : BitVec 32 := 0#32
  let c0_i32_516 : BitVec 32 := 0#32
  ![v561.toNat, 0, 0]
def k0_dev31 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_513 : BitVec 32 := 1#32
  let v680 : BitVec 32 := Scalar.muli v30 c1_i32_513
  let v681 : BitVec 32 := Scalar.addi c0_i32_514 v680
  v681.toNat
def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  ![v560.toNat]
def k0_dev32 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_dev33 (d0 : Dev nD) : Nat :=
  let c0_i32_458 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_457 : BitVec 32 := 1#32
  let v583 : BitVec 32 := Scalar.muli v28 c1_i32_457
  let v584 : BitVec 32 := Scalar.addi c0_i32_458 v583
  v584.toNat
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  let c0_i32_465 : BitVec 32 := 0#32
  let c0_i32_466 : BitVec 32 := 0#32
  ![v561.toNat, 0, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_469 : BitVec 32 := 0#32
  let v601 : BitVec 1 := Scalar.cmpi .sgt v20 c0_i32_469
  let v602 : BitVec 32 := Scalar.extui v601
  let c0_i32_470 : BitVec 32 := 0#32
  let v603 : BitVec 1 := Scalar.cmpi .ne v602 c0_i32_470
  v603

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  ![v560.toNat]
def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  ![v561.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  let c0_i32_515 : BitVec 32 := 0#32
  let c0_i32_516 : BitVec 32 := 0#32
  ![v561.toNat, 0, 0]
def k0_dev34 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_513 : BitVec 32 := 1#32
  let v680 : BitVec 32 := Scalar.muli v30 c1_i32_513
  let v681 : BitVec 32 := Scalar.addi c0_i32_514 v680
  v681.toNat
def k0_dev35 (d0 : Dev nD) : Nat :=
  let c0_i32_472 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_471 : BitVec 32 := 1#32
  let v604 : BitVec 32 := Scalar.muli v24 c1_i32_471
  let v605 : BitVec 32 := Scalar.addi c0_i32_472 v604
  v605.toNat
def k0_dev36 (d0 : Dev nD) : Nat :=
  let c0_i32_478 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_477 : BitVec 32 := 1#32
  let v614 : BitVec 32 := Scalar.muli v28 c1_i32_477
  let v615 : BitVec 32 := Scalar.addi c0_i32_478 v614
  v615.toNat
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  let v624 : Index := Scalar.indexCast v561
  let c0_483 : Index := 0#32
  let c0_484 : Index := 0#32
  ![v624.toNat, 0, 0]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  let v627 : Index := Scalar.indexCast v561
  let c0_485 : Index := 0#32
  let c0_486 : Index := 0#32
  ![v627.toNat, 0, 0]
def k0_off65 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v561 : BitVec 32 := Scalar.addi v2 c8_i32
  let c4_i32_491 : BitVec 32 := 4#32
  let v643 : BitVec 32 := Scalar.muli v561 c4_i32_491
  let v644 : Index := Scalar.indexCast v643
  let c0_492 : Index := 0#32
  let c0_493 : Index := 0#32
  let c0_494 : Index := 0#32
  ![v644.toNat, 0, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_130 : BitVec 32 := 3#32
  let v271 : BitVec 1 := Scalar.cmpi .sge v20 c3_i32_130
  let v272 : BitVec 32 := Scalar.extui v271
  let c0_i32_131 : BitVec 32 := 0#32
  let v273 : BitVec 1 := Scalar.cmpi .ne v272 c0_i32_131
  v273

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  ![v561.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  let c0_i32_445 : BitVec 32 := 0#32
  let c0_i32_446 : BitVec 32 := 0#32
  ![v561.toNat, 0, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_449 : BitVec 32 := 3#32
  let v570 : BitVec 1 := Scalar.cmpi .slt v20 c3_i32_449
  let v571 : BitVec 32 := Scalar.extui v570
  let c0_i32_450 : BitVec 32 := 0#32
  let v572 : BitVec 1 := Scalar.cmpi .ne v571 c0_i32_450
  v572

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  ![v560.toNat]
def k0_off69 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  ![v561.toNat]
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  let c0_i32_515 : BitVec 32 := 0#32
  let c0_i32_516 : BitVec 32 := 0#32
  ![v561.toNat, 0, 0]
def k0_dev37 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_513 : BitVec 32 := 1#32
  let v680 : BitVec 32 := Scalar.muli v29 c1_i32_513
  let v681 : BitVec 32 := Scalar.addi c0_i32_514 v680
  v681.toNat
def k0_off71 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  ![v560.toNat]
def k0_dev38 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_dev39 (d0 : Dev nD) : Nat :=
  let c0_i32_458 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_457 : BitVec 32 := 1#32
  let v583 : BitVec 32 := Scalar.muli v28 c1_i32_457
  let v584 : BitVec 32 := Scalar.addi c0_i32_458 v583
  v584.toNat
def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  let c0_i32_465 : BitVec 32 := 0#32
  let c0_i32_466 : BitVec 32 := 0#32
  ![v561.toNat, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_469 : BitVec 32 := 3#32
  let v601 : BitVec 1 := Scalar.cmpi .slt v20 c3_i32_469
  let v602 : BitVec 32 := Scalar.extui v601
  let c0_i32_470 : BitVec 32 := 0#32
  let v603 : BitVec 1 := Scalar.cmpi .ne v602 c0_i32_470
  v603

def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  ![v560.toNat]
def k0_off74 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  ![v561.toNat]
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  let c0_i32_515 : BitVec 32 := 0#32
  let c0_i32_516 : BitVec 32 := 0#32
  ![v561.toNat, 0, 0]
def k0_dev40 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c1_i32_513 : BitVec 32 := 1#32
  let v680 : BitVec 32 := Scalar.muli v29 c1_i32_513
  let v681 : BitVec 32 := Scalar.addi c0_i32_514 v680
  v681.toNat
def k0_dev41 (d0 : Dev nD) : Nat :=
  let c0_i32_472 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_471 : BitVec 32 := 1#32
  let v604 : BitVec 32 := Scalar.muli v24 c1_i32_471
  let v605 : BitVec 32 := Scalar.addi c0_i32_472 v604
  v605.toNat
def k0_dev42 (d0 : Dev nD) : Nat :=
  let c0_i32_478 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_477 : BitVec 32 := 1#32
  let v614 : BitVec 32 := Scalar.muli v28 c1_i32_477
  let v615 : BitVec 32 := Scalar.addi c0_i32_478 v614
  v615.toNat
def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  let v624 : Index := Scalar.indexCast v561
  let c0_483 : Index := 0#32
  let c0_484 : Index := 0#32
  ![v624.toNat, 0, 0]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  let v627 : Index := Scalar.indexCast v561
  let c0_485 : Index := 0#32
  let c0_486 : Index := 0#32
  ![v627.toNat, 0, 0]
def k0_off78 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.subi v2 c12_i32
  let c4_i32_491 : BitVec 32 := 4#32
  let v643 : BitVec 32 := Scalar.muli v561 c4_i32_491
  let v644 : Index := Scalar.indexCast v643
  let c0_492 : Index := 0#32
  let c0_493 : Index := 0#32
  let c0_494 : Index := 0#32
  ![v644.toNat, 0, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_132 : BitVec 32 := 3#32
  let v274 : BitVec 32 := Scalar.addi v20 c3_i32_132
  let c3_i32_133 : BitVec 32 := 3#32
  let v275 : BitVec 1 := Scalar.cmpi .sle v274 c3_i32_133
  let v276 : BitVec 32 := Scalar.extui v275
  let c0_i32_134 : BitVec 32 := 0#32
  let v277 : BitVec 1 := Scalar.cmpi .ne v276 c0_i32_134
  v277

def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  ![v561.toNat]
def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  let c0_i32_445 : BitVec 32 := 0#32
  let c0_i32_446 : BitVec 32 := 0#32
  ![v561.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_449 : BitVec 32 := 0#32
  let v570 : BitVec 1 := Scalar.cmpi .sgt v20 c0_i32_449
  let v571 : BitVec 32 := Scalar.extui v570
  let c0_i32_450 : BitVec 32 := 0#32
  let v572 : BitVec 1 := Scalar.cmpi .ne v571 c0_i32_450
  v572

def k0_off81 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  ![v560.toNat]
def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  ![v561.toNat]
def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  let c0_i32_515 : BitVec 32 := 0#32
  let c0_i32_516 : BitVec 32 := 0#32
  ![v561.toNat, 0, 0]
def k0_dev43 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_513 : BitVec 32 := 1#32
  let v680 : BitVec 32 := Scalar.muli v30 c1_i32_513
  let v681 : BitVec 32 := Scalar.addi c0_i32_514 v680
  v681.toNat
def k0_off84 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  ![v560.toNat]
def k0_dev44 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_dev45 (d0 : Dev nD) : Nat :=
  let c0_i32_458 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_457 : BitVec 32 := 1#32
  let v583 : BitVec 32 := Scalar.muli v28 c1_i32_457
  let v584 : BitVec 32 := Scalar.addi c0_i32_458 v583
  v584.toNat
def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  let c0_i32_465 : BitVec 32 := 0#32
  let c0_i32_466 : BitVec 32 := 0#32
  ![v561.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_469 : BitVec 32 := 0#32
  let v601 : BitVec 1 := Scalar.cmpi .sgt v20 c0_i32_469
  let v602 : BitVec 32 := Scalar.extui v601
  let c0_i32_470 : BitVec 32 := 0#32
  let v603 : BitVec 1 := Scalar.cmpi .ne v602 c0_i32_470
  v603

def k0_off86 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  ![v560.toNat]
def k0_off87 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  ![v561.toNat]
def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  let c0_i32_515 : BitVec 32 := 0#32
  let c0_i32_516 : BitVec 32 := 0#32
  ![v561.toNat, 0, 0]
def k0_dev46 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v30 : BitVec 32 := Scalar.subi v2 c4_i32_12
  let c1_i32_513 : BitVec 32 := 1#32
  let v680 : BitVec 32 := Scalar.muli v30 c1_i32_513
  let v681 : BitVec 32 := Scalar.addi c0_i32_514 v680
  v681.toNat
def k0_dev47 (d0 : Dev nD) : Nat :=
  let c0_i32_472 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_471 : BitVec 32 := 1#32
  let v604 : BitVec 32 := Scalar.muli v24 c1_i32_471
  let v605 : BitVec 32 := Scalar.addi c0_i32_472 v604
  v605.toNat
def k0_dev48 (d0 : Dev nD) : Nat :=
  let c0_i32_478 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_477 : BitVec 32 := 1#32
  let v614 : BitVec 32 := Scalar.muli v28 c1_i32_477
  let v615 : BitVec 32 := Scalar.addi c0_i32_478 v614
  v615.toNat
def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  let v624 : Index := Scalar.indexCast v561
  let c0_483 : Index := 0#32
  let c0_484 : Index := 0#32
  ![v624.toNat, 0, 0]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  let v627 : Index := Scalar.indexCast v561
  let c0_485 : Index := 0#32
  let c0_486 : Index := 0#32
  ![v627.toNat, 0, 0]
def k0_off91 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v561 : BitVec 32 := Scalar.addi v2 c12_i32
  let c4_i32_491 : BitVec 32 := 4#32
  let v643 : BitVec 32 := Scalar.muli v561 c4_i32_491
  let v644 : Index := Scalar.indexCast v643
  let c0_492 : Index := 0#32
  let c0_493 : Index := 0#32
  let c0_494 : Index := 0#32
  ![v644.toNat, 0, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_135 : BitVec 32 := 0#32
  let v278 : BitVec 32 := Scalar.addi v20 c0_i32_135
  let c0_i32_136 : BitVec 32 := 0#32
  let v279 : BitVec 1 := Scalar.cmpi .sge v278 c0_i32_136
  let c0_i32_137 : BitVec 32 := 0#32
  let v280 : BitVec 32 := Scalar.addi v20 c0_i32_137
  let c3_i32_138 : BitVec 32 := 3#32
  let v281 : BitVec 1 := Scalar.cmpi .sle v280 c3_i32_138
  let v282 : BitVec 1 := Scalar.andi v279 v281
  let v283 : BitVec 32 := Scalar.extui v282
  let c0_i32_139 : BitVec 32 := 0#32
  let v284 : BitVec 1 := Scalar.cmpi .ne v283 c0_i32_139
  v284

def k0_off92 (d0 : Dev nD) (c3_i32_13 : BitVec 32) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  ![v562.toNat]
def k0_off93 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_447 : BitVec 32 := 0#32
  let c0_i32_448 : BitVec 32 := 0#32
  ![v562.toNat, 0, 0]
def k0_off94 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  ![v560.toNat]
def k0_dev49 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_off95 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_465 : BitVec 32 := 0#32
  let c0_i32_466 : BitVec 32 := 0#32
  ![v562.toNat, 0, 0]
def k0_dev50 (d0 : Dev nD) : Nat :=
  let c0_i32_476 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_475 : BitVec 32 := 1#32
  let v607 : BitVec 32 := Scalar.muli v28 c1_i32_475
  let v608 : BitVec 32 := Scalar.addi c0_i32_476 v607
  v608.toNat
def k0_off96 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v617 : Index := Scalar.indexCast v562
  let c0_481 : Index := 0#32
  let c0_482 : Index := 0#32
  ![v617.toNat, 0, 0]
def k0_off97 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v620 : Index := Scalar.indexCast v562
  let c0_483 : Index := 0#32
  let c0_484 : Index := 0#32
  ![v620.toNat, 0, 0]
def k0_off98 (d0 : Dev nD) (c3_i32_13 : BitVec 32) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c4_i32_489 : BitVec 32 := 4#32
  let v636 : BitVec 32 := Scalar.muli v562 c4_i32_489
  let v637 : Index := Scalar.indexCast v636
  let c0_490 : Index := 0#32
  let c0_491 : Index := 0#32
  let c0_492 : Index := 0#32
  ![v637.toNat, 0, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32 : BitVec 32 := 4294967295#32
  let v285 : BitVec 32 := Scalar.addi v20 c_m1_i32
  let c0_i32_140 : BitVec 32 := 0#32
  let v286 : BitVec 1 := Scalar.cmpi .sge v285 c0_i32_140
  let c_m1_i32_141 : BitVec 32 := 4294967295#32
  let v287 : BitVec 32 := Scalar.addi v20 c_m1_i32_141
  let c3_i32_142 : BitVec 32 := 3#32
  let v288 : BitVec 1 := Scalar.cmpi .sle v287 c3_i32_142
  let v289 : BitVec 1 := Scalar.andi v286 v288
  let v290 : BitVec 32 := Scalar.extui v289
  let c0_i32_143 : BitVec 32 := 0#32
  let v291 : BitVec 1 := Scalar.cmpi .ne v290 c0_i32_143
  v291

def k0_off99 (d0 : Dev nD) (c3_i32_13 : BitVec 32) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  ![v562.toNat]
def k0_off100 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_447 : BitVec 32 := 0#32
  let c0_i32_448 : BitVec 32 := 0#32
  ![v562.toNat, 0, 0]
def k0_off101 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  ![v560.toNat]
def k0_dev51 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_off102 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_465 : BitVec 32 := 0#32
  let c0_i32_466 : BitVec 32 := 0#32
  ![v562.toNat, 0, 0]
def k0_dev52 (d0 : Dev nD) : Nat :=
  let c0_i32_476 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_475 : BitVec 32 := 1#32
  let v607 : BitVec 32 := Scalar.muli v28 c1_i32_475
  let v608 : BitVec 32 := Scalar.addi c0_i32_476 v607
  v608.toNat
def k0_off103 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v617 : Index := Scalar.indexCast v562
  let c0_481 : Index := 0#32
  let c0_482 : Index := 0#32
  ![v617.toNat, 0, 0]
def k0_off104 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v620 : Index := Scalar.indexCast v562
  let c0_483 : Index := 0#32
  let c0_484 : Index := 0#32
  ![v620.toNat, 0, 0]
def k0_off105 (d0 : Dev nD) (c3_i32_13 : BitVec 32) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c4_i32_489 : BitVec 32 := 4#32
  let v636 : BitVec 32 := Scalar.muli v562 c4_i32_489
  let v637 : Index := Scalar.indexCast v636
  let c0_490 : Index := 0#32
  let c0_491 : Index := 0#32
  let c0_492 : Index := 0#32
  ![v637.toNat, 0, 0, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32 : BitVec 32 := 4294967294#32
  let v292 : BitVec 32 := Scalar.addi v20 c_m2_i32
  let c0_i32_144 : BitVec 32 := 0#32
  let v293 : BitVec 1 := Scalar.cmpi .sge v292 c0_i32_144
  let c_m2_i32_145 : BitVec 32 := 4294967294#32
  let v294 : BitVec 32 := Scalar.addi v20 c_m2_i32_145
  let c3_i32_146 : BitVec 32 := 3#32
  let v295 : BitVec 1 := Scalar.cmpi .sle v294 c3_i32_146
  let v296 : BitVec 1 := Scalar.andi v293 v295
  let v297 : BitVec 32 := Scalar.extui v296
  let c0_i32_147 : BitVec 32 := 0#32
  let v298 : BitVec 1 := Scalar.cmpi .ne v297 c0_i32_147
  v298

def k0_off106 (d0 : Dev nD) (c3_i32_13 : BitVec 32) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  ![v562.toNat]
def k0_off107 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_447 : BitVec 32 := 0#32
  let c0_i32_448 : BitVec 32 := 0#32
  ![v562.toNat, 0, 0]
def k0_off108 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  ![v560.toNat]
def k0_dev53 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_off109 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_465 : BitVec 32 := 0#32
  let c0_i32_466 : BitVec 32 := 0#32
  ![v562.toNat, 0, 0]
def k0_dev54 (d0 : Dev nD) : Nat :=
  let c0_i32_476 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_475 : BitVec 32 := 1#32
  let v607 : BitVec 32 := Scalar.muli v28 c1_i32_475
  let v608 : BitVec 32 := Scalar.addi c0_i32_476 v607
  v608.toNat
def k0_off110 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v617 : Index := Scalar.indexCast v562
  let c0_481 : Index := 0#32
  let c0_482 : Index := 0#32
  ![v617.toNat, 0, 0]
def k0_off111 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v620 : Index := Scalar.indexCast v562
  let c0_483 : Index := 0#32
  let c0_484 : Index := 0#32
  ![v620.toNat, 0, 0]
def k0_off112 (d0 : Dev nD) (c3_i32_13 : BitVec 32) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c4_i32_489 : BitVec 32 := 4#32
  let v636 : BitVec 32 := Scalar.muli v562 c4_i32_489
  let v637 : Index := Scalar.indexCast v636
  let c0_490 : Index := 0#32
  let c0_491 : Index := 0#32
  let c0_492 : Index := 0#32
  ![v637.toNat, 0, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32 : BitVec 32 := 4294967293#32
  let v299 : BitVec 32 := Scalar.addi v20 c_m3_i32
  let c0_i32_148 : BitVec 32 := 0#32
  let v300 : BitVec 1 := Scalar.cmpi .sge v299 c0_i32_148
  let c_m3_i32_149 : BitVec 32 := 4294967293#32
  let v301 : BitVec 32 := Scalar.addi v20 c_m3_i32_149
  let c3_i32_150 : BitVec 32 := 3#32
  let v302 : BitVec 1 := Scalar.cmpi .sle v301 c3_i32_150
  let v303 : BitVec 1 := Scalar.andi v300 v302
  let v304 : BitVec 32 := Scalar.extui v303
  let c0_i32_151 : BitVec 32 := 0#32
  let v305 : BitVec 1 := Scalar.cmpi .ne v304 c0_i32_151
  v305

def k0_off113 (d0 : Dev nD) (c3_i32_13 : BitVec 32) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  ![v562.toNat]
def k0_off114 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_447 : BitVec 32 := 0#32
  let c0_i32_448 : BitVec 32 := 0#32
  ![v562.toNat, 0, 0]
def k0_off115 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  ![v560.toNat]
def k0_dev55 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_off116 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_465 : BitVec 32 := 0#32
  let c0_i32_466 : BitVec 32 := 0#32
  ![v562.toNat, 0, 0]
def k0_dev56 (d0 : Dev nD) : Nat :=
  let c0_i32_476 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_475 : BitVec 32 := 1#32
  let v607 : BitVec 32 := Scalar.muli v28 c1_i32_475
  let v608 : BitVec 32 := Scalar.addi c0_i32_476 v607
  v608.toNat
def k0_off117 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v617 : Index := Scalar.indexCast v562
  let c0_481 : Index := 0#32
  let c0_482 : Index := 0#32
  ![v617.toNat, 0, 0]
def k0_off118 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v620 : Index := Scalar.indexCast v562
  let c0_483 : Index := 0#32
  let c0_484 : Index := 0#32
  ![v620.toNat, 0, 0]
def k0_off119 (d0 : Dev nD) (c3_i32_13 : BitVec 32) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c4_i32_489 : BitVec 32 := 4#32
  let v636 : BitVec 32 := Scalar.muli v562 c4_i32_489
  let v637 : Index := Scalar.indexCast v636
  let c0_490 : Index := 0#32
  let c0_491 : Index := 0#32
  let c0_492 : Index := 0#32
  ![v637.toNat, 0, 0, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_152 : BitVec 32 := 1#32
  let v306 : BitVec 32 := Scalar.addi v20 c1_i32_152
  let c0_i32_153 : BitVec 32 := 0#32
  let v307 : BitVec 1 := Scalar.cmpi .sge v306 c0_i32_153
  let c1_i32_154 : BitVec 32 := 1#32
  let v308 : BitVec 32 := Scalar.addi v20 c1_i32_154
  let c3_i32_155 : BitVec 32 := 3#32
  let v309 : BitVec 1 := Scalar.cmpi .sle v308 c3_i32_155
  let v310 : BitVec 1 := Scalar.andi v307 v309
  let v311 : BitVec 32 := Scalar.extui v310
  let c0_i32_156 : BitVec 32 := 0#32
  let v312 : BitVec 1 := Scalar.cmpi .ne v311 c0_i32_156
  v312

def k0_off120 (d0 : Dev nD) (c3_i32_13 : BitVec 32) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  ![v562.toNat]
def k0_off121 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_447 : BitVec 32 := 0#32
  let c0_i32_448 : BitVec 32 := 0#32
  ![v562.toNat, 0, 0]
def k0_off122 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  ![v560.toNat]
def k0_dev57 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_off123 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_465 : BitVec 32 := 0#32
  let c0_i32_466 : BitVec 32 := 0#32
  ![v562.toNat, 0, 0]
def k0_dev58 (d0 : Dev nD) : Nat :=
  let c0_i32_476 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_475 : BitVec 32 := 1#32
  let v607 : BitVec 32 := Scalar.muli v28 c1_i32_475
  let v608 : BitVec 32 := Scalar.addi c0_i32_476 v607
  v608.toNat
def k0_off124 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v617 : Index := Scalar.indexCast v562
  let c0_481 : Index := 0#32
  let c0_482 : Index := 0#32
  ![v617.toNat, 0, 0]
def k0_off125 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v620 : Index := Scalar.indexCast v562
  let c0_483 : Index := 0#32
  let c0_484 : Index := 0#32
  ![v620.toNat, 0, 0]
def k0_off126 (d0 : Dev nD) (c3_i32_13 : BitVec 32) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c4_i32_489 : BitVec 32 := 4#32
  let v636 : BitVec 32 := Scalar.muli v562 c4_i32_489
  let v637 : Index := Scalar.indexCast v636
  let c0_490 : Index := 0#32
  let c0_491 : Index := 0#32
  let c0_492 : Index := 0#32
  ![v637.toNat, 0, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_157 : BitVec 32 := 2#32
  let v313 : BitVec 32 := Scalar.addi v20 c2_i32_157
  let c0_i32_158 : BitVec 32 := 0#32
  let v314 : BitVec 1 := Scalar.cmpi .sge v313 c0_i32_158
  let c2_i32_159 : BitVec 32 := 2#32
  let v315 : BitVec 32 := Scalar.addi v20 c2_i32_159
  let c3_i32_160 : BitVec 32 := 3#32
  let v316 : BitVec 1 := Scalar.cmpi .sle v315 c3_i32_160
  let v317 : BitVec 1 := Scalar.andi v314 v316
  let v318 : BitVec 32 := Scalar.extui v317
  let c0_i32_161 : BitVec 32 := 0#32
  let v319 : BitVec 1 := Scalar.cmpi .ne v318 c0_i32_161
  v319

def k0_off127 (d0 : Dev nD) (c3_i32_13 : BitVec 32) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  ![v562.toNat]
def k0_off128 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_447 : BitVec 32 := 0#32
  let c0_i32_448 : BitVec 32 := 0#32
  ![v562.toNat, 0, 0]
def k0_off129 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  ![v560.toNat]
def k0_dev59 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_off130 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_465 : BitVec 32 := 0#32
  let c0_i32_466 : BitVec 32 := 0#32
  ![v562.toNat, 0, 0]
def k0_dev60 (d0 : Dev nD) : Nat :=
  let c0_i32_476 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_475 : BitVec 32 := 1#32
  let v607 : BitVec 32 := Scalar.muli v28 c1_i32_475
  let v608 : BitVec 32 := Scalar.addi c0_i32_476 v607
  v608.toNat
def k0_off131 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v617 : Index := Scalar.indexCast v562
  let c0_481 : Index := 0#32
  let c0_482 : Index := 0#32
  ![v617.toNat, 0, 0]
def k0_off132 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v620 : Index := Scalar.indexCast v562
  let c0_483 : Index := 0#32
  let c0_484 : Index := 0#32
  ![v620.toNat, 0, 0]
def k0_off133 (d0 : Dev nD) (c3_i32_13 : BitVec 32) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c4_i32_489 : BitVec 32 := 4#32
  let v636 : BitVec 32 := Scalar.muli v562 c4_i32_489
  let v637 : Index := Scalar.indexCast v636
  let c0_490 : Index := 0#32
  let c0_491 : Index := 0#32
  let c0_492 : Index := 0#32
  ![v637.toNat, 0, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_162 : BitVec 32 := 3#32
  let v320 : BitVec 32 := Scalar.addi v20 c3_i32_162
  let c0_i32_163 : BitVec 32 := 0#32
  let v321 : BitVec 1 := Scalar.cmpi .sge v320 c0_i32_163
  let c3_i32_164 : BitVec 32 := 3#32
  let v322 : BitVec 32 := Scalar.addi v20 c3_i32_164
  let c3_i32_165 : BitVec 32 := 3#32
  let v323 : BitVec 1 := Scalar.cmpi .sle v322 c3_i32_165
  let v324 : BitVec 1 := Scalar.andi v321 v323
  let v325 : BitVec 32 := Scalar.extui v324
  let c0_i32_166 : BitVec 32 := 0#32
  let v326 : BitVec 1 := Scalar.cmpi .ne v325 c0_i32_166
  v326

def k0_off134 (d0 : Dev nD) (c3_i32_13 : BitVec 32) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  ![v562.toNat]
def k0_off135 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_447 : BitVec 32 := 0#32
  let c0_i32_448 : BitVec 32 := 0#32
  ![v562.toNat, 0, 0]
def k0_off136 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  ![v560.toNat]
def k0_dev61 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v573 : BitVec 32 := Scalar.muli v24 c1_i32_451
  let v574 : BitVec 32 := Scalar.addi c0_i32_452 v573
  v574.toNat
def k0_off137 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c0_i32_465 : BitVec 32 := 0#32
  let c0_i32_466 : BitVec 32 := 0#32
  ![v562.toNat, 0, 0]
def k0_dev62 (d0 : Dev nD) : Nat :=
  let c0_i32_476 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_475 : BitVec 32 := 1#32
  let v607 : BitVec 32 := Scalar.muli v28 c1_i32_475
  let v608 : BitVec 32 := Scalar.addi c0_i32_476 v607
  v608.toNat
def k0_off138 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v617 : Index := Scalar.indexCast v562
  let c0_481 : Index := 0#32
  let c0_482 : Index := 0#32
  ![v617.toNat, 0, 0]
def k0_off139 (d0 : Dev nD) (c3_i32_13 : BitVec 32) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let v620 : Index := Scalar.indexCast v562
  let c0_483 : Index := 0#32
  let c0_484 : Index := 0#32
  ![v620.toNat, 0, 0]
def k0_off140 (d0 : Dev nD) (c3_i32_13 : BitVec 32) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let v31 : BitVec 32 := Scalar.addi v3 c3_i32_13
  let c4_i32_14 : BitVec 32 := 4#32
  let v32 : BitVec 32 := Scalar.remsi v31 c4_i32_14
  let v562 : BitVec 32 := Scalar.addi v561 v32
  let c4_i32_489 : BitVec 32 := 4#32
  let v636 : BitVec 32 := Scalar.muli v562 c4_i32_489
  let v637 : Index := Scalar.indexCast v636
  let c0_490 : Index := 0#32
  let c0_491 : Index := 0#32
  let c0_492 : Index := 0#32
  ![v637.toNat, 0, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_167 : BitVec 32 := 0#32
  let v327 : BitVec 32 := Scalar.addi v20 c0_i32_167
  let c0_i32_168 : BitVec 32 := 0#32
  let v328 : BitVec 1 := Scalar.cmpi .sge v327 c0_i32_168
  let c0_i32_169 : BitVec 32 := 0#32
  let v329 : BitVec 32 := Scalar.addi v20 c0_i32_169
  let c3_i32_170 : BitVec 32 := 3#32
  let v330 : BitVec 1 := Scalar.cmpi .sle v329 c3_i32_170
  let v331 : BitVec 1 := Scalar.andi v328 v330
  let v332 : BitVec 32 := Scalar.extui v331
  let c0_i32_171 : BitVec 32 := 0#32
  let v333 : BitVec 1 := Scalar.cmpi .ne v332 c0_i32_171
  v333

def k0_off141 (d0 : Dev nD) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  ![v562.toNat]
def k0_off142 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_446 : BitVec 32 := 0#32
  let c0_i32_447 : BitVec 32 := 0#32
  ![v562.toNat, 0, 0]
def k0_off143 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_452 : BitVec 32 := 0#32
  let c0_i32_453 : BitVec 32 := 0#32
  ![v562.toNat, 0, 0]
def k0_off144 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v579 : Index := Scalar.indexCast v562
  let c0_456 : Index := 0#32
  let c0_457 : Index := 0#32
  ![v579.toNat, 0, 0]
def k0_off145 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v582 : Index := Scalar.indexCast v562
  let c0_458 : Index := 0#32
  let c0_459 : Index := 0#32
  ![v582.toNat, 0, 0]
def k0_off146 (d0 : Dev nD) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_442 : BitVec 32 := 0#32
  let v560 : BitVec 32 := Scalar.addi v20 c0_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c4_i32_464 : BitVec 32 := 4#32
  let v598 : BitVec 32 := Scalar.muli v562 c4_i32_464
  let v599 : Index := Scalar.indexCast v598
  let c0_465 : Index := 0#32
  let c0_466 : Index := 0#32
  let c0_467 : Index := 0#32
  ![v599.toNat, 0, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m1_i32_172 : BitVec 32 := 4294967295#32
  let v334 : BitVec 32 := Scalar.addi v20 c_m1_i32_172
  let c0_i32_173 : BitVec 32 := 0#32
  let v335 : BitVec 1 := Scalar.cmpi .sge v334 c0_i32_173
  let c_m1_i32_174 : BitVec 32 := 4294967295#32
  let v336 : BitVec 32 := Scalar.addi v20 c_m1_i32_174
  let c3_i32_175 : BitVec 32 := 3#32
  let v337 : BitVec 1 := Scalar.cmpi .sle v336 c3_i32_175
  let v338 : BitVec 1 := Scalar.andi v335 v337
  let v339 : BitVec 32 := Scalar.extui v338
  let c0_i32_176 : BitVec 32 := 0#32
  let v340 : BitVec 1 := Scalar.cmpi .ne v339 c0_i32_176
  v340

def k0_off147 (d0 : Dev nD) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  ![v562.toNat]
def k0_off148 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_446 : BitVec 32 := 0#32
  let c0_i32_447 : BitVec 32 := 0#32
  ![v562.toNat, 0, 0]
def k0_off149 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_452 : BitVec 32 := 0#32
  let c0_i32_453 : BitVec 32 := 0#32
  ![v562.toNat, 0, 0]
def k0_off150 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v579 : Index := Scalar.indexCast v562
  let c0_456 : Index := 0#32
  let c0_457 : Index := 0#32
  ![v579.toNat, 0, 0]
def k0_off151 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v582 : Index := Scalar.indexCast v562
  let c0_458 : Index := 0#32
  let c0_459 : Index := 0#32
  ![v582.toNat, 0, 0]
def k0_off152 (d0 : Dev nD) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.subi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c4_i32_464 : BitVec 32 := 4#32
  let v598 : BitVec 32 := Scalar.muli v562 c4_i32_464
  let v599 : Index := Scalar.indexCast v598
  let c0_465 : Index := 0#32
  let c0_466 : Index := 0#32
  let c0_467 : Index := 0#32
  ![v599.toNat, 0, 0, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m2_i32_177 : BitVec 32 := 4294967294#32
  let v341 : BitVec 32 := Scalar.addi v20 c_m2_i32_177
  let c0_i32_178 : BitVec 32 := 0#32
  let v342 : BitVec 1 := Scalar.cmpi .sge v341 c0_i32_178
  let c_m2_i32_179 : BitVec 32 := 4294967294#32
  let v343 : BitVec 32 := Scalar.addi v20 c_m2_i32_179
  let c3_i32_180 : BitVec 32 := 3#32
  let v344 : BitVec 1 := Scalar.cmpi .sle v343 c3_i32_180
  let v345 : BitVec 1 := Scalar.andi v342 v344
  let v346 : BitVec 32 := Scalar.extui v345
  let c0_i32_181 : BitVec 32 := 0#32
  let v347 : BitVec 1 := Scalar.cmpi .ne v346 c0_i32_181
  v347

def k0_off153 (d0 : Dev nD) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  ![v562.toNat]
def k0_off154 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_446 : BitVec 32 := 0#32
  let c0_i32_447 : BitVec 32 := 0#32
  ![v562.toNat, 0, 0]
def k0_off155 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_452 : BitVec 32 := 0#32
  let c0_i32_453 : BitVec 32 := 0#32
  ![v562.toNat, 0, 0]
def k0_off156 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v579 : Index := Scalar.indexCast v562
  let c0_456 : Index := 0#32
  let c0_457 : Index := 0#32
  ![v579.toNat, 0, 0]
def k0_off157 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v582 : Index := Scalar.indexCast v562
  let c0_458 : Index := 0#32
  let c0_459 : Index := 0#32
  ![v582.toNat, 0, 0]
def k0_off158 (d0 : Dev nD) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.subi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c4_i32_464 : BitVec 32 := 4#32
  let v598 : BitVec 32 := Scalar.muli v562 c4_i32_464
  let v599 : Index := Scalar.indexCast v598
  let c0_465 : Index := 0#32
  let c0_466 : Index := 0#32
  let c0_467 : Index := 0#32
  ![v599.toNat, 0, 0, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c_m3_i32_182 : BitVec 32 := 4294967293#32
  let v348 : BitVec 32 := Scalar.addi v20 c_m3_i32_182
  let c0_i32_183 : BitVec 32 := 0#32
  let v349 : BitVec 1 := Scalar.cmpi .sge v348 c0_i32_183
  let c_m3_i32_184 : BitVec 32 := 4294967293#32
  let v350 : BitVec 32 := Scalar.addi v20 c_m3_i32_184
  let c3_i32_185 : BitVec 32 := 3#32
  let v351 : BitVec 1 := Scalar.cmpi .sle v350 c3_i32_185
  let v352 : BitVec 1 := Scalar.andi v349 v351
  let v353 : BitVec 32 := Scalar.extui v352
  let c0_i32_186 : BitVec 32 := 0#32
  let v354 : BitVec 1 := Scalar.cmpi .ne v353 c0_i32_186
  v354

def k0_off159 (d0 : Dev nD) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  ![v562.toNat]
def k0_off160 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_446 : BitVec 32 := 0#32
  let c0_i32_447 : BitVec 32 := 0#32
  ![v562.toNat, 0, 0]
def k0_off161 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_452 : BitVec 32 := 0#32
  let c0_i32_453 : BitVec 32 := 0#32
  ![v562.toNat, 0, 0]
def k0_off162 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v579 : Index := Scalar.indexCast v562
  let c0_456 : Index := 0#32
  let c0_457 : Index := 0#32
  ![v579.toNat, 0, 0]
def k0_off163 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v582 : Index := Scalar.indexCast v562
  let c0_458 : Index := 0#32
  let c0_459 : Index := 0#32
  ![v582.toNat, 0, 0]
def k0_off164 (d0 : Dev nD) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.subi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c4_i32_464 : BitVec 32 := 4#32
  let v598 : BitVec 32 := Scalar.muli v562 c4_i32_464
  let v599 : Index := Scalar.indexCast v598
  let c0_465 : Index := 0#32
  let c0_466 : Index := 0#32
  let c0_467 : Index := 0#32
  ![v599.toNat, 0, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_187 : BitVec 32 := 1#32
  let v355 : BitVec 32 := Scalar.addi v20 c1_i32_187
  let c0_i32_188 : BitVec 32 := 0#32
  let v356 : BitVec 1 := Scalar.cmpi .sge v355 c0_i32_188
  let c1_i32_189 : BitVec 32 := 1#32
  let v357 : BitVec 32 := Scalar.addi v20 c1_i32_189
  let c3_i32_190 : BitVec 32 := 3#32
  let v358 : BitVec 1 := Scalar.cmpi .sle v357 c3_i32_190
  let v359 : BitVec 1 := Scalar.andi v356 v358
  let v360 : BitVec 32 := Scalar.extui v359
  let c0_i32_191 : BitVec 32 := 0#32
  let v361 : BitVec 1 := Scalar.cmpi .ne v360 c0_i32_191
  v361

def k0_off165 (d0 : Dev nD) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  ![v562.toNat]
def k0_off166 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_446 : BitVec 32 := 0#32
  let c0_i32_447 : BitVec 32 := 0#32
  ![v562.toNat, 0, 0]
def k0_off167 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_452 : BitVec 32 := 0#32
  let c0_i32_453 : BitVec 32 := 0#32
  ![v562.toNat, 0, 0]
def k0_off168 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v579 : Index := Scalar.indexCast v562
  let c0_456 : Index := 0#32
  let c0_457 : Index := 0#32
  ![v579.toNat, 0, 0]
def k0_off169 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v582 : Index := Scalar.indexCast v562
  let c0_458 : Index := 0#32
  let c0_459 : Index := 0#32
  ![v582.toNat, 0, 0]
def k0_off170 (d0 : Dev nD) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v560 : BitVec 32 := Scalar.addi v20 c1_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c4_i32_464 : BitVec 32 := 4#32
  let v598 : BitVec 32 := Scalar.muli v562 c4_i32_464
  let v599 : Index := Scalar.indexCast v598
  let c0_465 : Index := 0#32
  let c0_466 : Index := 0#32
  let c0_467 : Index := 0#32
  ![v599.toNat, 0, 0, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_192 : BitVec 32 := 2#32
  let v362 : BitVec 32 := Scalar.addi v20 c2_i32_192
  let c0_i32_193 : BitVec 32 := 0#32
  let v363 : BitVec 1 := Scalar.cmpi .sge v362 c0_i32_193
  let c2_i32_194 : BitVec 32 := 2#32
  let v364 : BitVec 32 := Scalar.addi v20 c2_i32_194
  let c3_i32_195 : BitVec 32 := 3#32
  let v365 : BitVec 1 := Scalar.cmpi .sle v364 c3_i32_195
  let v366 : BitVec 1 := Scalar.andi v363 v365
  let v367 : BitVec 32 := Scalar.extui v366
  let c0_i32_196 : BitVec 32 := 0#32
  let v368 : BitVec 1 := Scalar.cmpi .ne v367 c0_i32_196
  v368

def k0_off171 (d0 : Dev nD) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  ![v562.toNat]
def k0_off172 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_446 : BitVec 32 := 0#32
  let c0_i32_447 : BitVec 32 := 0#32
  ![v562.toNat, 0, 0]
def k0_off173 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_452 : BitVec 32 := 0#32
  let c0_i32_453 : BitVec 32 := 0#32
  ![v562.toNat, 0, 0]
def k0_off174 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v579 : Index := Scalar.indexCast v562
  let c0_456 : Index := 0#32
  let c0_457 : Index := 0#32
  ![v579.toNat, 0, 0]
def k0_off175 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v582 : Index := Scalar.indexCast v562
  let c0_458 : Index := 0#32
  let c0_459 : Index := 0#32
  ![v582.toNat, 0, 0]
def k0_off176 (d0 : Dev nD) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_442 : BitVec 32 := 2#32
  let v560 : BitVec 32 := Scalar.addi v20 c2_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c4_i32_464 : BitVec 32 := 4#32
  let v598 : BitVec 32 := Scalar.muli v562 c4_i32_464
  let v599 : Index := Scalar.indexCast v598
  let c0_465 : Index := 0#32
  let c0_466 : Index := 0#32
  let c0_467 : Index := 0#32
  ![v599.toNat, 0, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_197 : BitVec 32 := 3#32
  let v369 : BitVec 32 := Scalar.addi v20 c3_i32_197
  let c0_i32_198 : BitVec 32 := 0#32
  let v370 : BitVec 1 := Scalar.cmpi .sge v369 c0_i32_198
  let c3_i32_199 : BitVec 32 := 3#32
  let v371 : BitVec 32 := Scalar.addi v20 c3_i32_199
  let c3_i32_200 : BitVec 32 := 3#32
  let v372 : BitVec 1 := Scalar.cmpi .sle v371 c3_i32_200
  let v373 : BitVec 1 := Scalar.andi v370 v372
  let v374 : BitVec 32 := Scalar.extui v373
  let c0_i32_201 : BitVec 32 := 0#32
  let v375 : BitVec 1 := Scalar.cmpi .ne v374 c0_i32_201
  v375

def k0_off177 (d0 : Dev nD) : Fin 1 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  ![v562.toNat]
def k0_off178 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_446 : BitVec 32 := 0#32
  let c0_i32_447 : BitVec 32 := 0#32
  ![v562.toNat, 0, 0]
def k0_off179 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c0_i32_452 : BitVec 32 := 0#32
  let c0_i32_453 : BitVec 32 := 0#32
  ![v562.toNat, 0, 0]
def k0_off180 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v579 : Index := Scalar.indexCast v562
  let c0_456 : Index := 0#32
  let c0_457 : Index := 0#32
  ![v579.toNat, 0, 0]
def k0_off181 (d0 : Dev nD) : Fin 3 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let v582 : Index := Scalar.indexCast v562
  let c0_458 : Index := 0#32
  let c0_459 : Index := 0#32
  ![v582.toNat, 0, 0]
def k0_off182 (d0 : Dev nD) : Fin 4 → Nat :=
  let c4_i32_443 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_442 : BitVec 32 := 3#32
  let v560 : BitVec 32 := Scalar.addi v20 c3_i32_442
  let v561 : BitVec 32 := Scalar.muli c4_i32_443 v560
  let c4_i32 : BitVec 32 := 4#32
  let v3 : BitVec 32 := Scalar.remsi v2 c4_i32
  let c2_i32 : BitVec 32 := 2#32
  let v35 : BitVec 32 := Scalar.addi v3 c2_i32
  let c4_i32_17 : BitVec 32 := 4#32
  let v36 : BitVec 32 := Scalar.remsi v35 c4_i32_17
  let v562 : BitVec 32 := Scalar.addi v561 v36
  let c4_i32_464 : BitVec 32 := 4#32
  let v598 : BitVec 32 := Scalar.muli v562 c4_i32_464
  let v599 : Index := Scalar.indexCast v598
  let c0_465 : Index := 0#32
  let c0_466 : Index := 0#32
  let c0_467 : Index := 0#32
  ![v599.toNat, 0, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S32x128x4096 : Shape := ⟨3, ![32, 128, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S32x64x128x128 : Shape := ⟨4, ![32, 64, 128, 128]⟩
abbrev S1x1x128x128 : Shape := ⟨4, ![1, 1, 128, 128]⟩
abbrev S32x64x128 : Shape := ⟨3, ![32, 64, 128]⟩
abbrev S32x64x128x1 : Shape := ⟨4, ![32, 64, 128, 1]⟩
abbrev S1x1x128x1 : Shape := ⟨4, ![1, 1, 128, 1]⟩
abbrev S32x64x64x128 : Shape := ⟨4, ![32, 64, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S512x4096, .f32⟩
  | .hbm, ⟨2, _⟩ => ⟨S32x128x64x64, .f32⟩
  | .hbm, ⟨3, _⟩ => ⟨S32x128x64x64, .f32⟩
  | .hbm, ⟨4, _⟩ => ⟨S4096x512, .f32⟩
  | .hbm, ⟨5, _⟩ => ⟨S32x128x4096, .f32⟩
  | .hbm, ⟨6, _⟩ => ⟨S32x128x64x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S32x64x128x128, .f32⟩
  | .hbm, ⟨51, _⟩ => ⟨S_, .f32⟩
  | .hbm, ⟨52, _⟩ => ⟨S32x64x128x128, .f32⟩
  | .hbm, ⟨53, _⟩ => ⟨S32x64x128x128, .f32⟩
  | .hbm, ⟨54, _⟩ => ⟨S1x1x128x128, .i1⟩
  | .hbm, ⟨55, _⟩ => ⟨S_, .f32⟩
  | .hbm, ⟨56, _⟩ => ⟨S_, .f32⟩
  | .hbm, ⟨57, _⟩ => ⟨S32x64x128x128, .i1⟩
  | .hbm, ⟨58, _⟩ => ⟨S32x64x128x128, .f32⟩
  | .hbm, ⟨59, _⟩ => ⟨S32x64x128x128, .f32⟩
  | .hbm, ⟨60, _⟩ => ⟨S_, .f32⟩
  | .hbm, ⟨61, _⟩ => ⟨S32x64x128, .f32⟩
  | .hbm, ⟨62, _⟩ => ⟨S32x64x128x1, .f32⟩
  | .hbm, ⟨63, _⟩ => ⟨S32x64x128x128, .f32⟩
  | .hbm, ⟨64, _⟩ => ⟨S32x64x128x128, .f32⟩
  | .hbm, ⟨65, _⟩ => ⟨S32x64x128x128, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S32x64x128, .f32⟩
  | .hbm, ⟨71, _⟩ => ⟨S32x64x128x1, .f32⟩
  | .hbm, ⟨72, _⟩ => ⟨S_, .f32⟩
  | .hbm, ⟨73, _⟩ => ⟨S_, .f32⟩
  | .hbm, ⟨74, _⟩ => ⟨S32x64x128x1, .i1⟩
  | .hbm, ⟨75, _⟩ => ⟨S32x64x128x1, .f32⟩
  | .hbm, ⟨76, _⟩ => ⟨S32x64x128x1, .f32⟩
  | .hbm, ⟨77, _⟩ => ⟨S32x64x128x128, .f32⟩
  | .hbm, ⟨78, _⟩ => ⟨S32x64x128x128, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S32x64x128x128, .i1⟩
  | .hbm, ⟨83, _⟩ => ⟨S32x64x128x128, .f32⟩
  | .hbm, ⟨84, _⟩ => ⟨S32x64x128x128, .f32⟩
  | .hbm, ⟨85, _⟩ => ⟨S32x64x64x128, .f32⟩
  | .hbm, ⟨86, _⟩ => ⟨S32x128x64x64, .f32⟩
  | .hbm, ⟨87, _⟩ => ⟨S32x128x4096, .f32⟩
  | .hbm, ⟨88, _⟩ => ⟨S32x128x512, .f32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]

def κ : String → Option EReal := fun
  | "mask" => some ⊥
  | _ => none
-- ==== Proof.Script.lean ====
module

public import Mathlib.Data.Fintype.Basic
public import Mathlib.Data.Fintype.Prod
public import Mathlib.Data.Fintype.Sum
public import Mathlib.Data.Fin.Basic

/-! # The order of a device's steps

The sixteen devices stand in four rows of four: device `c` is row `c / 4`, column `c % 4`. All of them run one list of 180
steps, of which each row does some. A slot is named from a device by its row `zp` and by how many columns to the right of
the own one it lies, `k`. `w` is 0 for a query weight and 1 for an output weight. A send is named by its semaphore array `a`
(up, down, clockwise, counterclockwise, forward; each first for a query weight, then for an output weight) and its place
`zp` in that array, the row of the slot it carries. This file says at which place of the list each step stands, and proves
the finite facts about the order that the run rests on. -/

@[expose] public section

namespace Gather

inductive AOp where
  | send (a : Fin 10) (zp : Fin 4)
  | recv (w : Fin 2) (zp k : Fin 4)
  | chunk (zp k : Fin 4)
  | swait (a : Fin 10) (zp : Fin 4)
deriving DecidableEq

/-- The column distance of the slot a send reads. -/
def srcK (a : Fin 10) : Fin 4 := if a = 8 then 3 else if a = 9 then 1 else 0
/-- Which weight a send carries. -/
def kindW (a : Fin 10) : Fin 2 := ⟨a.val % 2, Nat.mod_lt _ (by decide)⟩
/-- Which of a slot's eight read shares a send takes. -/
def piece (a : Fin 10) : Fin (2 ^ 3) := if a.val < 2 then 0 else if a.val < 4 then 1 else if a.val < 6 then 2 else if a.val < 8 then 3 else 2

/-- Which sends the row `z` does. -/
def live (z : Fin 4) (a : Fin 10) (zp : Fin 4) : Bool :=
  if a.val < 2 then z.val < 3 && zp.val ≤ z.val else if a.val < 4 then 0 < z.val && z.val ≤ zp.val else true

/-- The slots a row receives: all but its own. -/
def foreign (z zp k : Fin 4) : Bool := !(zp == z && k == 0)

def valid (z : Fin 4) : AOp → Bool
  | .send a zp => live z a zp
  | .recv _ zp k => foreign z zp k
  | .chunk _ _ => true
  | .swait a zp => live z a zp

/-- Where the steps for the column's own slot of row `zp` begin. -/
def vertBase (z zp : Fin 4) : ℕ :=
  if zp.val < z.val then 9 + 18 * (z.val - zp.val - 1) else 18 + 18 * (zp.val - z.val - 1)
/-- The turn of row `zp`: the own row, then the rows below, then those above. -/
def turn (z zp : Fin 4) : ℕ := if zp.val ≤ z.val then z.val - zp.val else 3 + (zp.val - z.val)

/-- The place of a step in the list. -/
def pos (z : Fin 4) : AOp → ℕ
  | .send a zp =>
    if a = 8 then 63 + 8 * turn z zp + 1 else if a = 9 then 63 + 8 * turn z zp + 5
    else if zp = z then a.val
    else vertBase z zp + (if a.val < 4 then (if a.val % 2 = 0 then 1 else 5)
      else if a = 4 then 2 else if a = 6 then 3 else if a = 5 then 6 else 7)
  | .recv w zp k =>
    if k = 0 then vertBase z zp + (if w = 0 then 0 else 4)
    else if k = 2 then 119 + 3 * turn z zp + (if w = 0 then 0 else 1)
    else 63 + 8 * turn z zp + (if w = 0 then (if k = 3 then 0 else 2) else (if k = 3 then 3 else 4))
  | .chunk zp k =>
    if k = 0 then (if zp = z then 8 else vertBase z zp + 8)
    else if k = 2 then 119 + 3 * turn z zp + 2
    else 63 + 8 * turn z zp + (if k = 3 then 6 else 7)
  | .swait a zp => 140 + 10 * zp.val + a.val

/-- Step `op` is the row's step at place `n`. -/
abbrev At (z : Fin 4) (n : ℕ) (op : AOp) : Prop := valid z op = true ∧ pos z op = n
/-- Step `op` is one of the row's steps before place `n`. -/
abbrev Done (z : Fin 4) (n : ℕ) (op : AOp) : Prop := valid z op = true ∧ pos z op < n

theorem done_succ (z : Fin 4) (n : ℕ) (op : AOp) : Done z (n + 1) op ↔ Done z n op ∨ At z n op := by
  unfold Done At; constructor
  · rintro ⟨h, h'⟩; rcases Nat.lt_succ_iff_lt_or_eq.mp h' with h'' | h''
    · exact .inl ⟨h, h''⟩
    · exact .inr ⟨h, h''⟩
  · rintro (⟨h, h'⟩ | ⟨h, h'⟩)
    · exact ⟨h, Nat.lt_succ_of_lt h'⟩
    · exact ⟨h, by omega⟩

theorem not_done_of_at {z : Fin 4} {n : ℕ} {op : AOp} (h : At z n op) : ¬Done z n op := fun h' => by
  unfold Done at h'; unfold At at h; omega

/-- A step by number, to run over all of them. -/
def Code := ((Fin 10 × Fin 4) ⊕ (Fin 2 × Fin 4 × Fin 4)) ⊕ ((Fin 4 × Fin 4) ⊕ (Fin 10 × Fin 4))
def decode : Code → AOp
  | .inl (.inl x) => .send x.1 x.2
  | .inl (.inr x) => .recv x.1 x.2.1 x.2.2
  | .inr (.inl x) => .chunk x.1 x.2
  | .inr (.inr x) => .swait x.1 x.2
def encode : AOp → Code
  | .send a zp => .inl (.inl (a, zp))
  | .recv w zp k => .inl (.inr (w, zp, k))
  | .chunk zp k => .inr (.inl (zp, k))
  | .swait a zp => .inr (.inr (a, zp))
theorem decode_encode (op : AOp) : decode (encode op) = op := by cases op <;> rfl

instance : Fintype Code := inferInstanceAs (Fintype (((Fin 10 × Fin 4) ⊕ (Fin 2 × Fin 4 × Fin 4)) ⊕ ((Fin 4 × Fin 4) ⊕ (Fin 10 × Fin 4))))
instance : DecidableEq Code := inferInstanceAs (DecidableEq (((Fin 10 × Fin 4) ⊕ (Fin 2 × Fin 4 × Fin 4)) ⊕ ((Fin 4 × Fin 4) ⊕ (Fin 10 × Fin 4))))

set_option maxHeartbeats 4000000 in
theorem at_unique_code : ∀ z : Fin 4, ∀ x y : Code, valid z (decode x) = true → valid z (decode y) = true →
    pos z (decode x) = pos z (decode y) → x = y := by decide +kernel

/-- A place holds at most one step of a row. -/
theorem at_unique {z : Fin 4} {n : ℕ} {x y : AOp} (hx : At z n x) (hy : At z n y) : x = y := by
  have h := at_unique_code z (encode x) (encode y)
  simp only [decode_encode] at h
  have := h hx.1 hy.1 (hx.2.trans hy.2.symm)
  rw [← decode_encode x, this, decode_encode]

/-- A send comes before the wait for it, and unless the slot is the own one after the slot's arrival. -/
theorem send_order : ∀ (z : Fin 4) (a : Fin 10) (zp : Fin 4), live z a zp = true →
    pos z (.send a zp) < 140 ∧ pos z (.send a zp) < pos z (.swait a zp)
      ∧ (foreign z zp (srcK a) = true → pos z (.recv (kindW a) zp (srcK a)) < pos z (.send a zp)) := by decide +kernel
/-- A slot's product comes after both its weights' arrival. -/
theorem chunk_order : ∀ (z : Fin 4) (w : Fin 2) (zp k : Fin 4), foreign z zp k = true → pos z (.recv w zp k) < pos z (.chunk zp k) := by
  decide +kernel
/-- All arrivals come before the waits for sends, and everything before place 180. -/
theorem recv_early : ∀ (z : Fin 4) (w : Fin 2) (zp k : Fin 4), pos z (.recv w zp k) < 140 := by decide +kernel
theorem swait_range : ∀ (z : Fin 4) (a : Fin 10) (zp : Fin 4), 140 ≤ pos z (.swait a zp) ∧ pos z (.swait a zp) < 180 := by decide +kernel
/-- The reader of a share is one send. -/
theorem piece_unique : ∀ a b : Fin 10, kindW a = kindW b → srcK a = srcK b → piece a = piece b → a = b := by decide +kernel
theorem piece_ne : ∀ a : Fin 10, piece a ≠ 4 := by decide +kernel

/-- How early a slot is waited for. -/
def level (z zp k : Fin 4) : ℕ :=
  if k = 0 then 2 + ((zp.val - z.val) + (z.val - zp.val)) else if k = 2 then 20 else 10
/-- The row a send lands in, and the column distance of its slot there. -/
def landZ (z : Fin 4) (a : Fin 10) : Fin 4 := if a.val < 2 then z + 1 else if a.val < 4 then z - 1 else z
def landK (a : Fin 10) : Fin 4 := if a.val < 4 then 0 else if a.val < 6 then 3 else if a.val < 8 then 1 else 2

/-- While a slot is waited for, only sends to later waits are owed. -/
theorem level_order : ∀ (z : Fin 4) (w : Fin 2) (zp k : Fin 4), foreign z zp k = true → ∀ (a : Fin 10) (zq : Fin 4), live z a zq = true →
    pos z (.recv w zp k) < pos z (.send a zq) → level z zp k < level (landZ z a) zq (landK a) := by decide +kernel
theorem level_ge : ∀ z zp k : Fin 4, 2 ≤ level z zp k := by decide +kernel

/-- The slot whose product stands at place `n`. -/
def chunkAt (z : Fin 4) (n : ℕ) : Option (Fin 4 × Fin 4) :=
  ((List.finRange 4).flatMap fun zp => (List.finRange 4).map fun k => (zp, k)).find? fun x => pos z (.chunk x.1 x.2) == n

theorem chunkAt_none {z : Fin 4} {n : ℕ} (h : ∀ zp k, ¬At z n (.chunk zp k)) : chunkAt z n = none := by
  unfold chunkAt; rw [List.find?_eq_none]
  intro x _ hx
  exact h x.1 x.2 ⟨rfl, by simpa using hx⟩
theorem chunkAt_some {z : Fin 4} {n : ℕ} {zp k : Fin 4} (h : At z n (.chunk zp k)) : chunkAt z n = some (zp, k) := by
  cases hf : chunkAt z n with
  | none =>
    unfold chunkAt at hf; rw [List.find?_eq_none] at hf
    have := hf (zp, k) (by simp)
    simp [h.2] at this
  | some x =>
    have := List.find?_some hf
    have e := at_unique (z := z) (n := n) (x := .chunk x.1 x.2) (y := .chunk zp k) ⟨rfl, by simpa using this⟩ h
    rw [AOp.chunk.injEq] at e
    exact congrArg some (Prod.ext e.1 e.2)

end Gather
-- ==== Proof.Proto.lean ====
module

public import proofs.«01_k».proof.Proof.Gen.KernelIdeal.Regions
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.ShareLeaves
public import Idealize.ShloMosaic.Lib.Pipeline.RegionTalk
public import Idealize.ShloMosaic.Harness.Basic
public import proofs.«01_k».proof.Proof.Script

/-! # Who pays whom

Every device owns one receive semaphore per weight and slot, ten arrays of four send semaphores, and the barrier semaphore.
Each of them lives one round. A receive semaphore's round hands its device the slot, filled; a send semaphore's round gives
the share of the source back; the barrier's round has four duties, one per neighbour, and each brings the neighbour's slots
that this device writes to. -/

@[expose] public section

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

abbrev UU : Type := UR sig nD τ × URounds (GSem nD τ sig) (Fin 4)

variable {F : FTy → Type}

local notation "𝕄" => MT nD τ sig Unit (Elt F) ℕ UU ℕ

/-! ## Devices, slots, cells -/

def zOf (c : Dev nD) : Fin 4 := ⟨c.val / 4, by have := c.isLt; simp only [nD] at this; omega⟩
def colOf (c : Dev nD) : Fin 4 := ⟨c.val % 4, Nat.mod_lt _ (by decide)⟩
def mkDev (z col : Fin 4) : Dev nD := ⟨4 * z.val + col.val, by simp only [nD]; omega⟩
def cw (c : Dev nD) : Dev nD := mkDev (zOf c) (colOf c + 1)
def ccw (c : Dev nD) : Dev nD := mkDev (zOf c) (colOf c + 3)
def up (c : Dev nD) : Dev nD := mkDev (zOf c + 1) (colOf c)
def dn (c : Dev nD) : Dev nD := mkDev (zOf c + 3) (colOf c)

/-- Which neighbour a send goes to, and that neighbour. -/
def dirOf (a : Fin 10) : Fin 4 := if a.val < 2 then 2 else if a.val < 4 then 3 else if a.val < 6 ∨ a = 8 then 0 else 1
def toward (d : Fin 4) (c : Dev nD) : Dev nD := if d = 0 then cw c else if d = 1 then ccw c else if d = 2 then up c else dn c
def destOf (c : Dev nD) (a : Fin 10) : Dev nD := toward (dirOf a) c

def slotOf (c : Dev nD) (zp k : Fin 4) : Fin 16 := ⟨4 * zp.val + (colOf c + k).val, by omega⟩

def recvSem (w : Fin 2) (o : Fin 16) : DmaSem sig := (⟨6 + 16 * w.val + o.val, by omega⟩ : Fin 78)
def sendSem (a : Fin 10) (zp : Fin 4) : DmaSem sig := (⟨38 + 4 * a.val + zp.val, by omega⟩ : Fin 78)
def barS : Sem sig := sig.barrier 0 rfl

abbrev recvCell (c : Dev nD) (w : Fin 2) (o : Fin 16) : GSem nD τ sig := ((c : Thread nD τ), .dma (recvSem w o))
abbrev sendCell (c : Dev nD) (a : Fin 10) (zp : Fin 4) : GSem nD τ sig := ((c : Thread nD τ), .dma (sendSem a zp))
abbrev barCell (c : Dev nD) : GSem nD τ sig := ((c : Thread nD τ), .reg barS)
/-- The cell a send pays. -/
abbrev destCell (c : Dev nD) (a : Fin 10) (zp : Fin 4) : GSem nD τ sig := recvCell (destOf c a) (kindW a) (slotOf c zp (srcK a))

inductive Role where
  | bar | stage | recv (w : Fin 2) (o : Fin 16) | send (a : Fin 10) (zp : Fin 4)
deriving DecidableEq

def roleDma (i : Fin 78) : Role :=
  if i.val < 6 then .stage
  else if i.val < 38 then .recv ⟨(i.val - 6) / 16 % 2, Nat.mod_lt _ (by decide)⟩ ⟨(i.val - 6) % 16, Nat.mod_lt _ (by decide)⟩
  else .send ⟨(i.val - 38) / 4 % 10, Nat.mod_lt _ (by decide)⟩ ⟨(i.val - 38) % 4, Nat.mod_lt _ (by decide)⟩
def role : SemLoc sig → Role
  | .reg _ => .bar
  | .dma i => roleDma i

theorem role_recv (w : Fin 2) (o : Fin 16) : role (.dma (recvSem w o)) = .recv w o := by revert w o; decide +kernel
theorem role_send (a : Fin 10) (zp : Fin 4) : role (.dma (sendSem a zp)) = .send a zp := by revert a zp; decide +kernel
theorem role_bar : role (.reg barS) = .bar := rfl

/-! ## Contents -/

/-- What each device's staging buffers hold. -/
structure Inp (F : FTy → Type) where
  wq : Dev nD → S512x256.Idx → Elt F .bf16
  wo : Dev nD → S256x512.Idx → Elt F .bf16
  x : Dev nD → S2x128x512.Idx → Elt F .f32
  kt : Dev nD → S64x2x128x64.Idx → Elt F .f32
  vt : Dev nD → S64x2x128x64.Idx → Elt F .f32

variable (I : Inp F)

/-- All devices' query weights, slot by slot; and the output weights. -/
def gathQ : S16x512x256.Idx → Elt F .bf16 :=
  fun i => I.wq (i 0) (fun | ⟨0, _⟩ => i 1 | ⟨1, _⟩ => i 2)
def gathO : S16x256x512.Idx → Elt F .bf16 :=
  fun i => I.wo (i 0) (fun | ⟨0, _⟩ => i 1 | ⟨1, _⟩ => i 2)

theorem inbQ (o : Fin 16) : ∀ a, (![o.val, 0, 0] : Fin 3 → ℕ) a + S1x512x256.size a ≤ S16x512x256.size a := by
  revert o; decide +kernel
theorem inbO (o : Fin 16) : ∀ a, (![o.val, 0, 0] : Fin 3 → ℕ) a + S1x256x512.size a ≤ S16x256x512.size a := by
  revert o; decide +kernel
/-- A slot of each gathering buffer. -/
abbrev slotQ (o : Fin 16) : Memref sig .tc .vmem S512x256 .bf16 :=
  ((Memref.whole cc0_scratch0).slice (Rect.unit (s := S16x512x256) ![o.val, 0, 0] S1x512x256.size (inbQ o)) (fun _ => rfl)).squeeze S512x256 Gen.squeezes_S1x512x256_S512x256
abbrev slotO (o : Fin 16) : Memref sig .tc .vmem S256x512 .bf16 :=
  ((Memref.whole cc0_scratch1).slice (Rect.unit (s := S16x256x512) ![o.val, 0, 0] S1x256x512.size (inbO o)) (fun _ => rfl)).squeeze S256x512 Gen.squeezes_S1x256x512_S256x512
abbrev stgQ : Memref sig .tc .vmem S512x256 .bf16 := Memref.whole cc0_stg1_0
abbrev stgO : Memref sig .tc .vmem S256x512 .bf16 := Memref.whole cc0_stg4_0

def ptsQ (c : Dev nD) (o : Fin 16) (q : PosShare TreeShare) (f : S16x512x256.Idx → Elt F .bf16) : sProp 𝕄 :=
  (slotQ o).view.loc (c : Thread nD τ) ↦[(slotQ o).view.set]{q} (f : Buf (Elt F) ((slotQ o).view.loc (c : Thread nD τ)))
def ptsO (c : Dev nD) (o : Fin 16) (q : PosShare TreeShare) (f : S16x256x512.Idx → Elt F .bf16) : sProp 𝕄 :=
  (slotO o).view.loc (c : Thread nD τ) ↦[(slotO o).view.set]{q} (f : Buf (Elt F) ((slotO o).view.loc (c : Thread nD τ)))
def stgPtsQ (c : Dev nD) (q : PosShare TreeShare) : sProp 𝕄 :=
  stgQ.view.loc (c : Thread nD τ) ↦[stgQ.view.set]{q} (I.wq c : Buf (Elt F) (stgQ.view.loc (c : Thread nD τ)))
def stgPtsO (c : Dev nD) (q : PosShare TreeShare) : sProp 𝕄 :=
  stgO.view.loc (c : Thread nD τ) ↦[stgO.view.set]{q} (I.wo c : Buf (Elt F) (stgO.view.loc (c : Thread nD τ)))

/-- A filled slot; a slot at contents not chosen. -/
def slotPts (c : Dev nD) (w : Fin 2) (o : Fin 16) (q : PosShare TreeShare) : sProp 𝕄 :=
  if w = 0 then ptsQ c o q (gathQ I) else ptsO c o q (gathO I)
def slotAny (c : Dev nD) (w : Fin 2) (o : Fin 16) : sProp 𝕄 :=
  if w = 0 then iprop(∃ f, ptsQ (F := F) c o fullShare f) else iprop(∃ f, ptsO (F := F) c o fullShare f)

/-- The share `p` of what the device reads of a slot: its own weight where the slot is the own one. -/
def piecePts (c : Dev nD) (w : Fin 2) (zp k : Fin 4) (p : Fin (2 ^ 3)) : sProp 𝕄 :=
  if foreign (zOf c) zp k = true then slotPts I c w (slotOf c zp k) (ShareLeaves.leaf 3 fullShare p)
  else if w = 0 then stgPtsQ I c (ShareLeaves.leaf 3 fullShare p) else stgPtsO I c (ShareLeaves.leaf 3 fullShare p)

/-! ## The schedule -/

abbrev EP : Emb (UR sig nD τ) 𝕄 := embL
abbrev ER : Emb (URounds (GSem nD τ sig) (Fin 4)) 𝕄 := embR

/-- What neighbour `d` of `c` brings to `c`'s barrier: its slots that `c` writes to. -/
def barPay (c : Dev nD) (d : Fin 4) : sProp 𝕄 :=
  bigSep Finset.univ fun x : Fin 10 × Fin 4 =>
    if live (zOf c) x.1 x.2 = true ∧ dirOf x.1 = d then
      iprop(slotAny (F := F) (destOf c x.1) (kindW x.1) (slotOf c x.2 (srcK x.1)) ∗ reached ER (destCell c x.1 x.2) 0)
    else iprop(emp)

def roleDuties (c : Dev nD) : Role → Finset (Fin 4)
  | .bar => Finset.univ
  | .stage => ∅
  | .recv _ o => if o = slotOf c (zOf c) 0 then ∅ else {0}
  | .send a zp => if live (zOf c) a zp = true then {0} else ∅

def rolePay (c : Dev nD) (d : Fin 4) : Role → sProp 𝕄
  | .bar => barPay c d
  | .stage => iprop(emp)
  | .recv w o => slotPts I c w o fullShare
  | .send a zp => piecePts I c (kindW a) zp (srcK a) (piece a)

def sched : Rounds.Schedule (GSem nD τ sig) (Fin 4) 𝕄 where
  duties g r := if r = 0 ∧ g.1.2 = .tc then roleDuties g.1.1 (role g.2) else ∅
  unitless _ := False
  amount g _ _ := if role g.2 = .bar then 1 else 8192
  payload g _ d := rolePay I g.1.1 d (role g.2)
  amount_pos g _ _ _ := by
    by_cases h : role g.2 = .bar
    · rw [if_pos h]; exact Nat.one_pos
    · rw [if_neg h]; decide

instance slotPts_storable (c : Dev nD) (w : Fin 2) (o : Fin 16) (q : PosShare TreeShare) :
    BI.Storable (upEmb : UEmb _ 𝕄) (slotPts I c w o q) := by
  unfold slotPts ptsQ ptsO; split <;> infer_instance
instance slotAny_storable (c : Dev nD) (w : Fin 2) (o : Fin 16) :
    BI.Storable (upEmb : UEmb _ 𝕄) (slotAny (F := F) c w o) := by
  unfold slotAny ptsQ ptsO; split <;> infer_instance
instance piecePts_storable (c : Dev nD) (w : Fin 2) (zp k : Fin 4) (p : Fin (2 ^ 3)) :
    BI.Storable (upEmb : UEmb _ 𝕄) (piecePts I c w zp k p) := by
  unfold piecePts stgPtsQ stgPtsO; (repeat' split) <;> infer_instance
instance barPay_storable (c : Dev nD) (d : Fin 4) : BI.Storable (upEmb : UEmb _ 𝕄) (barPay (F := F) c d) := by
  unfold barPay
  have : ∀ x : Fin 10 × Fin 4, BI.Storable (upEmb : UEmb _ 𝕄) (if live (zOf c) x.1 x.2 = true ∧ dirOf x.1 = d then
      iprop(slotAny (F := F) (destOf c x.1) (kindW x.1) (slotOf c x.2 (srcK x.1)) ∗ reached ER (destCell c x.1 x.2) 0)
    else iprop(emp)) := fun x => by split <;> infer_instance
  infer_instance

instance sched_payload_storable (g : GSem nD τ sig) (r : ℕ) (d : Fin 4) :
    BI.Storable (upEmb : UEmb _ 𝕄) ((sched (F := F) I).payload g r d) := by
  show BI.Storable upEmb (rolePay I g.1.1 d (role g.2))
  unfold rolePay; split <;> infer_instance

section Sched

variable (c : Dev nD)

theorem duties_bar : (sched I).duties (barCell c) 0 = Finset.univ := by
  dsimp only [sched]; rw [if_pos ⟨rfl, rfl⟩]; rfl
theorem duties_send {a : Fin 10} {zp : Fin 4} (h : live (zOf c) a zp = true) : (sched I).duties (sendCell c a zp) 0 = {0} := by
  dsimp only [sched]; rw [if_pos ⟨rfl, rfl⟩, role_send]; exact if_pos h
theorem duties_dead {a : Fin 10} {zp : Fin 4} (h : live (zOf c) a zp ≠ true) (r : ℕ) : (sched I).duties (sendCell c a zp) r = ∅ := by
  dsimp only [sched]; split
  · rw [role_send]; exact if_neg h
  · rfl
theorem duties_recv (w : Fin 2) {o : Fin 16} (h : o ≠ slotOf c (zOf c) 0) : (sched I).duties (recvCell c w o) 0 = {0} := by
  dsimp only [sched]; rw [if_pos ⟨rfl, rfl⟩, role_recv]; exact if_neg h
theorem duties_own (w : Fin 2) (r : ℕ) : (sched I).duties (recvCell c w (slotOf c (zOf c) 0)) r = ∅ := by
  dsimp only [sched]; split
  · rw [role_recv]; exact if_pos rfl
  · rfl
theorem duties_later (g : GSem nD τ sig) (r : ℕ) (hr : 1 ≤ r) : (sched I).duties g r = ∅ := by
  dsimp only [sched]; rw [if_neg (fun h => by omega)]

theorem amount_bar (d : Fin 4) : (sched I).amount (barCell c) 0 d = 1 := rfl
theorem amount_send (a : Fin 10) (zp d : Fin 4) : (sched I).amount (sendCell c a zp) 0 d = 8192 := by
  dsimp only [sched]; rw [role_send]; rfl
theorem amount_recv (w : Fin 2) (o : Fin 16) (d : Fin 4) : (sched I).amount (recvCell c w o) 0 d = 8192 := by
  dsimp only [sched]; rw [role_recv]; rfl

theorem expect_bar : (sched I).expect (barCell c) 0 = 4 := by
  unfold Schedule.expect Schedule.amountOf; rw [duties_bar]; rfl
theorem expect_send {a : Fin 10} {zp : Fin 4} (h : live (zOf c) a zp = true) : (sched I).expect (sendCell c a zp) 0 = 8192 := by
  unfold Schedule.expect Schedule.amountOf; rw [duties_send I c h, Finset.sum_singleton, amount_send]
theorem expect_recv (w : Fin 2) {o : Fin 16} (h : o ≠ slotOf c (zOf c) 0) : (sched I).expect (recvCell c w o) 0 = 8192 := by
  unfold Schedule.expect Schedule.amountOf; rw [duties_recv I c w h, Finset.sum_singleton, amount_recv]

theorem payload_bar (d : Fin 4) : (sched I).payload (barCell c) 0 d = barPay c d := rfl
theorem payload_send (a : Fin 10) (zp d : Fin 4) : (sched I).payload (sendCell c a zp) 0 d = piecePts I c (kindW a) zp (srcK a) (piece a) := by
  dsimp only [sched]; rw [role_send]; rfl
theorem payload_recv (w : Fin 2) (o : Fin 16) (d : Fin 4) : (sched I).payload (recvCell c w o) 0 d = slotPts I c w o fullShare := by
  dsimp only [sched]; rw [role_recv]; rfl

theorem rest_send {a : Fin 10} {zp : Fin 4} (h : live (zOf c) a zp = true) :
    bigSep ((sched I).duties (sendCell c a zp) 0 \ ∅) (fun d => (sched I).payload (sendCell c a zp) 0 d)
      = piecePts I c (kindW a) zp (srcK a) (piece a) := by
  rw [Finset.sdiff_empty, duties_send I c h, bigSep_singleton, payload_send]
theorem rest_recv (w : Fin 2) {o : Fin 16} (h : o ≠ slotOf c (zOf c) 0) :
    bigSep ((sched I).duties (recvCell c w o) 0 \ ∅) (fun d => (sched I).payload (recvCell c w o) 0 d) = slotPts I c w o fullShare := by
  rw [Finset.sdiff_empty, duties_recv I c w h, bigSep_singleton, payload_recv]

end Sched

/-! ## Finite facts about devices and slots -/

theorem slot_ne_own : ∀ (c : Dev nD) (zp k : Fin 4), foreign (zOf c) zp k = true → slotOf c zp k ≠ slotOf c (zOf c) 0 := by decide +kernel
theorem slot_inj : ∀ (c : Dev nD) (x y : Fin 4 × Fin 4), slotOf c x.1 x.2 = slotOf c y.1 y.2 → x = y := by decide +kernel
/-- Where a live send lands: in the slot of the same number, not the destination's own, at the row and distance named. -/
theorem lands : ∀ (c : Dev nD) (a : Fin 10) (zp : Fin 4), live (zOf c) a zp = true →
    foreign (landZ (zOf c) a) zp (landK a) = true ∧ zOf (destOf c a) = landZ (zOf c) a
      ∧ slotOf c zp (srcK a) = slotOf (destOf c a) zp (landK a) := by decide +kernel
theorem dest_not_own : ∀ (c : Dev nD) (a : Fin 10) (zp : Fin 4), live (zOf c) a zp = true →
    slotOf c zp (srcK a) ≠ slotOf (destOf c a) (zOf (destOf c a)) 0 := by decide +kernel
/-- An own slot's number is the device's. -/
theorem own_slot : ∀ c : Dev nD, (slotOf c (zOf c) 0).val = c.val := by decide +kernel

/-! ## Levels -/

def L (g : GSem nD τ sig) : Finset Unit := if g.1.2 = .tc then {()} else ∅
def lv (g : GSem nD τ sig) (_ : Unit) : ℕ :=
  match role g.2 with
  | .bar => 1
  | .recv _ o => level (zOf g.1.1) ⟨o.val / 4, by omega⟩ (⟨o.val % 4, Nat.mod_lt _ (by decide)⟩ - colOf g.1.1)
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (c : Dev nD) (a : Fin 10) (zp : Fin 4) : lv (sendCell c a zp) () = 0 := by dsimp only [lv]; rw [role_send]
theorem slot_split : ∀ (c : Dev nD) (zp k : Fin 4), (slotOf c zp k).val / 4 = zp.val ∧
    (⟨(slotOf c zp k).val % 4, Nat.mod_lt _ (by decide)⟩ - colOf c : Fin 4) = k := by decide +kernel
theorem lv_recv (c : Dev nD) (w : Fin 2) (zp k : Fin 4) : lv (recvCell c w (slotOf c zp k)) () = level (zOf c) zp k := by
  dsimp only [lv]; rw [role_recv]; dsimp only
  rw [(slot_split c zp k).2]; congr 1; exact Fin.ext (slot_split c zp k).1
theorem lv_dest (c : Dev nD) (a : Fin 10) (zp : Fin 4) (h : live (zOf c) a zp = true) :
    lv (destCell c a zp) () = level (landZ (zOf c) a) zp (landK a) := by
  unfold destCell; rw [(lands c a zp h).2.2, lv_recv, (lands c a zp h).2.1]

end Gather
-- ==== Proof.State.lean ====
module

public import proofs.«01_k».proof.Proof.Proto
public import proofs.«01_k».proof.Proof.Gen.KernelIdeal.Skeleton

/-! # What a device holds between two steps

`St I K c n` is what device `c` holds before step `n` of the list: for every send semaphore and every receive semaphore what
its phase leaves, the payments still owed, the inputs, and the result of the products done so far. A step changes one
semaphore's phase, or the result. -/

@[expose] public section

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F] [Named F]

local notation "𝕄" => MT nD τ sig Unit (Elt F) ℕ UU ℕ

/-! ## The result -/

/-- Where a key of the flattened batch stands against a query: the block-causal mask the kernel computes. -/
def maskV : IVec S256x256 1 :=
  Gen.k0_pay182 (iota .tc S256x256 32 [0] Gen.iota_S256x256_d0_w32)
    (Gen.k0_pay178 (iota .tc S256x256 32 [0] Gen.iota_S256x256_d0_w32) (iota .tc S256x256 32 [1] Gen.iota_S256x256_d1_w32) 128#32
      Gen.k0_pay176 Gen.k0_pay177 (Scalar.cmpi .sgt 128#32 0#32))
    (Gen.k0_pay179 (iota .tc S256x256 32 [1] Gen.iota_S256x256_d1_w32)) 64#32 (Gen.k0_pay180 (iota .tc S256x256 32 [1] Gen.iota_S256x256_d1_w32))
    (Gen.k0_pay181 (iota .tc S256x256 32 [1] Gen.iota_S256x256_d1_w32)) 0#32

/-- The four heads of slot `o` of a key or value array. -/
def heads (o : Fin 16) (f : S64x2x128x64.Idx → Elt F .f32) : S4x2x128x64.Idx → Elt F .f32 :=
  fun i => f (fun
    | ⟨0, _⟩ => (⟨4 * o.val + (i 0).val, by have h := (i 0).isLt; simp only [S4x2x128x64, S64x2x128x64] at *; simp at h ⊢; omega⟩ : Fin 64)
    | ⟨1, _⟩ => i 1 | ⟨2, _⟩ => i 2 | ⟨3, _⟩ => i 3)

/-- The result with one slot's product added. -/
def chunkVal (x : S2x128x512.Idx → Elt F .f32) (q : S512x256.Idx → Elt F .bf16) (o : S256x512.Idx → Elt F .bf16)
    (kt vt : S4x2x128x64.Idx → Elt F .f32) (prev : S2x128x512.Idx → Elt F .f32) : S2x128x512.Idx → Elt F .f32 :=
  Gen.k0_pay189 (Gen.k0_pay187 maskV (Gen.k0_pay183 x) q kt vt) (Gen.k0_pay188 o) prev

variable (I : Inp F)

/-- The result before step `n`. -/
def acc (c : Dev nD) : ℕ → S2x128x512.Idx → Elt F .f32
  | 0 => Gen.k0_pay184
  | n + 1 => match chunkAt (zOf c) n with
    | none => acc c n
    | some (zp, k) => chunkVal (I.x c) (I.wq (slotOf c zp k)) (I.wo (slotOf c zp k))
        (heads (slotOf c zp k) (I.kt c)) (heads (slotOf c zp k) (I.vt c)) (acc c n)

/-! ## The phases -/

/-- Share `p` of a slot is lent to a transfer under way. -/
def Busy (z : Fin 4) (n : ℕ) (w : Fin 2) (zp k : Fin 4) (p : Fin (2 ^ 3)) : Prop :=
  ∃ a : Fin 10, kindW a = w ∧ srcK a = k ∧ piece a = p ∧ Done z n (.send a zp) ∧ ¬Done z n (.swait a zp)
instance (z : Fin 4) (n : ℕ) (w : Fin 2) (zp k : Fin 4) (p : Fin (2 ^ 3)) : Decidable (Busy z n w zp k p) := by
  unfold Busy; infer_instance

def pieceSt (c : Dev nD) (n : ℕ) (w : Fin 2) (zp k : Fin 4) (p : Fin (2 ^ 3)) : sProp 𝕄 :=
  if Busy (zOf c) n w zp k p then iprop(emp) else piecePts I c w zp k p
def pieces (c : Dev nD) (n : ℕ) (w : Fin 2) (zp k : Fin 4) : sProp 𝕄 := bigSep Finset.univ (pieceSt I c n w zp k)

def recvSt (c : Dev nD) (n : ℕ) (x : Fin 2 × Fin 4 × Fin 4) : sProp 𝕄 :=
  if foreign (zOf c) x.2.1 x.2.2 = true then
    if Done (zOf c) n (.recv x.1 x.2.1 x.2.2) then
      iprop(atPos ER (recvCell c x.1 (slotOf c x.2.1 x.2.2)) 1 ∅ 0 ∗ pieces I c n x.1 x.2.1 x.2.2)
    else iprop(atPos ER (recvCell c x.1 (slotOf c x.2.1 x.2.2)) 0 ∅ 0 ∗ cred (tallyAt (recvCell c x.1 (slotOf c x.2.1 x.2.2)) () 8192))
  else iprop(atPos ER (recvCell c x.1 (slotOf c x.2.1 x.2.2)) 0 ∅ 0 ∗ pieces I c n x.1 x.2.1 x.2.2)

/-- What a send needs beside its source. -/
def unsent (c : Dev nD) (x : Fin 10 × Fin 4) : sProp 𝕄 :=
  iprop(reached ER (sendCell c x.1 x.2) 0 ∗ dutyTok ER (sendCell c x.1 x.2) 0 0
    ∗ dutyTok ER (destCell c x.1 x.2) 0 0 ∗ reached ER (destCell c x.1 x.2) 0
    ∗ slotAny (F := F) (destOf c x.1) (kindW x.1) (slotOf c x.2 (srcK x.1)))

def sendSt (c : Dev nD) (n : ℕ) (x : Fin 10 × Fin 4) : sProp 𝕄 :=
  if live (zOf c) x.1 x.2 = true then
    if Done (zOf c) n (.swait x.1 x.2) then atPos ER (sendCell c x.1 x.2) 1 ∅ 0
    else if Done (zOf c) n (.send x.1 x.2) then iprop(atPos ER (sendCell c x.1 x.2) 0 ∅ 0 ∗ cred (tallyAt (sendCell c x.1 x.2) () 8192))
    else iprop(atPos ER (sendCell c x.1 x.2) 0 ∅ 0 ∗ unsent (F := F) c x)
  else atPos ER (sendCell c x.1 x.2) 0 ∅ 0

def due (c : Dev nD) (n : ℕ) (x : Fin 10 × Fin 4) : CellTallies nD τ sig Unit :=
  if live (zOf c) x.1 x.2 = true ∧ ¬Done (zOf c) n (.send x.1 x.2) then tallyAt (destCell c x.1 x.2) () 8192 else 0
def dues (c : Dev nD) (n : ℕ) : CellTallies nD τ sig Unit := ∑ x : Fin 10 × Fin 4, due c n x

/-! ## The records of the cells -/

def ownSem (i : Fin 72) : SemLoc sig := .dma (⟨6 + i.val, by omega⟩ : Fin 78)
theorem ownSem_inj : Function.Injective ownSem := fun i j h => by
  unfold ownSem at h
  have := Fin.mk.inj (SemLoc.dma.inj h)
  exact Fin.ext (by omega)
def barEmb : Dev nD ↪ GSem nD τ sig := ⟨barCell, fun c d h => by
  have := congrArg (fun g : GSem nD τ sig => g.1.1) h; exact this⟩
def ownEmb : Dev nD × Fin 72 ↪ GSem nD τ sig := ⟨fun x => ((x.1 : Thread nD τ), ownSem x.2), fun x y h => by
  have h1 : x.1 = y.1 := congrArg (fun g : GSem nD τ sig => g.1.1) h
  have h2 : ownSem x.2 = ownSem y.2 := congrArg (fun g : GSem nD τ sig => g.2) h
  exact Prod.ext h1 (ownSem_inj h2)⟩
def barCells : Finset (GSem nD τ sig) := Finset.univ.map barEmb
def ownCells : Finset (GSem nD τ sig) := Finset.univ.map ownEmb

theorem bar_mem (c : Dev nD) : barCell c ∈ barCells ∪ ownCells :=
  Finset.mem_union_left _ (Finset.mem_map.mpr ⟨c, Finset.mem_univ _, rfl⟩)
theorem send_mem (c : Dev nD) (a : Fin 10) (zp : Fin 4) : sendCell c a zp ∈ barCells ∪ ownCells :=
  Finset.mem_union_right _ (Finset.mem_map.mpr ⟨(c, ⟨32 + 4 * a.val + zp.val, by omega⟩), Finset.mem_univ _, by
    show ((c : Thread nD τ), ownSem _) = _
    unfold ownSem sendCell sendSem; congr 3; simp only; omega⟩)
theorem recv_mem (c : Dev nD) (w : Fin 2) (o : Fin 16) : recvCell c w o ∈ barCells ∪ ownCells :=
  Finset.mem_union_right _ (Finset.mem_map.mpr ⟨(c, ⟨16 * w.val + o.val, by omega⟩), Finset.mem_univ _, by
    show ((c : Thread nD τ), ownSem _) = _
    unfold ownSem recvCell recvSem; congr 3; simp only; omega⟩)

variable (K : GSem nD τ sig → ℕ)

theorem split_off {M J : Type} [URA M] [DecidableEq J] {s : Finset J} {j : J} (h : j ∈ s) (Φ : J → sProp M) :
    bigSep s Φ = iprop(Φ j ∗ bigSep (s.erase j) Φ) := bigSep_erase h

def recs : sProp 𝕄 := iprop((bigSep (barCells ∪ ownCells) fun g => cellInv ER (sched I) (K g) g) ∗ levAts L lv)
instance recs_persistent : BI.Persistent (recs I K) := by unfold recs; infer_instance

theorem recs_inv {g : GSem nD τ sig} (hg : g ∈ barCells ∪ ownCells) : recs I K ⊢ cellInv ER (sched I) (K g) g := by
  unfold recs; rw [split_off hg]; iintro ⟨⟨H, -⟩, -⟩; iexact H
theorem recs_lev : recs I K ⊢ (levAts L lv : sProp 𝕄) := by unfold recs; iintro ⟨-, H⟩; iexact H

/-- The inputs other than the weights, and the result buffer at `f`. -/
def bufs (c : Dev nD) (f : S2x128x512.Idx → Elt F .f32) : sProp 𝕄 :=
  iprop(((c : Thread nD τ).loc cc0_stg0_0 ↦{fullShare} (I.x c : Buf (Elt F) ((c : Thread nD τ).loc cc0_stg0_0)))
    ∗ ((c : Thread nD τ).loc cc0_stg2_0 ↦{fullShare} (I.kt c : Buf (Elt F) ((c : Thread nD τ).loc cc0_stg2_0)))
    ∗ ((c : Thread nD τ).loc cc0_stg3_0 ↦{fullShare} (I.vt c : Buf (Elt F) ((c : Thread nD τ).loc cc0_stg3_0)))
    ∗ ((c : Thread nD τ).loc cc0_stg5_0 ↦{fullShare} (f : Buf (Elt F) ((c : Thread nD τ).loc cc0_stg5_0))))

def St (c : Dev nD) (n : ℕ) : sProp 𝕄 :=
  iprop(recs I K ∗ bigSep Finset.univ (sendSt (F := F) c n) ∗ bigSep Finset.univ (recvSt I c n)
    ∗ (∃ W, owes (c : Thread nD τ) (dues c n) W) ∗ bufs I c (acc I c n))

/-! ## Changing one member of a family -/

theorem focus {M : Type} [URA M] {J : Type} [Fintype J] [DecidableEq J] (Φ Ψ : J → sProp M) (j : J) (h : ∀ i, i ≠ j → Φ i = Ψ i) :
    bigSep Finset.univ Φ ⊢ iprop(Φ j ∗ (Ψ j -∗ bigSep Finset.univ Ψ)) := by
  rw [split_off (Finset.mem_univ j) Φ, split_off (Finset.mem_univ j) Ψ,
    bigSep_congr (Ψ := Ψ) (fun i hi => h i (Finset.ne_of_mem_erase hi))]
  iintro ⟨H, Hr⟩
  isplitl [H]; · iexact H
  iintro H'
  isplitl [H']; · iexact H'
  iexact Hr

/-! ## What a step leaves alone -/

section Steps
variable {c : Dev nD} {n : ℕ}

theorem done_other {op op' : AOp} (h : At (zOf c) n op) (hne : op' ≠ op) : Done (zOf c) (n + 1) op' ↔ Done (zOf c) n op' := by
  rw [done_succ]; exact ⟨fun h' => h'.elim id fun h'' => absurd (at_unique h'' h) hne, .inl⟩
theorem done_none {op : AOp} (h : ∀ op, ¬At (zOf c) n op) : Done (zOf c) (n + 1) op ↔ Done (zOf c) n op := by
  rw [done_succ]; exact ⟨fun h' => h'.elim id fun h'' => absurd h'' (h _), .inl⟩
theorem done_self {op : AOp} (h : At (zOf c) n op) : Done (zOf c) (n + 1) op := (done_succ _ _ _).mpr (.inr h)

theorem sendSt_congr {x : Fin 10 × Fin 4} {n' : ℕ} (h1 : Done (zOf c) n' (.send x.1 x.2) ↔ Done (zOf c) n (.send x.1 x.2))
    (h2 : Done (zOf c) n' (.swait x.1 x.2) ↔ Done (zOf c) n (.swait x.1 x.2)) : sendSt (F := F) c n x = sendSt (F := F) c n' x := by
  unfold sendSt; simp only [h1, h2]
theorem busy_congr {w : Fin 2} {zp k : Fin 4} {p : Fin (2 ^ 3)} {n' : ℕ}
    (h1 : ∀ a, kindW a = w → srcK a = k → piece a = p → (Done (zOf c) n' (.send a zp) ↔ Done (zOf c) n (.send a zp)))
    (h2 : ∀ a, kindW a = w → srcK a = k → piece a = p → (Done (zOf c) n' (.swait a zp) ↔ Done (zOf c) n (.swait a zp))) :
    Busy (zOf c) n' w zp k p ↔ Busy (zOf c) n w zp k p := by
  unfold Busy
  refine exists_congr fun a => and_congr_right fun e1 => and_congr_right fun e2 => and_congr_right fun e3 => ?_
  rw [h1 a e1 e2 e3, h2 a e1 e2 e3]
theorem pieceSt_congr {w : Fin 2} {zp k : Fin 4} {p : Fin (2 ^ 3)} {n' : ℕ} (h : Busy (zOf c) n' w zp k p ↔ Busy (zOf c) n w zp k p) :
    pieceSt I c n w zp k p = pieceSt I c n' w zp k p := by
  unfold pieceSt; simp only [h]
theorem recvSt_congr {x : Fin 2 × Fin 4 × Fin 4} {n' : ℕ} (h1 : Done (zOf c) n' (.recv x.1 x.2.1 x.2.2) ↔ Done (zOf c) n (.recv x.1 x.2.1 x.2.2))
    (h2 : pieces I c n x.1 x.2.1 x.2.2 = pieces I c n' x.1 x.2.1 x.2.2) : recvSt I c n x = recvSt I c n' x := by
  unfold recvSt; simp only [h1, h2]
theorem pieces_congr {w : Fin 2} {zp k : Fin 4} {n' : ℕ}
    (h1 : ∀ a, kindW a = w → srcK a = k → (Done (zOf c) n' (.send a zp) ↔ Done (zOf c) n (.send a zp)))
    (h2 : ∀ a, kindW a = w → srcK a = k → (Done (zOf c) n' (.swait a zp) ↔ Done (zOf c) n (.swait a zp))) :
    pieces I c n w zp k = pieces I c n' w zp k :=
  bigSep_congr fun p _ => pieceSt_congr I (busy_congr (fun a e1 e2 _ => h1 a e1 e2) fun a e1 e2 _ => h2 a e1 e2)
theorem due_congr {x : Fin 10 × Fin 4} {n' : ℕ} (h1 : Done (zOf c) n' (.send x.1 x.2) ↔ Done (zOf c) n (.send x.1 x.2)) :
    due c n x = due c n' x := by
  unfold due; simp only [h1]

/-- A place that is not the row's changes nothing. -/
theorem St_skip (h : ∀ op, ¬At (zOf c) n op) : St I K c n = St I K c (n + 1) := by
  have e1 : sendSt (F := F) c n = sendSt (F := F) c (n + 1) := funext fun x => sendSt_congr (done_none h) (done_none h)
  have e2 : recvSt I c n = recvSt I c (n + 1) := funext fun x => recvSt_congr I (done_none h)
    (pieces_congr I (fun _ _ _ => done_none h) fun _ _ _ => done_none h)
  have e3 : dues c n = dues c (n + 1) := Finset.sum_congr rfl fun x _ => due_congr (done_none h)
  have e4 : acc I c (n + 1) = acc I c n := by
    show (match chunkAt (zOf c) n with | none => acc I c n | some (zp, k) => _) = _
    rw [chunkAt_none (fun zp k => h _)]
  unfold St; rw [e1, e2, e3, e4]

/-- A send or a wait leaves the result as it is; a product leaves everything else. -/
theorem acc_other {op : AOp} (h : At (zOf c) n op) (hne : ∀ zp k, op ≠ .chunk zp k) : acc I c (n + 1) = acc I c n := by
  show (match chunkAt (zOf c) n with | none => acc I c n | some (zp, k) => _) = _
  rw [chunkAt_none (fun zp k h' => hne zp k (at_unique h h'))]
theorem acc_chunk {zp k : Fin 4} (h : At (zOf c) n (.chunk zp k)) : acc I c (n + 1)
    = chunkVal (I.x c) (I.wq (slotOf c zp k)) (I.wo (slotOf c zp k)) (heads (slotOf c zp k) (I.kt c)) (heads (slotOf c zp k) (I.vt c)) (acc I c n) := by
  show (match chunkAt (zOf c) n with | none => acc I c n | some (zp, k) => _) = _
  rw [chunkAt_some h]

theorem dues_other {op : AOp} (h : At (zOf c) n op) (hne : ∀ a zp, op ≠ .send a zp) : dues c (n + 1) = dues c n :=
  Finset.sum_congr rfl fun x _ => (due_congr (done_other h fun e => hne _ _ e.symm)).symm
theorem dues_send {a : Fin 10} {zp : Fin 4} (h : At (zOf c) n (.send a zp)) :
    dues c n = dues c (n + 1) + tallyAt (destCell c a zp) () 8192 := by
  unfold dues
  rw [← Finset.sum_erase_add Finset.univ (due c n) (Finset.mem_univ (a, zp)), ← Finset.sum_erase_add Finset.univ (due c (n + 1)) (Finset.mem_univ (a, zp))]
  have e1 : due c n (a, zp) = tallyAt (destCell c a zp) () 8192 := if_pos ⟨h.1, not_done_of_at h⟩
  have e2 : due c (n + 1) (a, zp) = 0 := if_neg fun h' => h'.2 (done_self h)
  rw [e1, e2, add_zero]
  congr 1
  refine Finset.sum_congr rfl fun x hx => due_congr (done_other h fun e => Finset.ne_of_mem_erase hx ?_)
  rw [AOp.send.injEq] at e; exact Prod.ext e.1 e.2

theorem dues_pos {g : GSem nD τ sig} (h : 0 < dues c n g ()) :
    ∃ x : Fin 10 × Fin 4, live (zOf c) x.1 x.2 = true ∧ ¬Done (zOf c) n (.send x.1 x.2) ∧ g = destCell c x.1 x.2 := by
  have key : ∀ s : Finset (Fin 10 × Fin 4), 0 < (∑ x ∈ s, due c n x) g () → ∃ x ∈ s, 0 < due c n x g () := by
    intro s; induction s using Finset.induction_on with
    | empty => intro h; simp at h
    | insert x s hx ih =>
      intro h; rw [Finset.sum_insert hx, Pi.add_apply, Finsupp.add_apply] at h
      rcases Nat.lt_or_ge 0 (due c n x g ()) with h' | h'
      · exact ⟨x, Finset.mem_insert_self _ _, h'⟩
      · obtain ⟨y, hy, hy'⟩ := ih (by omega)
        exact ⟨y, Finset.mem_insert_of_mem hy, hy'⟩
  obtain ⟨x, -, hx⟩ := key _ h
  unfold due at hx
  split at hx
  · rename_i hl
    rw [tallyAt_apply] at hx
    refine ⟨x, hl.1, hl.2, ?_⟩
    by_contra hne
    rw [if_neg (fun h' => hne h'.1)] at hx; exact absurd hx (Nat.lt_irrefl 0)
  · exact absurd hx (Nat.lt_irrefl 0)

/-- Where a wait is allowed: all that is owed is for later waits. -/
theorem mayWait (sm : SemLoc sig) (b : ℕ) (hb : lv ((c : Thread nD τ), sm) () ≤ b)
    (h : ∀ x : Fin 10 × Fin 4, live (zOf c) x.1 x.2 = true → ¬Done (zOf c) n (.send x.1 x.2) → b < lv (destCell c x.1 x.2) ()) :
    (levAts L lv : sProp 𝕄) ⊢ MayWait (c : Thread nD τ) sm () (dues c n) :=
  MayOwe.of_cut (L := L) (lev := lv) b (fun p hp => by rw [Finset.mem_singleton.mp hp, L_tc]; exact Finset.mem_singleton_self _)
    (fun g u hg => by obtain ⟨x, -, -, rfl⟩ := dues_pos hg; rw [L_tc]; exact Finset.mem_singleton_self _)
    (fun p hp => by rw [Finset.mem_singleton.mp hp]; exact hb)
    (fun g u hg => by obtain ⟨x, h1, h2, rfl⟩ := dues_pos hg; exact h x h1 h2)

end Steps

end Gather
-- ==== Proof.Steps.lean ====
module

public import proofs.«01_k».proof.Proof.State

/-! # One step at a time

Each step as a rule: from the state before its place to the state after it. -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F] [Named F]

local notation "𝕄" => MT nD τ sig Unit (Elt F) ℕ UU ℕ

abbrev 𝒱₀ : Variants := Variants.none

variable (I : Inp F) (K : GSem nD τ sig → ℕ) {c : Dev nD} {n : ℕ}

/-! ## Lending and taking back a share -/

def recvPos (c : Dev nD) (w : Fin 2) (zp k : Fin 4) : sProp 𝕄 :=
  if foreign (zOf c) zp k = true then atPos ER (recvCell c w (slotOf c zp k)) 1 ∅ 0 else atPos ER (recvCell c w (slotOf c zp k)) 0 ∅ 0

theorem recvSt_have {w : Fin 2} {zp k : Fin 4} (h : foreign (zOf c) zp k = true → Done (zOf c) n (.recv w zp k)) :
    recvSt I c n (w, zp, k) = iprop(recvPos (F := F) c w zp k ∗ pieces I c n w zp k) := by
  unfold recvSt recvPos
  by_cases hf : foreign (zOf c) zp k = true
  · rw [if_pos hf, if_pos (h hf), if_pos hf]
  · rw [if_neg hf, if_neg hf]

theorem send_have {a : Fin 10} {zp : Fin 4} (h : At (zOf c) n (.send a zp)) :
    foreign (zOf c) zp (srcK a) = true → Done (zOf c) n (.recv (kindW a) zp (srcK a)) := fun hf =>
  ⟨hf, h.2 ▸ (send_order (zOf c) a zp h.1).2.2 hf⟩
theorem swait_have {a : Fin 10} {zp : Fin 4} (h : At (zOf c) n (.swait a zp)) :
    foreign (zOf c) zp (srcK a) = true → Done (zOf c) n (.recv (kindW a) zp (srcK a)) := fun hf =>
  ⟨hf, by have := (swait_range (zOf c) a zp).1; have := recv_early (zOf c) (kindW a) zp (srcK a); have := h.2; omega⟩
theorem done_mono {op : AOp} (h : Done (zOf c) n op) : Done (zOf c) (n + 1) op := ⟨h.1, Nat.lt_succ_of_lt h.2⟩

theorem piece_idle {w : Fin 2} {zp k : Fin 4} {p : Fin (2 ^ 3)} (h : ¬Busy (zOf c) n w zp k p) :
    pieceSt I c n w zp k p = piecePts I c w zp k p := if_neg h
theorem piece_busy {w : Fin 2} {zp k : Fin 4} {p : Fin (2 ^ 3)} (h : Busy (zOf c) n w zp k p) :
    pieceSt I c n w zp k p = iprop(emp) := if_pos h

theorem lend {a : Fin 10} {zp : Fin 4} (h : At (zOf c) n (.send a zp)) :
    bigSep Finset.univ (recvSt I c n) ⊢ iprop(piecePts I c (kindW a) zp (srcK a) (piece a) ∗ bigSep Finset.univ (recvSt I c (n + 1))) := by
  have hoth : ∀ i : Fin 2 × Fin 4 × Fin 4, i ≠ (kindW a, zp, srcK a) → recvSt I c n i = recvSt I c (n + 1) i := fun i hi =>
    recvSt_congr I (done_other h (by simp)) (pieces_congr I
      (fun b e1 e2 => done_other h fun e => hi (by
        rw [AOp.send.injEq] at e; obtain ⟨rfl, e⟩ := e
        exact Prod.ext e1.symm (Prod.ext e e2.symm)))
      fun b _ _ => done_other h (by simp))
  have hp : ∀ p, p ≠ piece a → pieceSt I c n (kindW a) zp (srcK a) p = pieceSt I c (n + 1) (kindW a) zp (srcK a) p := fun p hp =>
    pieceSt_congr I (busy_congr (fun b e1 e2 e3 => done_other h fun e => hp (by rw [AOp.send.injEq] at e; rw [← e3, e.1]))
      fun b _ _ _ => done_other h (by simp))
  have nb : ¬Busy (zOf c) n (kindW a) zp (srcK a) (piece a) := by
    rintro ⟨b, e1, e2, e3, e4, -⟩
    obtain rfl := piece_unique _ _ e1 e2 e3
    exact not_done_of_at h e4
  have yb : Busy (zOf c) (n + 1) (kindW a) zp (srcK a) (piece a) :=
    ⟨a, rfl, rfl, rfl, done_self h, fun h' => by
      have := (send_order (zOf c) a zp h.1).2.1; have := h'.2; have := h.2; omega⟩
  have f1 := focus (recvSt I c n) (recvSt I c (n + 1)) (kindW a, zp, srcK a) hoth
  have f2 := focus (pieceSt I c n (kindW a) zp (srcK a)) (pieceSt I c (n + 1) (kindW a) zp (srcK a)) (piece a) hp
  rw [recvSt_have I (send_have h), recvSt_have I (fun hf => done_mono (send_have h hf))] at f1
  unfold pieces at f1
  refine f1.trans ?_
  iintro ⟨⟨Hpos, Hp⟩, Hk⟩
  ihave Hp' := f2 $$ Hp
  icases Hp' with ⟨Hq, Hr⟩
  isplitl [Hq]
  · iapply (Entails.of_eq (piece_idle I nb)); iexact Hq
  iapply Hk
  isplitl [Hpos]; · iexact Hpos
  iapply Hr
  iapply (Entails.of_eq (piece_busy I yb).symm)
  iempintro

theorem unlend {a : Fin 10} {zp : Fin 4} (h : At (zOf c) n (.swait a zp)) :
    iprop(bigSep Finset.univ (recvSt I c n) ∗ piecePts I c (kindW a) zp (srcK a) (piece a)) ⊢ bigSep Finset.univ (recvSt I c (n + 1)) := by
  have hoth : ∀ i : Fin 2 × Fin 4 × Fin 4, i ≠ (kindW a, zp, srcK a) → recvSt I c n i = recvSt I c (n + 1) i := fun i hi =>
    recvSt_congr I (done_other h (by simp)) (pieces_congr I
      (fun b _ _ => done_other h (by simp))
      (fun b e1 e2 => done_other h fun e => hi (by
        rw [AOp.swait.injEq] at e; obtain ⟨rfl, e⟩ := e
        exact Prod.ext e1.symm (Prod.ext e e2.symm))))
  have hp : ∀ p, p ≠ piece a → pieceSt I c n (kindW a) zp (srcK a) p = pieceSt I c (n + 1) (kindW a) zp (srcK a) p := fun p hp =>
    pieceSt_congr I (busy_congr (fun b _ _ _ => done_other h (by simp))
      fun b e1 e2 e3 => done_other h fun e => hp (by rw [AOp.swait.injEq] at e; rw [← e3, e.1]))
  have nb : ¬Busy (zOf c) (n + 1) (kindW a) zp (srcK a) (piece a) := by
    rintro ⟨b, e1, e2, e3, -, e4⟩
    obtain rfl := piece_unique _ _ e1 e2 e3
    exact e4 (done_self h)
  have f1 := focus (recvSt I c n) (recvSt I c (n + 1)) (kindW a, zp, srcK a) hoth
  have f2 := focus (pieceSt I c n (kindW a) zp (srcK a)) (pieceSt I c (n + 1) (kindW a) zp (srcK a)) (piece a) hp
  rw [recvSt_have I (swait_have h), recvSt_have I (fun hf => done_mono (swait_have h hf))] at f1
  unfold pieces at f1
  refine (sep_mono_left f1).trans ?_
  iintro ⟨⟨⟨Hpos, Hp⟩, Hk⟩, Hq⟩
  ihave Hp' := f2 $$ Hp
  icases Hp' with ⟨-, Hr⟩
  iapply Hk
  isplitl [Hpos]; · iexact Hpos
  iapply Hr
  iapply (Entails.of_eq (piece_idle I nb).symm)
  iexact Hq

/-- The share a slot is read at is never lent. -/
theorem readable {w : Fin 2} {zp k : Fin 4} (h : foreign (zOf c) zp k = true → Done (zOf c) n (.recv w zp k)) :
    bigSep Finset.univ (recvSt I c n) ⊢ iprop(piecePts I c w zp k 4 ∗ (piecePts I c w zp k 4 -∗ bigSep Finset.univ (recvSt I c n))) := by
  have nb : ¬Busy (zOf c) n w zp k 4 := by
    rintro ⟨b, -, -, e3, -⟩; exact piece_ne b e3
  have f1 := focus (recvSt I c n) (recvSt I c n) (w, zp, k) (fun _ _ => rfl)
  have f2 := focus (pieceSt I c n w zp k) (pieceSt I c n w zp k) 4 (fun _ _ => rfl)
  rw [recvSt_have I h] at f1
  unfold pieces at f1
  rw [show pieceSt I c n w zp k 4 = piecePts I c w zp k 4 from piece_idle I nb] at f2
  refine f1.trans ?_
  iintro ⟨⟨Hpos, Hp⟩, Hk⟩
  ihave Hp' := f2 $$ Hp
  icases Hp' with ⟨Hq, Hr⟩
  isplitl [Hq]; · iexact Hq
  iintro Hq
  iapply Hk
  isplitl [Hpos]; · iexact Hpos
  iapply Hr
  iexact Hq

/-- A whole slot is its eight shares. -/
theorem slot_shares (c : Dev nD) (w : Fin 2) (o : Fin 16) :
    slotPts I c w o fullShare = bigSep Finset.univ fun p : Fin (2 ^ 3) => slotPts I c w o (ShareLeaves.leaf 3 fullShare p) := by
  unfold slotPts; split
  · unfold ptsQ; exact ShareLeaves.pointsTo_leaves _ _ 3 fullShare
  · unfold ptsO; exact ShareLeaves.pointsTo_leaves _ _ 3 fullShare

theorem fill {w : Fin 2} {zp k : Fin 4} (h : At (zOf c) n (.recv w zp k)) :
    bigSep Finset.univ (recvSt I c n) ⊢ iprop((atPos ER (recvCell c w (slotOf c zp k)) 0 ∅ 0 ∗ cred (tallyAt (recvCell c w (slotOf c zp k)) () 8192))
      ∗ ((atPos ER (recvCell c w (slotOf c zp k)) 1 ∅ 0 ∗ slotPts I c w (slotOf c zp k) fullShare) -∗ bigSep Finset.univ (recvSt I c (n + 1)))) := by
  have hf : foreign (zOf c) zp k = true := h.1
  have hoth : ∀ i : Fin 2 × Fin 4 × Fin 4, i ≠ (w, zp, k) → recvSt I c n i = recvSt I c (n + 1) i := fun i hi =>
    recvSt_congr I (done_other h fun e => hi (by
        rw [AOp.recv.injEq] at e; exact Prod.ext e.1 (Prod.ext e.2.1 e.2.2)))
      (pieces_congr I (fun b _ _ => done_other h (by simp)) fun b _ _ => done_other h (by simp))
  have nb : ∀ p, ¬Busy (zOf c) (n + 1) w zp k p := by
    rintro p ⟨b, rfl, rfl, -, e4, -⟩
    have := (send_order (zOf c) b zp e4.1).2.2 hf
    have := e4.2; have := h.2; have := (send_order (zOf c) b zp e4.1).1; omega
  have f1 := focus (recvSt I c n) (recvSt I c (n + 1)) (w, zp, k) hoth
  have e1 : recvSt I c n (w, zp, k) = iprop(atPos ER (recvCell c w (slotOf c zp k)) 0 ∅ 0 ∗ cred (tallyAt (recvCell c w (slotOf c zp k)) () 8192)) := by
    unfold recvSt; rw [if_pos hf, if_neg (not_done_of_at h)]
  have e2 : recvSt I c (n + 1) (w, zp, k) = iprop(atPos ER (recvCell c w (slotOf c zp k)) 1 ∅ 0 ∗ slotPts I c w (slotOf c zp k) fullShare) := by
    unfold recvSt; rw [if_pos hf, if_pos (done_self h), slot_shares]
    congr 1
    refine bigSep_congr fun p _ => ?_
    unfold pieceSt piecePts; rw [if_neg (nb p), if_pos hf]
  rw [e1, e2] at f1
  exact f1

/-! ## Sending -/

/-- What the program's step does is stated of its continuation `k`; here of the step alone. -/
abbrev Run (c : Dev nD) {α : Type} (p : Prog (TpuEff nD τ sig (Elt F) Λ₀ (c : Thread nD τ).2) α) (Q : α → sProp 𝕄) : sProp 𝕄 :=
  wp frame (wpE (defs₀ (F := F)) 𝒱₀ (c : Thread nD τ) none) Set.univ p Q

theorem send_core {a : Fin 10} {zp : Fin 4} (h : At (zOf c) n (.send a zp)) {s : Shape} {e : EltTy} {d : Dev nD} (hdev : d = destOf c a)
    {src dst : Memref sig .tc .vmem s e} {sS sR : DmaSem sig} (hsS : sS = sendSem a zp)
    (hsR : sR = recvSem (kindW a) (slotOf c zp (srcK a))) {hsc : dst.view.ref.isScScratch = false}
    {hsrc : src.view.WordExact} {hdst : dst.view.WordExact} {hsem : DmaTarget.Typed .vmem (.dma sR) (.remote (Dev.tc d) dst (.dma sS) hsc)}
    (fs : Buf (Elt F) (src.view.loc (c : Thread nD τ)))
    (hN : dst.view.amount (.dma sR) = 8192)
    (h1 : piecePts I c (kindW a) zp (srcK a) (piece a) = (src.view.loc (c : Thread nD τ) ↦[src.view.set]{ShareLeaves.leaf 3 fullShare (piece a)} fs))
    (h2 : slotAny (F := F) d (kindW a) (slotOf c zp (srcK a)) = iprop(∃ fd, dst.view.loc (d : Thread nD τ) ↦[dst.view.set]{fullShare} fd))
    (h3 : ∀ fd, (dst.view.loc (d : Thread nD τ) ↦[dst.view.set]{fullShare} (dst.view.write (Elt F) fd (src.view.read (Elt F) fs) Finset.univ))
      ⊢ slotPts I d (kindW a) (slotOf c zp (srcK a)) fullShare) :
    St I K c n ⊢ Run (F := F) c (Prog.lift (.enqueueDma src (.remote (Dev.tc d) dst (.dma sS) hsc) (.dma sR) hsrc hdst hsem))
      (fun _ => St I K c (n + 1)) := by
  subst hdev hsS hsR
  have hl : live (zOf c) a zp = true := h.1
  have hs : ∀ i : Fin 10 × Fin 4, i ≠ (a, zp) → sendSt (F := F) c n i = sendSt (F := F) c (n + 1) i := fun i hi =>
    sendSt_congr (done_other h fun e => hi (by rw [AOp.send.injEq] at e; exact Prod.ext e.1 e.2)) (done_other h (by simp))
  have nsw : ∀ m, m ≤ n + 1 → ¬Done (zOf c) m (.swait a zp) := fun m hm h' => by
    have := (send_order (zOf c) a zp hl).2.1; have := h'.2; have := h.2; omega
  have e1 : sendSt (F := F) c n (a, zp) = iprop(atPos ER (sendCell c a zp) 0 ∅ 0 ∗ unsent (F := F) c (a, zp)) := by
    unfold sendSt; rw [if_pos hl, if_neg (nsw n (Nat.le_succ n)), if_neg (not_done_of_at h)]
  have e2 : sendSt (F := F) c (n + 1) (a, zp) = iprop(atPos ER (sendCell c a zp) 0 ∅ 0 ∗ cred (tallyAt (sendCell c a zp) () 8192)) := by
    unfold sendSt; rw [if_pos hl, if_neg (nsw (n + 1) (Nat.le_refl _)), if_pos (done_self h)]
  have f1 := focus (sendSt (F := F) c n) (sendSt (F := F) c (n + 1)) (a, zp) hs
  rw [e1, e2] at f1
  have f2 := lend I h
  rw [h1] at f2
  have hacc := acc_other I h (by simp)
  unfold St
  rw [hacc]
  iintro ⟨#HR, HS, HV, ⟨%W, HO⟩, HB⟩
  ihave HS' := f1 $$ HS
  icases HS' with ⟨⟨Hat, Hun⟩, HSk⟩
  ihave HV' := f2 $$ HV
  icases HV' with ⟨Hsrc, HV⟩
  unfold unsent
  icases Hun with ⟨#Hr1, Ht1, Ht2, #Hr2, Hany⟩
  ihave Hany' := (Entails.of_eq h2) $$ Hany
  icases Hany' with ⟨%fd, Hd⟩
  ihave #HI1 := (recs_inv I K (send_mem c a zp)) $$ HR
  ihave #HI2 := (recs_inv I K (recv_mem (destOf c a) (kindW a) (slotOf c zp (srcK a)))) $$ HR
  iapply (Rounds.wp_send_pointsTo 𝒱₀ ER (sched I) (c : Thread nD τ) none (c' := ((destOf c a : Dev nD) : Thread nD τ)) (src := src) (dst := dst)
    (sS := .dma (sendSem a zp)) (sem := .dma (recvSem (kindW a) (slotOf c zp (srcK a))))
    (q := ShareLeaves.leaf 3 fullShare (piece a)) (fs := fs) (κ₁ := K (sendCell c a zp)) (κ₂ := K (destCell c a zp)) (r₁ := 0) (r₂ := 0)
    (d₁ := 0) (d₂ := 0) (fd := fd)
    (by rw [duties_send I c hl]; exact Finset.mem_singleton_self _)
    (by rw [duties_recv I _ _ (dest_not_own c a zp hl)]; exact Finset.mem_singleton_self _)
    () () 8192 hN (amount_send I c a zp 0) (amount_recv I _ _ _ 0) (dues c (n + 1)) (dues_send h) (W := W)
    (by rw [payload_send, h1]) (by rw [payload_recv]; exact h3 fd)) $$ [Hsrc Hd HO Ht1 Ht2]
  · isplitl []; · iexact HI1
    isplitl []; · iexact HI2
    isplitl [Hsrc]; · iexact Hsrc
    isplitl [Hd]; · iexact Hd
    isplitl [HO]; · iexact HO
    isplitl [Ht1]; · iexact Ht1
    isplitl []; · iexact Hr1
    isplitl [Ht2]; · iexact Ht2
    iexact Hr2
  iintro ⟨Hc, HO⟩
  rw [wp_ret]; imodintro
  isplitl []; · iexact HR
  isplitl [HSk Hat Hc]
  · iapply HSk
    isplitl [Hat]; · iexact Hat
    iexact Hc
  isplitl [HV]; · iexact HV
  isplitl [HO]; · iexists W; iexact HO
  iexact HB

/-! ### The two weights -/

theorem slotQ_loc (d : Dev nD) (o : Fin 16) : (slotQ o).view.loc (d : Thread nD τ) = (d : Thread nD τ).loc cc0_scratch0 := rfl

/-- A slot of the gathered weights reads as the weight of the device of that number. -/
theorem read_gathQ (o : Fin 16) : (slotQ o).view.read (Elt F) (gathQ I) = I.wq o := by
  funext x
  show gathQ I ((Rect.unit (s := S16x512x256) ![o.val, 0, 0] S1x512x256.size (inbQ o)).emb (Shape.reshapeEquiv _ x)) = I.wq o x
  rw [Shape.reshapeEquiv_cons_one]
  have e0 : (Rect.unit (s := S16x512x256) ![o.val, 0, 0] S1x512x256.size (inbQ o)).emb (Fin.cons ⟨0, Nat.one_pos⟩ x) 0 = o :=
    Fin.ext (by show o.val + 1 * 0 = o.val; omega)
  unfold gathQ; rw [e0]
  congr 1; funext a
  match a with
  | ⟨0, _⟩ => exact Fin.ext (by show 0 + 1 * (x 0).val = (x 0).val; omega)
  | ⟨1, _⟩ => exact Fin.ext (by show 0 + 1 * (x 1).val = (x 1).val; omega)
theorem read_gathO (o : Fin 16) : (slotO o).view.read (Elt F) (gathO I) = I.wo o := by
  funext x
  show gathO I ((Rect.unit (s := S16x256x512) ![o.val, 0, 0] S1x256x512.size (inbO o)).emb (Shape.reshapeEquiv _ x)) = I.wo o x
  rw [Shape.reshapeEquiv_cons_one]
  have e0 : (Rect.unit (s := S16x256x512) ![o.val, 0, 0] S1x256x512.size (inbO o)).emb (Fin.cons ⟨0, Nat.one_pos⟩ x) 0 = o :=
    Fin.ext (by show o.val + 1 * 0 = o.val; omega)
  unfold gathO; rw [e0]
  congr 1; funext a
  match a with
  | ⟨0, _⟩ => exact Fin.ext (by show 0 + 1 * (x 0).val = (x 0).val; omega)
  | ⟨1, _⟩ => exact Fin.ext (by show 0 + 1 * (x 1).val = (x 1).val; omega)

theorem landedQ (d : Dev nD) (o : Fin 16) (fd : Buf (Elt F) ((slotQ o).view.loc (d : Thread nD τ))) :
    ((slotQ o).view.loc (d : Thread nD τ) ↦[(slotQ o).view.set]{fullShare} ((slotQ o).view.write (Elt F) fd (I.wq o) Finset.univ) : sProp 𝕄)
      = ptsQ d o fullShare (gathQ I) := by
  unfold ptsQ
  refine pointsTo_congr fun i hi => ?_
  rw [← read_gathQ I o, View.write_read_eq_piecewise]
  exact Finset.piecewise_eq_of_mem _ _ _ hi
theorem landedO (d : Dev nD) (o : Fin 16) (fd : Buf (Elt F) ((slotO o).view.loc (d : Thread nD τ))) :
    ((slotO o).view.loc (d : Thread nD τ) ↦[(slotO o).view.set]{fullShare} ((slotO o).view.write (Elt F) fd (I.wo o) Finset.univ) : sProp 𝕄)
      = ptsO d o fullShare (gathO I) := by
  unfold ptsO
  refine pointsTo_congr fun i hi => ?_
  rw [← read_gathO I o, View.write_read_eq_piecewise]
  exact Finset.piecewise_eq_of_mem _ _ _ hi

theorem own_zp : ∀ (c : Dev nD) (zp k : Fin 4), foreign (zOf c) zp k ≠ true → slotOf c zp k = c := by decide +kernel
theorem piecePts_foreign {w : Fin 2} {zp k : Fin 4} {p : Fin (2 ^ 3)} (hf : foreign (zOf c) zp k = true) :
    piecePts I c w zp k p = slotPts I c w (slotOf c zp k) (ShareLeaves.leaf 3 fullShare p) := if_pos hf
theorem piecePts_own {w : Fin 2} {zp k : Fin 4} {p : Fin (2 ^ 3)} (hf : foreign (zOf c) zp k ≠ true) :
    piecePts I c w zp k p = if w = 0 then stgPtsQ I c (ShareLeaves.leaf 3 fullShare p) else stgPtsO I c (ShareLeaves.leaf 3 fullShare p) := if_neg hf
theorem slotPtsQ (d : Dev nD) {w : Fin 2} (hw : w = 0) (o : Fin 16) (q : PosShare TreeShare) : slotPts I d w o q = ptsQ d o q (gathQ I) := if_pos hw
theorem slotPtsO (d : Dev nD) {w : Fin 2} (hw : w = 1) (o : Fin 16) (q : PosShare TreeShare) : slotPts I d w o q = ptsO d o q (gathO I) :=
  if_neg (by rw [hw]; decide)
theorem slotAnyQ (d : Dev nD) {w : Fin 2} (hw : w = 0) (o : Fin 16) : slotAny (F := F) d w o = iprop(∃ f, ptsQ (F := F) d o fullShare f) := if_pos hw
theorem slotAnyO (d : Dev nD) {w : Fin 2} (hw : w = 1) (o : Fin 16) : slotAny (F := F) d w o = iprop(∃ f, ptsO (F := F) d o fullShare f) :=
  if_neg (by rw [hw]; decide)

section Sends
variable {a : Fin 10} {zp : Fin 4} (h : At (zOf c) n (.send a zp)) {d : Dev nD} (hdev : d = destOf c a) {o : Fin 16} (ho : o = slotOf c zp (srcK a))
  {sS sR : DmaSem sig} (hsS : sS = sendSem a zp) (hsR : sR = recvSem (kindW a) o)
include h hdev ho hsS hsR

/-- A query weight sent on from the gathering buffer. -/
theorem step_fwdQ (hw : kindW a = 0) (hf : foreign (zOf c) zp (srcK a) = true) {hsc : (slotQ o).view.ref.isScScratch = false}
    {hsrc : (slotQ o).view.WordExact} {hdst : (slotQ o).view.WordExact} {hsem : DmaTarget.Typed .vmem (.dma sR) (.remote (Dev.tc d) (slotQ o) (.dma sS) hsc)} :
    St I K c n ⊢ Run (F := F) c (Prog.lift (.enqueueDma (slotQ o) (.remote (Dev.tc d) (slotQ o) (.dma sS) hsc) (.dma sR) hsrc hdst hsem))
      (fun _ => St I K c (n + 1)) := by
  subst ho
  refine send_core I K h hdev hsS hsR (gathQ I) rfl ?_ ?_ fun fd => ?_
  · rw [piecePts_foreign I hf, slotPtsQ I c hw]; rfl
  · rw [slotAnyQ _ hw]; rfl
  · rw [slotPtsQ I _ hw, read_gathQ, landedQ]
/-- The device's own query weight. -/
theorem step_ownQ (hw : kindW a = 0) (hf : foreign (zOf c) zp (srcK a) ≠ true) {hsc : (slotQ o).view.ref.isScScratch = false}
    {hsrc : stgQ.view.WordExact} {hdst : (slotQ o).view.WordExact} {hsem : DmaTarget.Typed .vmem (.dma sR) (.remote (Dev.tc d) (slotQ o) (.dma sS) hsc)} :
    St I K c n ⊢ Run (F := F) c (Prog.lift (.enqueueDma stgQ (.remote (Dev.tc d) (slotQ o) (.dma sS) hsc) (.dma sR) hsrc hdst hsem))
      (fun _ => St I K c (n + 1)) := by
  subst ho
  refine send_core I K h hdev hsS hsR (I.wq c) rfl ?_ ?_ fun fd => ?_
  · rw [piecePts_own I hf, if_pos hw]; rfl
  · rw [slotAnyQ _ hw]; rfl
  · rw [slotPtsQ I _ hw, View.read_whole, own_zp c _ _ hf, landedQ]
/-- An output weight sent on from the gathering buffer. -/
theorem step_fwdO (hw : kindW a = 1) (hf : foreign (zOf c) zp (srcK a) = true) {hsc : (slotO o).view.ref.isScScratch = false}
    {hsrc : (slotO o).view.WordExact} {hdst : (slotO o).view.WordExact} {hsem : DmaTarget.Typed .vmem (.dma sR) (.remote (Dev.tc d) (slotO o) (.dma sS) hsc)} :
    St I K c n ⊢ Run (F := F) c (Prog.lift (.enqueueDma (slotO o) (.remote (Dev.tc d) (slotO o) (.dma sS) hsc) (.dma sR) hsrc hdst hsem))
      (fun _ => St I K c (n + 1)) := by
  subst ho
  refine send_core I K h hdev hsS hsR (gathO I) rfl ?_ ?_ fun fd => ?_
  · rw [piecePts_foreign I hf, slotPtsO I c hw]; rfl
  · rw [slotAnyO _ hw]; rfl
  · rw [slotPtsO I _ hw, read_gathO, landedO]
/-- The device's own output weight. -/
theorem step_ownO (hw : kindW a = 1) (hf : foreign (zOf c) zp (srcK a) ≠ true) {hsc : (slotO o).view.ref.isScScratch = false}
    {hsrc : stgO.view.WordExact} {hdst : (slotO o).view.WordExact} {hsem : DmaTarget.Typed .vmem (.dma sR) (.remote (Dev.tc d) (slotO o) (.dma sS) hsc)} :
    St I K c n ⊢ Run (F := F) c (Prog.lift (.enqueueDma stgO (.remote (Dev.tc d) (slotO o) (.dma sS) hsc) (.dma sR) hsrc hdst hsem))
      (fun _ => St I K c (n + 1)) := by
  subst ho
  refine send_core I K h hdev hsS hsR (I.wo c) rfl ?_ ?_ fun fd => ?_
  · rw [piecePts_own I hf, if_neg (by rw [hw]; decide)]; rfl
  · rw [slotAnyO _ hw]; rfl
  · rw [slotPtsO I _ hw, View.read_whole, own_zp c _ _ hf, landedO]

end Sends

/-! ## Waiting -/

theorem wait_credit_Q (o : Fin 16) (s : DmaSem sig) : (slotQ o).view.amount (.dma s) = 8192 := rfl

/-- A transfer's arrival. -/
theorem recv_core {w : Fin 2} {zp k : Fin 4} (h : At (zOf c) n (.recv w zp k)) {s : Shape} {e : EltTy}
    {src dst : Memref sig .tc .vmem s e} {sS : DmaSem sig} (hsS : sS = recvSem w (slotOf c zp k))
    {hsrc : src.view.WordExact} {hdst : dst.view.WordExact} (hN : dst.view.dmaCredit = 8192) :
    St I K c n ⊢ Run (F := F) c (Prog.lift (.waitDma2 sS src dst hsrc hdst)) (fun _ => St I K c (n + 1)) := by
  subst hsS
  have hf : foreign (zOf c) zp k = true := h.1
  have hs : sendSt (F := F) c n = sendSt (F := F) c (n + 1) := funext fun x => sendSt_congr (done_other h (by simp)) (done_other h (by simp))
  have f2 := fill I h
  have hacc := acc_other I h (by simp)
  have hdue := dues_other h (by simp)
  have hexp := expect_recv I c w (slot_ne_own c zp k hf)
  have hmw := mayWait (F := F) (c := c) (n := n) (.dma (recvSem w (slotOf c zp k))) (level (zOf c) zp k) (by rw [lv_recv]) fun x hl hd => by
    rw [lv_dest _ _ _ hl]
    exact level_order _ _ _ _ hf _ _ hl (by
      have h1 : ¬pos (zOf c) (.send x.1 x.2) < n := fun h' => hd ⟨hl, h'⟩
      have h2 : pos (zOf c) (.recv w zp k) = n := h.2
      rcases Nat.lt_trichotomy (pos (zOf c) (.recv w zp k)) (pos (zOf c) (.send x.1 x.2)) with h3 | h3 | h3
      · exact h3
      · exact absurd (at_unique (n := n) (x := .send x.1 x.2) ⟨hl, by omega⟩ h) (by simp)
      · omega)
  have hmw' := (recs_lev I K).trans hmw
  unfold St
  rw [hacc, hs, hdue]
  iintro ⟨#HR, HS, HV, ⟨%W, HO⟩, HB⟩
  ihave HV' := f2 $$ HV
  icases HV' with ⟨⟨Hat, Hc⟩, HVk⟩
  ihave #HI := (recs_inv I K (recv_mem c w (slotOf c zp k))) $$ HR
  ihave Hc := (Entails.of_eq (congrArg (fun N => (cred (tallyAt (recvCell c w (slotOf c zp k)) () N) : sProp 𝕄)) hN.symm)) $$ Hc
  iapply (Rounds.wp_wait_rest_token 𝒱₀ ER (sched I) (c : Thread nD τ) none (κ := K (recvCell c w (slotOf c zp k)))
    (wpE_waitDma2_eq 𝒱₀ (c : Thread nD τ) none Set.univ) (Set.mem_univ _) () (O := dues c n) (W := W) (R := 0) (m := 0) (T := ∅)
    (by rw [Nat.zero_add, hexp, hN])) $$ [Hc HO Hat]
  · isplitl []; · iexact HI
    isplitl [Hc]; · iexact Hc
    isplitl [HO]; · iexact HO
    isplitl []
    · iapply hmw'; iexact HR
    iexact Hat
  iintro ⟨HO, Hat, -, Hp⟩
  ihave Hp' := (Entails.of_eq (rest_recv I c w (slot_ne_own c zp k hf))) $$ Hp
  rw [wp_ret]; imodintro
  isplitl []; · iexact HR
  isplitl [HS]; · iexact HS
  isplitl [HVk Hat Hp']
  · iapply HVk
    isplitl [Hat]; · iexact Hat
    iexact Hp'
  isplitl [HO]; · iexists _; iexact HO
  iexact HB

/-- The end of a send: its share comes back. -/
theorem swait_core {a : Fin 10} {zp : Fin 4} (h : At (zOf c) n (.swait a zp)) {s : Shape} {e : EltTy}
    {src dst : Memref sig .tc .vmem s e} {sS : DmaSem sig} (hsS : sS = sendSem a zp)
    {hsrc : src.view.WordExact} {hdst : dst.view.WordExact} (hN : dst.view.dmaCredit = 8192) :
    St I K c n ⊢ Run (F := F) c (Prog.lift (.waitDma2 sS src dst hsrc hdst)) (fun _ => St I K c (n + 1)) := by
  subst hsS
  have hl : live (zOf c) a zp = true := h.1
  have hs : ∀ i : Fin 10 × Fin 4, i ≠ (a, zp) → sendSt (F := F) c n i = sendSt (F := F) c (n + 1) i := fun i hi =>
    sendSt_congr (done_other h (by simp)) (done_other h fun e => hi (by rw [AOp.swait.injEq] at e; exact Prod.ext e.1 e.2))
  have hsent : Done (zOf c) n (.send a zp) := ⟨hl, h.2 ▸ (send_order (zOf c) a zp hl).2.1⟩
  have e1 : sendSt (F := F) c n (a, zp) = iprop(atPos ER (sendCell c a zp) 0 ∅ 0 ∗ cred (tallyAt (sendCell c a zp) () 8192)) := by
    unfold sendSt; rw [if_pos hl, if_neg (not_done_of_at h), if_pos hsent]
  have e2 : sendSt (F := F) c (n + 1) (a, zp) = atPos ER (sendCell c a zp) 1 ∅ 0 := by
    unfold sendSt; rw [if_pos hl, if_pos (done_self h)]
  have f1 := focus (sendSt (F := F) c n) (sendSt (F := F) c (n + 1)) (a, zp) hs
  rw [e1, e2] at f1
  have f2 := unlend I h
  have hacc := acc_other I h (by simp)
  have hdue := dues_other h (by simp)
  have hexp := expect_send I c hl
  have hmw := mayWait (F := F) (c := c) (n := n) (.dma (sendSem a zp)) 0 (Nat.le_of_eq (lv_send c a zp)) fun x hl' hd => absurd
    (show Done (zOf c) n (.send x.1 x.2) from ⟨hl', by
      have := (send_order (zOf c) x.1 x.2 hl').1; have := (swait_range (zOf c) a zp).1; have := h.2; omega⟩) hd
  have hmw' := (recs_lev I K).trans hmw
  unfold St
  rw [hacc, hdue]
  iintro ⟨#HR, HS, HV, ⟨%W, HO⟩, HB⟩
  ihave HS' := f1 $$ HS
  icases HS' with ⟨⟨Hat, Hc⟩, HSk⟩
  ihave #HI := (recs_inv I K (send_mem c a zp)) $$ HR
  ihave Hc := (Entails.of_eq (congrArg (fun N => (cred (tallyAt (sendCell c a zp) () N) : sProp 𝕄)) hN.symm)) $$ Hc
  iapply (Rounds.wp_wait_rest_token 𝒱₀ ER (sched I) (c : Thread nD τ) none (κ := K (sendCell c a zp))
    (wpE_waitDma2_eq 𝒱₀ (c : Thread nD τ) none Set.univ) (Set.mem_univ _) () (O := dues c n) (W := W) (R := 0) (m := 0) (T := ∅)
    (by rw [Nat.zero_add, hexp, hN])) $$ [Hc HO Hat]
  · isplitl []; · iexact HI
    isplitl [Hc]; · iexact Hc
    isplitl [HO]; · iexact HO
    isplitl []
    · iapply hmw'; iexact HR
    iexact Hat
  iintro ⟨HO, Hat, -, Hp⟩
  ihave Hp' := (Entails.of_eq (rest_send I c hl)) $$ Hp
  rw [wp_ret]; imodintro
  isplitl []; · iexact HR
  isplitl [HSk Hat]
  · iapply HSk; iexact Hat
  isplitl [HV Hp']
  · iapply f2
    isplitl [HV]; · iexact HV
    iexact Hp'
  isplitl [HO]; · iexists _; iexact HO
  iexact HB

/-! ## Loading and storing -/

/-- A weight as the one-slot value a load returns. -/
def rowQ (f : S512x256.Idx → Elt F .bf16) : S1x512x256.Idx → Elt F .bf16 := fun i => f (fun | ⟨0, _⟩ => i 1 | ⟨1, _⟩ => i 2)
def rowO (f : S256x512.Idx → Elt F .bf16) : S1x256x512.Idx → Elt F .bf16 := fun i => f (fun | ⟨0, _⟩ => i 1 | ⟨1, _⟩ => i 2)

theorem bindU {n' : ℕ} {α : Type} {p : Prog (TpuEff nD τ sig (Elt F) Λ₀ .tc) PUnit} {k : PUnit → Prog (TpuEff nD τ sig (Elt F) Λ₀ .tc) α} {Q : α → sProp 𝕄}
    (h : St I K c n ⊢ Run (F := F) c p (fun _ => St I K c n')) (hk : St I K c n' ⊢ Run (F := F) c (k ⟨⟩) Q) :
    St I K c n ⊢ Run (F := F) c (p >>= k) Q := by
  show _ ⊢ wp _ _ _ _ _
  rw [wp_bind]
  exact h.trans (wp_mono _ _ _ fun _ => hk)

section Loads
variable {α : Type}

theorem step_loadQ {Q : α → sProp 𝕄} {zp k : Fin 4} (hf : foreign (zOf c) zp k = true) (hd : Done (zOf c) n (.recv 0 zp k)) {off : Fin 3 → ℕ}
    {inb : ∀ a, off a + S1x512x256.size a ≤ S16x512x256.size a} (hoff : off = ![(slotOf c zp k).val, 0, 0])
    {hl : (Memref.whole cc0_scratch0).view.LoadsAt (Rect.unit (s := S16x512x256) off S1x512x256.size inb).toLoadRect}
    {p : (S1x512x256.Idx → Elt F .bf16) → Prog (TpuEff nD τ sig (Elt F) Λ₀ .tc) α}
    (hk : St I K c n ⊢ Run (F := F) c (p (rowQ (I.wq (slotOf c zp k)))) Q) :
    St I K c n ⊢ Run (F := F) c (Prog.lift (.load (Memref.whole cc0_scratch0) (Rect.unit (s := S16x512x256) off S1x512x256.size inb).toLoadRect hl) >>= p) Q := by
  subst hoff
  have f2 := readable I (c := c) (n := n) (w := 0) (zp := zp) (k := k) fun _ => hd
  rw [piecePts_foreign I hf, slotPtsQ I c rfl] at f2
  unfold ptsQ at f2
  have hv : ((Memref.whole cc0_scratch0).access (Rect.unit (s := S16x512x256) ![(slotOf c zp k).val, 0, 0] S1x512x256.size inb)).read (Elt F) (gathQ I)
      = rowQ (I.wq (slotOf c zp k)) := by
    funext x
    show gathQ I ((Rect.unit (s := S16x512x256) ![(slotOf c zp k).val, 0, 0] S1x512x256.size inb).emb x) = _
    have e0 : (Rect.unit (s := S16x512x256) ![(slotOf c zp k).val, 0, 0] S1x512x256.size inb).emb x 0 = slotOf c zp k :=
      Fin.ext (by
        have : (x 0).val < 1 := (x 0).isLt
        show (slotOf c zp k).val + 1 * (x 0).val = (slotOf c zp k).val; omega)
    unfold gathQ rowQ; rw [e0]
    congr 1; funext a
    match a with
    | ⟨0, _⟩ => exact Fin.ext (by show 0 + 1 * (x 1).val = (x 1).val; omega)
    | ⟨1, _⟩ => exact Fin.ext (by show 0 + 1 * (x 2).val = (x 2).val; omega)
  unfold St at hk ⊢
  iintro ⟨#HR, HS, HV, HO, HB⟩
  ihave HV' := f2 $$ HV
  icases HV' with ⟨Hp, HVk⟩
  iapply (wp_load_rect 𝒱₀ (c : Thread nD τ) none Set.univ (m := Memref.whole cc0_scratch0)
    (r := Rect.unit (s := S16x512x256) ![(slotOf c zp k).val, 0, 0] S1x512x256.size inb) (S := (slotQ (slotOf c zp k)).view.set)
    (by rw [View.set_reshape])) $$ [Hp]
  · iexact Hp
  iintro Hp
  rw [hv]
  iapply hk
  isplitl []; · iexact HR
  isplitl [HS]; · iexact HS
  isplitl [HVk Hp]
  · iapply HVk; iexact Hp
  isplitl [HO]; · iexact HO
  iexact HB

theorem step_loadO {Q : α → sProp 𝕄} {zp k : Fin 4} (hf : foreign (zOf c) zp k = true) (hd : Done (zOf c) n (.recv 1 zp k)) {off : Fin 3 → ℕ}
    {inb : ∀ a, off a + S1x256x512.size a ≤ S16x256x512.size a} (hoff : off = ![(slotOf c zp k).val, 0, 0])
    {hl : (Memref.whole cc0_scratch1).view.LoadsAt (Rect.unit (s := S16x256x512) off S1x256x512.size inb).toLoadRect}
    {p : (S1x256x512.Idx → Elt F .bf16) → Prog (TpuEff nD τ sig (Elt F) Λ₀ .tc) α}
    (hk : St I K c n ⊢ Run (F := F) c (p (rowO (I.wo (slotOf c zp k)))) Q) :
    St I K c n ⊢ Run (F := F) c (Prog.lift (.load (Memref.whole cc0_scratch1) (Rect.unit (s := S16x256x512) off S1x256x512.size inb).toLoadRect hl) >>= p) Q := by
  subst hoff
  have f2 := readable I (c := c) (n := n) (w := 1) (zp := zp) (k := k) fun _ => hd
  rw [piecePts_foreign I hf, slotPtsO I c rfl] at f2
  unfold ptsO at f2
  have hv : ((Memref.whole cc0_scratch1).access (Rect.unit (s := S16x256x512) ![(slotOf c zp k).val, 0, 0] S1x256x512.size inb)).read (Elt F) (gathO I)
      = rowO (I.wo (slotOf c zp k)) := by
    funext x
    show gathO I ((Rect.unit (s := S16x256x512) ![(slotOf c zp k).val, 0, 0] S1x256x512.size inb).emb x) = _
    have e0 : (Rect.unit (s := S16x256x512) ![(slotOf c zp k).val, 0, 0] S1x256x512.size inb).emb x 0 = slotOf c zp k :=
      Fin.ext (by
        have : (x 0).val < 1 := (x 0).isLt
        show (slotOf c zp k).val + 1 * (x 0).val = (slotOf c zp k).val; omega)
    unfold gathO rowO; rw [e0]
    congr 1; funext a
    match a with
    | ⟨0, _⟩ => exact Fin.ext (by show 0 + 1 * (x 1).val = (x 1).val; omega)
    | ⟨1, _⟩ => exact Fin.ext (by show 0 + 1 * (x 2).val = (x 2).val; omega)
  unfold St at hk ⊢
  iintro ⟨#HR, HS, HV, HO, HB⟩
  ihave HV' := f2 $$ HV
  icases HV' with ⟨Hp, HVk⟩
  iapply (wp_load_rect 𝒱₀ (c : Thread nD τ) none Set.univ (m := Memref.whole cc0_scratch1)
    (r := Rect.unit (s := S16x256x512) ![(slotOf c zp k).val, 0, 0] S1x256x512.size inb) (S := (slotO (slotOf c zp k)).view.set)
    (by rw [View.set_reshape])) $$ [Hp]
  · iexact Hp
  iintro Hp
  rw [hv]
  iapply hk
  isplitl []; · iexact HR
  isplitl [HS]; · iexact HS
  isplitl [HVk Hp]
  · iapply HVk; iexact Hp
  isplitl [HO]; · iexact HO
  iexact HB

theorem stage_zero3 : (![0, 0, 0] : Fin 3 → ℕ) = fun _ => 0 := by decide
theorem stage_zero2 : (![0, 0] : Fin 2 → ℕ) = fun _ => 0 := by decide

theorem step_loadx {Q : α → sProp 𝕄} {inb : ∀ a, (![0, 0, 0] : Fin 3 → ℕ) a + S2x128x512.size a ≤ S2x128x512.size a}
    {hl : (Memref.whole cc0_stg0_0).view.LoadsAt (Rect.unit (s := S2x128x512) ![0, 0, 0] S2x128x512.size inb).toLoadRect}
    {p : (S2x128x512.Idx → Elt F .f32) → Prog (TpuEff nD τ sig (Elt F) Λ₀ .tc) α}
    (hk : St I K c n ⊢ Run (F := F) c (p (I.x c)) Q) :
    St I K c n ⊢ Run (F := F) c (Prog.lift (.load (Memref.whole cc0_stg0_0) (Rect.unit (s := S2x128x512) ![0, 0, 0] S2x128x512.size inb).toLoadRect hl) >>= p) Q := by
  have hv : ((Memref.whole cc0_stg0_0).access (Rect.unit (s := S2x128x512) ![0, 0, 0] S2x128x512.size inb)).read (Elt F) (I.x c) = (I.x c) :=
    Memref.read_access_unit_zero (Elt F) cc0_stg0_0 stage_zero3 inb (I.x c)
  unfold St bufs at hk ⊢
  iintro ⟨#HR, HS, HV, HO, ⟨H1, H2, H3, H4⟩⟩
  iapply (wp_load_rect 𝒱₀ (c : Thread nD τ) none Set.univ (m := Memref.whole cc0_stg0_0)
    (r := Rect.unit (s := S2x128x512) ![0, 0, 0] S2x128x512.size inb) (S := Finset.univ) (Finset.subset_univ _)) $$ [H1]
  · iexact H1
  iintro H1
  rw [hv]
  iapply hk
  isplitl []; · iexact HR
  isplitl [HS]; · iexact HS
  isplitl [HV]; · iexact HV
  isplitl [HO]; · iexact HO
  isplitl [H1]; · iexact H1
  isplitl [H2]; · iexact H2
  isplitl [H3]; · iexact H3
  iexact H4

theorem step_loadacc {Q : α → sProp 𝕄} {inb : ∀ a, (![0, 0, 0] : Fin 3 → ℕ) a + S2x128x512.size a ≤ S2x128x512.size a}
    {hl : (Memref.whole cc0_stg5_0).view.LoadsAt (Rect.unit (s := S2x128x512) ![0, 0, 0] S2x128x512.size inb).toLoadRect}
    {p : (S2x128x512.Idx → Elt F .f32) → Prog (TpuEff nD τ sig (Elt F) Λ₀ .tc) α}
    (hk : St I K c n ⊢ Run (F := F) c (p (acc I c n)) Q) :
    St I K c n ⊢ Run (F := F) c (Prog.lift (.load (Memref.whole cc0_stg5_0) (Rect.unit (s := S2x128x512) ![0, 0, 0] S2x128x512.size inb).toLoadRect hl) >>= p) Q := by
  have hv : ((Memref.whole cc0_stg5_0).access (Rect.unit (s := S2x128x512) ![0, 0, 0] S2x128x512.size inb)).read (Elt F) (acc I c n) = (acc I c n) :=
    Memref.read_access_unit_zero (Elt F) cc0_stg5_0 stage_zero3 inb (acc I c n)
  unfold St bufs at hk ⊢
  iintro ⟨#HR, HS, HV, HO, ⟨H1, H2, H3, H4⟩⟩
  iapply (wp_load_rect 𝒱₀ (c : Thread nD τ) none Set.univ (m := Memref.whole cc0_stg5_0)
    (r := Rect.unit (s := S2x128x512) ![0, 0, 0] S2x128x512.size inb) (S := Finset.univ) (Finset.subset_univ _)) $$ [H4]
  · iexact H4
  iintro H4
  rw [hv]
  iapply hk
  isplitl []; · iexact HR
  isplitl [HS]; · iexact HS
  isplitl [HV]; · iexact HV
  isplitl [HO]; · iexact HO
  isplitl [H1]; · iexact H1
  isplitl [H2]; · iexact H2
  isplitl [H3]; · iexact H3
  iexact H4

theorem read_heads (b : Ref sig .tc) (o : Fin 16) {inb : ∀ a, (![4 * o.val, 0, 0, 0] : Fin 4 → ℕ) a + S4x2x128x64.size a ≤ S64x2x128x64.size a}
    (f : S64x2x128x64.Idx → Elt F .f32) :
    (fun x => f ((Rect.unit (s := S64x2x128x64) ![4 * o.val, 0, 0, 0] S4x2x128x64.size inb).emb x)) = heads o f := by
  funext x
  unfold heads
  congr 1; funext a
  match a with
  | ⟨0, _⟩ => exact Fin.ext (by show 4 * o.val + 1 * (x 0).val = 4 * o.val + (x 0).val; omega)
  | ⟨1, _⟩ => exact Fin.ext (by show 0 + 1 * (x 1).val = (x 1).val; omega)
  | ⟨2, _⟩ => exact Fin.ext (by show 0 + 1 * (x 2).val = (x 2).val; omega)
  | ⟨3, _⟩ => exact Fin.ext (by show 0 + 1 * (x 3).val = (x 3).val; omega)

theorem step_loadk {Q : α → sProp 𝕄} (o : Fin 16) {off : Fin 4 → ℕ} (hoff : off = ![4 * o.val, 0, 0, 0])
    {inb : ∀ a, off a + S4x2x128x64.size a ≤ S64x2x128x64.size a}
    {hl : (Memref.whole cc0_stg2_0).view.LoadsAt (Rect.unit (s := S64x2x128x64) off S4x2x128x64.size inb).toLoadRect}
    {p : (S4x2x128x64.Idx → Elt F .f32) → Prog (TpuEff nD τ sig (Elt F) Λ₀ .tc) α}
    (hk : St I K c n ⊢ Run (F := F) c (p (heads o (I.kt c))) Q) :
    St I K c n ⊢ Run (F := F) c (Prog.lift (.load (Memref.whole cc0_stg2_0) (Rect.unit (s := S64x2x128x64) off S4x2x128x64.size inb).toLoadRect hl) >>= p) Q := by
  subst hoff
  have hv : ((Memref.whole cc0_stg2_0).access (Rect.unit (s := S64x2x128x64) ![4 * o.val, 0, 0, 0] S4x2x128x64.size inb)).read (Elt F) (I.kt c)
    = heads o (I.kt c) := read_heads cc0_stg2_0 o (I.kt c)
  unfold St bufs at hk ⊢
  iintro ⟨#HR, HS, HV, HO, ⟨H1, H2, H3, H4⟩⟩
  iapply (wp_load_rect 𝒱₀ (c : Thread nD τ) none Set.univ (m := Memref.whole cc0_stg2_0)
    (r := Rect.unit (s := S64x2x128x64) ![4 * o.val, 0, 0, 0] S4x2x128x64.size inb) (S := Finset.univ) (Finset.subset_univ _)) $$ [H2]
  · iexact H2
  iintro H2
  rw [hv]
  iapply hk
  isplitl []; · iexact HR
  isplitl [HS]; · iexact HS
  isplitl [HV]; · iexact HV
  isplitl [HO]; · iexact HO
  isplitl [H1]; · iexact H1
  isplitl [H2]; · iexact H2
  isplitl [H3]; · iexact H3
  iexact H4

theorem step_loadv {Q : α → sProp 𝕄} (o : Fin 16) {off : Fin 4 → ℕ} (hoff : off = ![4 * o.val, 0, 0, 0])
    {inb : ∀ a, off a + S4x2x128x64.size a ≤ S64x2x128x64.size a}
    {hl : (Memref.whole cc0_stg3_0).view.LoadsAt (Rect.unit (s := S64x2x128x64) off S4x2x128x64.size inb).toLoadRect}
    {p : (S4x2x128x64.Idx → Elt F .f32) → Prog (TpuEff nD τ sig (Elt F) Λ₀ .tc) α}
    (hk : St I K c n ⊢ Run (F := F) c (p (heads o (I.vt c))) Q) :
    St I K c n ⊢ Run (F := F) c (Prog.lift (.load (Memref.whole cc0_stg3_0) (Rect.unit (s := S64x2x128x64) off S4x2x128x64.size inb).toLoadRect hl) >>= p) Q := by
  subst hoff
  have hv : ((Memref.whole cc0_stg3_0).access (Rect.unit (s := S64x2x128x64) ![4 * o.val, 0, 0, 0] S4x2x128x64.size inb)).read (Elt F) (I.vt c)
    = heads o (I.vt c) := read_heads cc0_stg3_0 o (I.vt c)
  unfold St bufs at hk ⊢
  iintro ⟨#HR, HS, HV, HO, ⟨H1, H2, H3, H4⟩⟩
  iapply (wp_load_rect 𝒱₀ (c : Thread nD τ) none Set.univ (m := Memref.whole cc0_stg3_0)
    (r := Rect.unit (s := S64x2x128x64) ![4 * o.val, 0, 0, 0] S4x2x128x64.size inb) (S := Finset.univ) (Finset.subset_univ _)) $$ [H3]
  · iexact H3
  iintro H3
  rw [hv]
  iapply hk
  isplitl []; · iexact HR
  isplitl [HS]; · iexact HS
  isplitl [HV]; · iexact HV
  isplitl [HO]; · iexact HO
  isplitl [H1]; · iexact H1
  isplitl [H2]; · iexact H2
  isplitl [H3]; · iexact H3
  iexact H4

theorem own_false : ∀ z : Fin 4, ¬foreign z z 0 = true := by decide

/-- The device's own weights, read where they were staged. -/
theorem step_loadwq {Q : α → sProp 𝕄} {inb : ∀ a, (![0, 0] : Fin 2 → ℕ) a + S512x256.size a ≤ S512x256.size a}
    {hl : (Memref.whole cc0_stg1_0).view.LoadsAt (Rect.unit (s := S512x256) ![0, 0] S512x256.size inb).toLoadRect}
    {p : (S512x256.Idx → Elt F .bf16) → Prog (TpuEff nD τ sig (Elt F) Λ₀ .tc) α}
    (hk : St I K c n ⊢ Run (F := F) c (p (I.wq c)) Q) :
    St I K c n ⊢ Run (F := F) c (Prog.lift (.load (Memref.whole cc0_stg1_0) (Rect.unit (s := S512x256) ![0, 0] S512x256.size inb).toLoadRect hl) >>= p) Q := by
  have hv : ((Memref.whole cc0_stg1_0).access (Rect.unit (s := S512x256) ![0, 0] S512x256.size inb)).read (Elt F) (I.wq c) = (I.wq c) :=
    Memref.read_access_unit_zero (Elt F) cc0_stg1_0 stage_zero2 inb (I.wq c)
  have f2 := readable I (c := c) (n := n) (w := 0) (zp := zOf c) (k := 0) fun h => absurd h (own_false _)
  rw [piecePts_own I (own_false _), if_pos rfl] at f2
  unfold stgPtsQ at f2
  unfold St at hk ⊢
  iintro ⟨#HR, HS, HV, HO, HB⟩
  ihave HV' := f2 $$ HV
  icases HV' with ⟨Hp, HVk⟩
  iapply (wp_load_rect 𝒱₀ (c : Thread nD τ) none Set.univ (m := Memref.whole cc0_stg1_0)
    (r := Rect.unit (s := S512x256) ![0, 0] S512x256.size inb) (S := stgQ.view.set)
    (by rw [View.set_whole]; exact Finset.subset_univ _)) $$ [Hp]
  · iexact Hp
  iintro Hp
  rw [hv]
  iapply hk
  isplitl []; · iexact HR
  isplitl [HS]; · iexact HS
  isplitl [HVk Hp]
  · iapply HVk; iexact Hp
  isplitl [HO]; · iexact HO
  iexact HB

theorem step_loadwo {Q : α → sProp 𝕄} {inb : ∀ a, (![0, 0] : Fin 2 → ℕ) a + S256x512.size a ≤ S256x512.size a}
    {hl : (Memref.whole cc0_stg4_0).view.LoadsAt (Rect.unit (s := S256x512) ![0, 0] S256x512.size inb).toLoadRect}
    {p : (S256x512.Idx → Elt F .bf16) → Prog (TpuEff nD τ sig (Elt F) Λ₀ .tc) α}
    (hk : St I K c n ⊢ Run (F := F) c (p (I.wo c)) Q) :
    St I K c n ⊢ Run (F := F) c (Prog.lift (.load (Memref.whole cc0_stg4_0) (Rect.unit (s := S256x512) ![0, 0] S256x512.size inb).toLoadRect hl) >>= p) Q := by
  have hv : ((Memref.whole cc0_stg4_0).access (Rect.unit (s := S256x512) ![0, 0] S256x512.size inb)).read (Elt F) (I.wo c) = (I.wo c) :=
    Memref.read_access_unit_zero (Elt F) cc0_stg4_0 stage_zero2 inb (I.wo c)
  have f2 := readable I (c := c) (n := n) (w := 1) (zp := zOf c) (k := 0) fun h => absurd h (own_false _)
  rw [piecePts_own I (own_false _), if_neg (by decide)] at f2
  unfold stgPtsO at f2
  unfold St at hk ⊢
  iintro ⟨#HR, HS, HV, HO, HB⟩
  ihave HV' := f2 $$ HV
  icases HV' with ⟨Hp, HVk⟩
  iapply (wp_load_rect 𝒱₀ (c : Thread nD τ) none Set.univ (m := Memref.whole cc0_stg4_0)
    (r := Rect.unit (s := S256x512) ![0, 0] S256x512.size inb) (S := stgO.view.set)
    (by rw [View.set_whole]; exact Finset.subset_univ _)) $$ [Hp]
  · iexact Hp
  iintro Hp
  rw [hv]
  iapply hk
  isplitl []; · iexact HR
  isplitl [HS]; · iexact HS
  isplitl [HVk Hp]
  · iapply HVk; iexact Hp
  isplitl [HO]; · iexact HO
  iexact HB

end Loads

/-- Adding a slot's product to the result. -/
theorem step_chunk {zp k : Fin 4} (h : At (zOf c) n (.chunk zp k)) {v : S2x128x512.Idx → Elt F .f32}
    (hvv : v = chunkVal (I.x c) (I.wq (slotOf c zp k)) (I.wo (slotOf c zp k)) (heads (slotOf c zp k) (I.kt c)) (heads (slotOf c zp k) (I.vt c)) (acc I c n))
    {inb : ∀ a, (![0, 0, 0] : Fin 3 → ℕ) a + S2x128x512.size a ≤ S2x128x512.size a}
    {hx : ((Memref.whole cc0_stg5_0).access (Rect.unit (s := S2x128x512) ![0, 0, 0] S2x128x512.size inb)).Stores Finset.univ}
    {hm : (Finset.univ : Finset (Rect.unit (s := S2x128x512) ![0, 0, 0] S2x128x512.size inb).shape.Idx) = Finset.univ ∨ ∀ a, (Rect.unit (s := S2x128x512) ![0, 0, 0] S2x128x512.size inb).stride a = 1} :
    St I K c n ⊢ Run (F := F) c (Prog.lift (.store (Memref.whole cc0_stg5_0) (Rect.unit (s := S2x128x512) ![0, 0, 0] S2x128x512.size inb) v Finset.univ hx hm))
      (fun _ => St I K c (n + 1)) := by
  have hs : sendSt (F := F) c n = sendSt (F := F) c (n + 1) := funext fun x => sendSt_congr (done_other h (by simp)) (done_other h (by simp))
  have hr : recvSt I c n = recvSt I c (n + 1) := funext fun x => recvSt_congr I (done_other h (by simp))
    (pieces_congr I (fun b _ _ => done_other h (by simp)) fun b _ _ => done_other h (by simp))
  have hdue := dues_other h (by simp)
  have hacc := acc_chunk I h
  rw [← hvv] at hacc
  have hv : ((Memref.whole cc0_stg5_0).access (Rect.unit (s := S2x128x512) ![0, 0, 0] S2x128x512.size inb)).write (Elt F) (acc I c n) v Finset.univ = v :=
    Memref.write_access_unit_zero_univ (Elt F) cc0_stg5_0 stage_zero3 inb (acc I c n) v
  unfold St bufs
  rw [hacc, hs, hr, hdue]
  iintro ⟨#HR, HS, HV, HO, ⟨H1, H2, H3, H4⟩⟩
  iapply (wp_store 𝒱₀ (c : Thread nD τ) none Set.univ (m := Memref.whole cc0_stg5_0)
    (r := Rect.unit (s := S2x128x512) ![0, 0, 0] S2x128x512.size inb) (w := v) (S := Finset.univ) (Finset.subset_univ _)) $$ [H4]
  · iexact H4
  iintro H4
  rw [hv]
  rw [wp_ret]; imodintro
  isplitl []; · iexact HR
  isplitl [HS]; · iexact HS
  isplitl [HV]; · iexact HV
  isplitl [HO]; · iexact HO
  isplitl [H1]; · iexact H1
  isplitl [H2]; · iexact H2
  isplitl [H3]; · iexact H3
  iexact H4

end Gather
-- ==== Proof.Vert.lean ====
module

public import proofs.«01_k».proof.Proof.Steps

/-! # The slots of the device's own column

What the device does with the weights of a device of its own column, when they come: it sends them on along the column if
another device waits there, to both neighbours of its row, and adds their product. -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F] [Named F]

local notation "𝕄" => MT nD τ sig Unit (Elt F) ℕ UU ℕ

/-! ## Spellings -/

/-- A cell of an array of cells, and a slot of the gathering buffers, at a computed place. -/
abbrev cell16 (A : DmaSems sig S16) (off : Fin 1 → ℕ) (inb : ∀ a, off a + S1.size a ≤ S16.size a) : DmaSem sig :=
  ((A.slice (Rect.unit (s := S16) off S1.size inb)).squeeze S_ Gen.squeezes_S1_S_).sem
abbrev cell4 (A : DmaSems sig S4) (off : Fin 1 → ℕ) (inb : ∀ a, off a + S1.size a ≤ S4.size a) : DmaSem sig :=
  ((A.slice (Rect.unit (s := S4) off S1.size inb)).squeeze S_ Gen.squeezes_S1_S_).sem
abbrev partQ (off : Fin 3 → ℕ) (inb : ∀ a, off a + S1x512x256.size a ≤ S16x512x256.size a) : Memref sig .tc .vmem S512x256 .bf16 :=
  ((Memref.whole cc0_scratch0).slice (Rect.unit (s := S16x512x256) off S1x512x256.size inb) (fun _ => rfl)).squeeze S512x256 Gen.squeezes_S1x512x256_S512x256
abbrev partO (off : Fin 3 → ℕ) (inb : ∀ a, off a + S1x256x512.size a ≤ S16x256x512.size a) : Memref sig .tc .vmem S256x512 .bf16 :=
  ((Memref.whole cc0_scratch1).slice (Rect.unit (s := S16x256x512) off S1x256x512.size inb) (fun _ => rfl)).squeeze S256x512 Gen.squeezes_S1x256x512_S256x512

theorem slot_of_Q {off : Fin 3 → ℕ} {inb : ∀ a, off a + S1x512x256.size a ≤ S16x512x256.size a} {o : Fin 16} (h : off = ![o.val, 0, 0]) :
    ((Memref.whole cc0_scratch0).slice (Rect.unit (s := S16x512x256) off S1x512x256.size inb) (fun _ => rfl)).squeeze S512x256 Gen.squeezes_S1x512x256_S512x256 = slotQ o := by
  subst h; rfl
theorem slot_of_O {off : Fin 3 → ℕ} {inb : ∀ a, off a + S1x256x512.size a ≤ S16x256x512.size a} {o : Fin 16} (h : off = ![o.val, 0, 0]) :
    ((Memref.whole cc0_scratch1).slice (Rect.unit (s := S16x256x512) off S1x256x512.size inb) (fun _ => rfl)).squeeze S256x512 Gen.squeezes_S1x256x512_S256x512 = slotO o := by
  subst h; rfl
theorem sem_at {N : ℕ} {b : ℕ} {hb : b + S16.numel ≤ N} {off : Fin 1 → ℕ} {inb : ∀ a, off a + S1.size a ≤ S16.size a} {o : Fin 16} (h : off = ![o.val]) :
    (((SemArray.consecutive b S16 hb).slice (Rect.unit (s := S16) off S1.size inb)).squeeze S_ Gen.squeezes_S1_S_).sem.val = b + o.val := by
  subst h; refine congrArg (b + ·) ?_; revert inb; revert o; decide
theorem sem_at4 {N : ℕ} {b : ℕ} {hb : b + S4.numel ≤ N} {off : Fin 1 → ℕ} {inb : ∀ a, off a + S1.size a ≤ S4.size a} {o : Fin 4} (h : off = ![o.val]) :
    (((SemArray.consecutive b S4 hb).slice (Rect.unit (s := S4) off S1.size inb)).squeeze S_ Gen.squeezes_S1_S_).sem.val = b + o.val := by
  subst h; refine congrArg (b + ·) ?_; revert inb; revert o; decide

theorem recvQ_of {off : Fin 1 → ℕ} {inb : ∀ a, off a + S1.size a ≤ S16.size a} {o : Fin 16} (h : off = ![o.val]) :
    ((cc0_scratch2.slice (Rect.unit (s := S16) off S1.size inb)).squeeze S_ Gen.squeezes_S1_S_).sem = recvSem 0 o := Fin.ext (sem_at h)
theorem recvO_of {off : Fin 1 → ℕ} {inb : ∀ a, off a + S1.size a ≤ S16.size a} {o : Fin 16} (h : off = ![o.val]) :
    ((cc0_scratch3.slice (Rect.unit (s := S16) off S1.size inb)).squeeze S_ Gen.squeezes_S1_S_).sem = recvSem 1 o := Fin.ext (sem_at h)
theorem send_of (a : Fin 10) {hb : 38 + 4 * a.val + S4.numel ≤ 78} {off : Fin 1 → ℕ} {inb : ∀ a, off a + S1.size a ≤ S4.size a} {o : Fin 4} (h : off = ![o.val]) :
    (((SemArray.consecutive (38 + 4 * a.val) S4 hb : DmaSems sig S4).slice (Rect.unit (s := S4) off S1.size inb)).squeeze S_ Gen.squeezes_S1_S_).sem = sendSem a o :=
  Fin.ext (sem_at4 h)

/-! ## Places that may be empty -/

def Free (z : Fin 4) (n : ℕ) : Prop := ∀ x : Code, ¬At z n (decode x)
instance (z : Fin 4) (n : ℕ) : Decidable (Free z n) := by unfold Free; infer_instance
theorem Free.not {z : Fin 4} {n : ℕ} (h : Free z n) (op : AOp) : ¬At z n op := decode_encode op ▸ h (encode op)

variable (I : Inp F) (K : GSem nD τ sig → ℕ) {c : Dev nD} {n : ℕ}

theorem St_free {m : ℕ} (h : ∀ i < m, Free (zOf c) (n + i)) : St I K c n = St I K c (n + m) := by
  induction m with
  | zero => rfl
  | succ m ih => rw [ih fun i hi => h i (Nat.lt_succ_of_lt hi), St_skip I K (h m (Nat.lt_succ_self m)).not]; rfl

theorem St_done (n : ℕ) : St I K c n ⊢ Run (F := F) c (pure ⟨⟩) (fun _ : PUnit => St I K c n) := by
  show _ ⊢ wp _ _ _ _ _
  rw [show (pure PUnit.unit : Prog (TpuEff nD τ sig (Elt F) Λ₀ .tc) PUnit) = .ret ⟨⟩ from rfl, wp_ret]
  iintro H; imodintro; iexact H
theorem run_pure {α : Type} {P : sProp 𝕄} {a : α} {Q : α → sProp 𝕄} (h : P ⊢ Q a) : P ⊢ Run (F := F) c (pure a) Q := by
  show _ ⊢ wp _ _ _ _ _
  rw [show (pure a : Prog (TpuEff nD τ sig (Elt F) Λ₀ .tc) α) = .ret a from rfl, wp_ret]
  refine h.trans ?_
  iintro H; imodintro; iexact H
theorem run_bind {α β : Type} {P : sProp 𝕄} {p : Prog (TpuEff nD τ sig (Elt F) Λ₀ .tc) α} {k : α → Prog (TpuEff nD τ sig (Elt F) Λ₀ .tc) β} {Q : β → sProp 𝕄}
    (h : P ⊢ Run (F := F) c p (fun a => Run (F := F) c (k a) Q)) : P ⊢ Run (F := F) c (p >>= k) Q := by
  show _ ⊢ wp _ _ _ _ _
  rw [wp_bind]; exact h

/-- A conditional piece of the program, which another row skips. -/
theorem step_if {n' : ℕ} {p : Prop} [Decidable p] {A : p → Prog (TpuEff nD τ sig (Elt F) Λ₀ .tc) PUnit} {B : ¬p → Prog (TpuEff nD τ sig (Elt F) Λ₀ .tc) PUnit}
    (hA : ∀ h, St I K c n ⊢ Run (F := F) c (A h) (fun _ => St I K c n')) (hB : ∀ h, B h = pure ⟨⟩) (hn : ¬p → St I K c n = St I K c n') :
    St I K c n ⊢ Run (F := F) c (dite p A B) (fun _ => St I K c n') := by
  by_cases h : p
  · rw [dif_pos h]; exact hA h
  · rw [dif_neg h, hB h, hn h]; exact St_done I K n'

/-- The plan of a column slot: `aQ`, `aO` send it on where `fwd`. -/
structure VertPlan (z : Fin 4) (n : ℕ) (zp : Fin 4) (aQ aO : Fin 10) (fwd : Prop) : Prop where
  far : foreign z zp 0 = true
  rQ : At z n (.recv 0 zp 0)
  fQ : fwd → At z (n + 1) (.send aQ zp)
  nQ : ¬fwd → Free z (n + 1)
  cwQ : At z (n + 2) (.send 4 zp)
  ccQ : At z (n + 3) (.send 6 zp)
  rO : At z (n + 4) (.recv 1 zp 0)
  fO : fwd → At z (n + 5) (.send aO zp)
  nO : ¬fwd → Free z (n + 5)
  cwO : At z (n + 6) (.send 5 zp)
  ccO : At z (n + 7) (.send 7 zp)
  ch : At z (n + 8) (.chunk zp 0)

theorem vert {zp : Fin 4} {aQ aO : Fin 10} {o : Fin 16} (ho : o = slotOf c zp 0)
    {cF cG : BitVec 1} (hcG : cG = 1#1 ↔ cF = 1#1) (pl : VertPlan (zOf c) n zp aQ aO (cF = 1#1))
    {v0 : BitVec 32} {β : Type} {ret : (S1x512x256.Idx → Elt F .bf16) → (S1x256x512.Idx → Elt F .bf16) → β}
    {fin : β → (S4x2x128x64.Idx → Elt F .f32) → (S4x2x128x64.Idx → Elt F .f32) → (S2x128x512.Idx → Elt F .f32) → (S2x128x512.Idx → Elt F .f32)}
    (hval : ∀ kt vt prev, fin (ret (rowQ (I.wq o)) (rowO (I.wo o))) kt vt prev = chunkVal (I.x c) (I.wq o) (I.wo o) kt vt prev)
    {rQ rO sCwQ sCcQ sCwO sCcO : DmaSem sig} (hrQ : rQ = recvSem 0 o) (hrO : rO = recvSem 1 o) (hsCwQ : sCwQ = sendSem 4 zp) (hsCcQ : sCcQ = sendSem 6 zp)
    (hsCwO : sCwO = sendSem 5 zp) (hsCcO : sCcO = sendSem 7 zp)
    {mQ : Memref sig .tc .vmem S512x256 .bf16} (hmQ : mQ = slotQ o) {mO : Memref sig .tc .vmem S256x512 .bf16} (hmO : mO = slotO o)
    {dCwQ dCcQ dCwO dCcO : Dev nD} (hdCwQ : dCwQ = destOf c 4) (hdCcQ : dCcQ = destOf c 6) (hdCwO : dCwO = destOf c 5) (hdCcO : dCcO = destOf c 7)
    {A : cF = 1#1 → Prog (TpuEff nD τ sig (Elt F) Λ₀ .tc) PUnit}
    (hA : ∀ h, At (zOf c) (n + 1) (.send aQ zp) → St I K c (n + 1) ⊢ Run (F := F) c (A h) (fun _ => St I K c (n + 2)))
    {B : cG = 1#1 → Prog (TpuEff nD τ sig (Elt F) Λ₀ .tc) PUnit}
    (hB : ∀ h, At (zOf c) (n + 5) (.send aO zp) → St I K c (n + 5) ⊢ Run (F := F) c (B h) (fun _ => St I K c (n + 6)))
    {oQ : Fin 3 → ℕ} (hoQ : oQ = ![o.val, 0, 0]) {oO : Fin 3 → ℕ} (hoO : oO = ![o.val, 0, 0]) {oH : Fin 4 → ℕ} (hoH : oH = ![4 * o.val, 0, 0, 0])
    {ibQ : ∀ a, oQ a + S1x512x256.size a ≤ S16x512x256.size a} {ibO : ∀ a, oO a + S1x256x512.size a ≤ S16x256x512.size a}
    {ibH : ∀ a, oH a + S4x2x128x64.size a ≤ S64x2x128x64.size a} {ibZ : ∀ a, (![0, 0, 0] : Fin 3 → ℕ) a + S2x128x512.size a ≤ S2x128x512.size a}
    {w1 w2 wo1 wo2 : _}
    {sc1 sc2 : mQ.view.ref.isScScratch = false} {sc3 sc4 : mO.view.ref.isScScratch = false}
    {ty1 ty2 ty3 ty4 : _} {u1 u2 u3 u4 : mQ.view.WordExact} {u5 u6 u7 u8 : mO.view.WordExact} {hl1 hl2 hl3 hl4 hl5 hl6 hx hm : _} :
    St I K c n ⊢ Run (F := F) c
      ((Prog.lift (.waitDma2 rQ mQ mQ w1 w2) >>= fun _ => pure v0) >>= fun _ =>
       (if h : cF = 1#1 then A h else pure ⟨⟩) >>= fun _ =>
       (Prog.lift (.enqueueDma mQ (.remote (Dev.tc dCwQ) mQ (.dma sCwQ) sc1) (.dma rQ) u1 u2 ty1) >>= fun _ =>
        Prog.lift (.enqueueDma mQ (.remote (Dev.tc dCcQ) mQ (.dma sCcQ) sc2) (.dma rQ) u3 u4 ty2) >>= fun _ =>
        Prog.lift (.waitDma2 rO mO mO wo1 wo2) >>= fun _ => pure PUnit.unit) >>= fun _ =>
       (if h : cG = 1#1 then B h else pure ⟨⟩) >>= fun _ =>
       (Prog.lift (.enqueueDma mO (.remote (Dev.tc dCwO) mO (.dma sCwO) sc3) (.dma rO) u5 u6 ty3) >>= fun _ =>
        Prog.lift (.enqueueDma mO (.remote (Dev.tc dCcO) mO (.dma sCcO) sc4) (.dma rO) u7 u8 ty4) >>= fun _ =>
        Prog.lift (.load (Memref.whole cc0_scratch0) (Rect.unit (s := S16x512x256) oQ S1x512x256.size ibQ).toLoadRect hl1) >>= fun q =>
        Prog.lift (.load (Memref.whole cc0_scratch1) (Rect.unit (s := S16x256x512) oO S1x256x512.size ibO).toLoadRect hl2) >>= fun p => pure (ret q p)) >>= fun b =>
       (Prog.lift (.load (Memref.whole cc0_stg2_0) (Rect.unit (s := S64x2x128x64) oH S4x2x128x64.size ibH).toLoadRect hl3) >>= fun kt =>
        Prog.lift (.load (Memref.whole cc0_stg3_0) (Rect.unit (s := S64x2x128x64) oH S4x2x128x64.size ibH).toLoadRect hl4) >>= fun vt =>
        Prog.lift (.load (Memref.whole cc0_stg5_0) (Rect.unit (s := S2x128x512) ![0, 0, 0] S2x128x512.size ibZ).toLoadRect hl5) >>= fun prev =>
        Prog.lift (.load (Memref.whole cc0_stg5_0) (Rect.unit (s := S2x128x512) ![0, 0, 0] S2x128x512.size ibZ).toLoadRect hl6) >>= fun _ => pure (fin b kt vt prev)) >>= fun v =>
       Prog.lift (.store (Memref.whole cc0_stg5_0) (Rect.unit (s := S2x128x512) ![0, 0, 0] S2x128x512.size ibZ) v Finset.univ hx hm) >>= fun _ => pure PUnit.unit)
      (fun _ : PUnit => St I K c (n + 9)) := by
  subst ho hrQ hrO hsCwQ hsCcQ hsCwO hsCcO hmQ hmO hdCwQ hdCcQ hdCwO hdCcO
  have k4 : kindW 4 = 0 ∧ srcK 4 = 0 := by decide
  have k6 : kindW 6 = 0 ∧ srcK 6 = 0 := by decide
  have k5 : kindW 5 = 1 ∧ srcK 5 = 0 := by decide
  have k7 : kindW 7 = 1 ∧ srcK 7 = 0 := by decide
  have dQ : ∀ m, n + 1 ≤ m → Done (zOf c) m (.recv 0 zp 0) := fun m hm => ⟨pl.far, by have := pl.rQ.2; omega⟩
  have dO : ∀ m, n + 5 ≤ m → Done (zOf c) m (.recv 1 zp 0) := fun m hm => ⟨pl.far, by have := pl.rO.2; omega⟩
  have fwdQ : cF ≠ 1#1 → St I K c (n + 1) = St I K c (n + 2) := fun h => St_skip I K (pl.nQ h).not
  have fwdO : cG ≠ 1#1 → St I K c (n + 5) = St I K c (n + 6) := fun h => St_skip I K (pl.nO fun h' => h (hcG.mpr h')).not
  refine run_bind (bindU I K (n' := n + 1) (recv_core I K pl.rQ rfl rfl) (run_pure ?_))
  refine bindU I K (n' := n + 2) (step_if I K (fun h => hA h (pl.fQ h)) (fun _ => rfl) fwdQ) ?_
  refine bindU I K (n' := n + 5) (bindU I K (n' := n + 3) (step_fwdQ I K pl.cwQ rfl (by rw [k4.2]) rfl (by rw [k4.1]) k4.1 (by rw [k4.2]; exact pl.far))
    (bindU I K (n' := n + 4) (step_fwdQ I K pl.ccQ rfl (by rw [k6.2]) rfl (by rw [k6.1]) k6.1 (by rw [k6.2]; exact pl.far))
    (bindU I K (n' := n + 5) (recv_core I K pl.rO rfl rfl) (St_done I K _)))) ?_
  refine bindU I K (n' := n + 6) (step_if I K (fun h => hB h (pl.fO (hcG.mp h))) (fun _ => rfl) fwdO) ?_
  refine run_bind (bindU I K (n' := n + 7) (step_fwdO I K pl.cwO rfl (by rw [k5.2]) rfl (by rw [k5.1]) k5.1 (by rw [k5.2]; exact pl.far)) ?_)
  refine bindU I K (n' := n + 8) (step_fwdO I K pl.ccO rfl (by rw [k7.2]) rfl (by rw [k7.1]) k7.1 (by rw [k7.2]; exact pl.far)) ?_
  refine step_loadQ I K pl.far (dQ _ (by omega)) hoQ (step_loadO I K pl.far (dO _ (by omega)) hoO (run_pure (run_bind ?_)))
  refine step_loadk I K _ hoH (step_loadv I K _ hoH (step_loadacc I K (step_loadacc I K (run_pure ?_))))
  exact bindU I K (step_chunk I K pl.ch (hval _ _ _)) (St_done I K _)

section Forward
variable {a : Fin 10} {zp : Fin 4} (h : At (zOf c) n (.send a zp)) {d : Dev nD} (hdev : d = destOf c a) {o : Fin 16} (ho : o = slotOf c zp (srcK a))
  {sS sR : DmaSem sig} (hsS : sS = sendSem a zp) (hsR : sR = recvSem (kindW a) o)
include h hdev ho hsS hsR

theorem send_Q {m : Memref sig .tc .vmem S512x256 .bf16} (hm : m = slotQ o) (hw : kindW a = 0) (hf : foreign (zOf c) zp (srcK a) = true) {hsc : m.view.ref.isScScratch = false}
    {hsrc hdst : m.view.WordExact} {hsem : DmaTarget.Typed .vmem (.dma sR) (.remote (Dev.tc d) m (.dma sS) hsc)} :
    St I K c n ⊢ Run (F := F) c (Prog.lift (.enqueueDma m (.remote (Dev.tc d) m (.dma sS) hsc) (.dma sR) hsrc hdst hsem)) (fun _ => St I K c (n + 1)) := by
  subst hm; exact step_fwdQ I K h hdev ho hsS hsR hw hf
theorem send_O {m : Memref sig .tc .vmem S256x512 .bf16} (hm : m = slotO o) (hw : kindW a = 1) (hf : foreign (zOf c) zp (srcK a) = true) {hsc : m.view.ref.isScScratch = false}
    {hsrc hdst : m.view.WordExact} {hsem : DmaTarget.Typed .vmem (.dma sR) (.remote (Dev.tc d) m (.dma sS) hsc)} :
    St I K c n ⊢ Run (F := F) c (Prog.lift (.enqueueDma m (.remote (Dev.tc d) m (.dma sS) hsc) (.dma sR) hsrc hdst hsem)) (fun _ => St I K c (n + 1)) := by
  subst hm; exact step_fwdO I K h hdev ho hsS hsR hw hf
end Forward

/-! ## The value added -/

theorem cast_rowQ (f : S512x256.Idx → Elt F .bf16) : shapeCast S512x256 (rowQ f) Gen.shapeCasts_S1x512x256_S512x256 = f := by
  funext i
  show rowQ f (Shape.reshapeEquiv _ i) = f i
  rw [Shape.reshapeEquiv_cons_one]
  refine congrArg f (funext fun j => ?_)
  fin_cases j <;> rfl
theorem cast_rowO (f : S256x512.Idx → Elt F .bf16) : shapeCast S256x512 (rowO f) Gen.shapeCasts_S1x256x512_S256x512 = f := by
  funext i
  show rowO f (Shape.reshapeEquiv _ i) = f i
  rw [Shape.reshapeEquiv_cons_one]
  refine congrArg f (funext fun j => ?_)
  fin_cases j <;> rfl
/-- The product of a slot read as a row of the gathering buffers. -/
theorem chunk_row (x : S2x128x512.Idx → Elt F .f32) (q : S512x256.Idx → Elt F .bf16) (o : S256x512.Idx → Elt F .bf16) (kt vt : S4x2x128x64.Idx → Elt F .f32)
    (prev : S2x128x512.Idx → Elt F .f32) :
    chunkVal x (shapeCast S512x256 (rowQ q) Gen.shapeCasts_S1x512x256_S512x256) (shapeCast S256x512 (rowO o) Gen.shapeCasts_S1x256x512_S256x512) kt vt prev = chunkVal x q o kt vt prev := by
  rw [cast_rowQ, cast_rowO]

/-! ## A column slot from the numbers alone -/

/-- The numbers a column slot's part computes are those of its slot. -/
def VertNums (c : Dev nD) (n : ℕ) (zp : Fin 4) (aQ aO : Fin 10) (cF cG : Prop) (oR : Fin 1 → ℕ) (oQ : Fin 3 → ℕ) (fS fR : Fin 1 → ℕ) (fM : Fin 3 → ℕ) (fD : ℕ) (oS : Fin 1 → ℕ) (d1 d2 : ℕ)
    (oO : Fin 3 → ℕ) (gS gR : Fin 1 → ℕ) (gM : Fin 3 → ℕ) (gD d3 d4 : ℕ) (lQ lO : Fin 3 → ℕ) (lH : Fin 4 → ℕ) : Prop :=
  let o := slotOf c zp 0
  VertPlan (zOf c) n zp aQ aO cF ∧ (cG ↔ cF) ∧ oR = ![o.val] ∧ oQ = ![o.val, 0, 0] ∧ (cF → fS = ![zp.val] ∧ fR = ![o.val] ∧ fM = ![o.val, 0, 0] ∧ fD = (destOf c aQ).val) ∧
  oS = ![zp.val] ∧ d1 = (destOf c 4).val ∧ d2 = (destOf c 6).val ∧ oO = ![o.val, 0, 0] ∧ (cF → gS = ![zp.val] ∧ gR = ![o.val] ∧ gM = ![o.val, 0, 0] ∧ gD = (destOf c aO).val) ∧
  d3 = (destOf c 5).val ∧ d4 = (destOf c 7).val ∧ lQ = ![o.val, 0, 0] ∧ lO = ![o.val, 0, 0] ∧ lH = ![4 * o.val, 0, 0, 0] ∧
  kindW aQ = 0 ∧ srcK aQ = 0 ∧ kindW aO = 1 ∧ srcK aO = 0

instance (z : Fin 4) (n : ℕ) (op : AOp) : Decidable (At z n op) := by unfold At; infer_instance
instance (z : Fin 4) (n : ℕ) (zp : Fin 4) (aQ aO : Fin 10) (fwd : Prop) [Decidable fwd] : Decidable (VertPlan z n zp aQ aO fwd) :=
  decidable_of_iff (_ ∧ _ ∧ _ ∧ _ ∧ _ ∧ _ ∧ _ ∧ _ ∧ _ ∧ _ ∧ _ ∧ _)
    ⟨fun ⟨a, b, c, d, e, f, g, h, i, j, k, l⟩ => ⟨a, b, c, d, e, f, g, h, i, j, k, l⟩, fun ⟨a, b, c, d, e, f, g, h, i, j, k, l⟩ => ⟨a, b, c, d, e, f, g, h, i, j, k, l⟩⟩

section Numbers
variable {zp : Fin 4} {aQ aO : Fin 10} {cF cG : BitVec 1} {oR : Fin 1 → ℕ} {oQ : Fin 3 → ℕ} {fS fR : Fin 1 → ℕ} {fM : Fin 3 → ℕ} {fD : ℕ} {oS : Fin 1 → ℕ} {d1 d2 : ℕ}
  {oO : Fin 3 → ℕ} {gS gR : Fin 1 → ℕ} {gM : Fin 3 → ℕ} {gD d3 d4 : ℕ} {lQ lO : Fin 3 → ℕ} {lH : Fin 4 → ℕ}

instance : Decidable (VertNums c n zp aQ aO (cF = 1#1) (cG = 1#1) oR oQ fS fR fM fD oS d1 d2 oO gS gR gM gD d3 d4 lQ lO lH) := by unfold VertNums; infer_instance

variable (nums : VertNums c n zp aQ aO (cF = 1#1) (cG = 1#1) oR oQ fS fR fM fD oS d1 d2 oO gS gR gM gD d3 d4 lQ lO lH)
include nums

/-- The query weight sent on along the column. -/
theorem onward_Q (h : cF = 1#1) {sA : DmaSems sig S4} {i1 : ∀ a, fS a + S1.size a ≤ S4.size a} {i2 : ∀ a, fR a + S1.size a ≤ S16.size a} {i3 : ∀ a, fM a + S1x512x256.size a ≤ S16x512x256.size a}
    (hsA : ∀ o : Fin 4, fS = ![o.val] → cell4 sA fS i1 = sendSem aQ o) {hd : fD < nD}
    {hsc : (partQ fM i3).view.ref.isScScratch = false}
    {hsrc hdst : (partQ fM i3).view.WordExact}
    {hsem : DmaTarget.Typed .vmem (.dma (cell16 cc0_scratch2 fR i2))
      (.remote (Dev.tc (⟨fD, hd⟩ : Dev nD)) (partQ fM i3)
        (.dma (cell4 sA fS i1)) hsc)} :
    St I K c (n + 1) ⊢ Run (F := F) c (Prog.lift (.enqueueDma (partQ fM i3)
      (.remote (Dev.tc (⟨fD, hd⟩ : Dev nD)) (partQ fM i3)
        (.dma (cell4 sA fS i1)) hsc)
      (.dma (cell16 cc0_scratch2 fR i2)) hsrc hdst hsem) >>= fun _ => pure PUnit.unit) (fun _ => St I K c (n + 2)) := by
  obtain ⟨pl, -, -, -, f, -, -, -, -, -, -, -, -, -, -, k, k', -, -⟩ := nums
  obtain ⟨p, q, r, t⟩ := f h
  exact bindU I K (send_Q I K (pl.fQ h) (Fin.ext t) (by rw [k']) (hsA _ p) (by rw [k]; exact recvQ_of q) (slot_of_Q r) k (by rw [k']; exact pl.far)) (St_done I K _)

/-- The output weight sent on along the column. -/
theorem onward_O (h : cG = 1#1) {sA : DmaSems sig S4} {i1 : ∀ a, gS a + S1.size a ≤ S4.size a} {i2 : ∀ a, gR a + S1.size a ≤ S16.size a} {i3 : ∀ a, gM a + S1x256x512.size a ≤ S16x256x512.size a}
    (hsA : ∀ o : Fin 4, gS = ![o.val] → cell4 sA gS i1 = sendSem aO o) {hd : gD < nD}
    {hsc : (partO gM i3).view.ref.isScScratch = false}
    {hsrc hdst : (partO gM i3).view.WordExact}
    {hsem : DmaTarget.Typed .vmem (.dma (cell16 cc0_scratch3 gR i2))
      (.remote (Dev.tc (⟨gD, hd⟩ : Dev nD)) (partO gM i3)
        (.dma (cell4 sA gS i1)) hsc)} :
    St I K c (n + 5) ⊢ Run (F := F) c (Prog.lift (.enqueueDma (partO gM i3)
      (.remote (Dev.tc (⟨gD, hd⟩ : Dev nD)) (partO gM i3)
        (.dma (cell4 sA gS i1)) hsc)
      (.dma (cell16 cc0_scratch3 gR i2)) hsrc hdst hsem) >>= fun _ => pure PUnit.unit) (fun _ => St I K c (n + 6)) := by
  obtain ⟨pl, e, -, -, -, -, -, -, -, f, -, -, -, -, -, -, -, k, k'⟩ := nums
  obtain ⟨p, q, r, t⟩ := f (e.mp h)
  exact bindU I K (send_O I K (pl.fO (e.mp h)) (Fin.ext t) (by rw [k']) (hsA _ p) (by rw [k]; exact recvO_of q) (slot_of_O r) k (by rw [k']; exact pl.far)) (St_done I K _)

/-- A slot of the column, from the numbers. -/
theorem column {v0 : BitVec 32} {β : Type} {ret : (S1x512x256.Idx → Elt F .bf16) → (S1x256x512.Idx → Elt F .bf16) → β}
    {fin : β → (S4x2x128x64.Idx → Elt F .f32) → (S4x2x128x64.Idx → Elt F .f32) → (S2x128x512.Idx → Elt F .f32) → (S2x128x512.Idx → Elt F .f32)}
    (hval : ∀ kt vt prev, fin (ret (rowQ (I.wq (slotOf c zp 0))) (rowO (I.wo (slotOf c zp 0)))) kt vt prev = chunkVal (I.x c) (I.wq (slotOf c zp 0)) (I.wo (slotOf c zp 0)) kt vt prev)
    {A : cF = 1#1 → Prog (TpuEff nD τ sig (Elt F) Λ₀ .tc) PUnit}
    (hA : ∀ h, At (zOf c) (n + 1) (.send aQ zp) → St I K c (n + 1) ⊢ Run (F := F) c (A h) (fun _ => St I K c (n + 2)))
    {B : cG = 1#1 → Prog (TpuEff nD τ sig (Elt F) Λ₀ .tc) PUnit}
    (hB : ∀ h, At (zOf c) (n + 5) (.send aO zp) → St I K c (n + 5) ⊢ Run (F := F) c (B h) (fun _ => St I K c (n + 6)))
    {iR : ∀ a, oR a + S1.size a ≤ S16.size a} {iS : ∀ a, oS a + S1.size a ≤ S4.size a} {iQ : ∀ a, oQ a + S1x512x256.size a ≤ S16x512x256.size a} {iO : ∀ a, oO a + S1x256x512.size a ≤ S16x256x512.size a}
    {hd1 : d1 < nD} {hd2 : d2 < nD} {hd3 : d3 < nD} {hd4 : d4 < nD}
    {ibQ : ∀ a, lQ a + S1x512x256.size a ≤ S16x512x256.size a} {ibO : ∀ a, lO a + S1x256x512.size a ≤ S16x256x512.size a}
    {ibH : ∀ a, lH a + S4x2x128x64.size a ≤ S64x2x128x64.size a} {ibZ : ∀ a, (![0, 0, 0] : Fin 3 → ℕ) a + S2x128x512.size a ≤ S2x128x512.size a}
    {w1 w2 wo1 wo2 : _}
    {sc1 sc2 : (partQ oQ iQ).view.ref.isScScratch = false} {sc3 sc4 : (partO oO iO).view.ref.isScScratch = false}
    {ty1 ty2 ty3 ty4 : _} {u1 u2 u3 u4 : (partQ oQ iQ).view.WordExact} {u5 u6 u7 u8 : (partO oO iO).view.WordExact} {hl1 hl2 hl3 hl4 hl5 hl6 hx hm : _} :
    St I K c n ⊢ Run (F := F) c
      ((Prog.lift (.waitDma2 (cell16 cc0_scratch2 oR iR) (partQ oQ iQ) (partQ oQ iQ) w1 w2) >>= fun _ => pure v0) >>= fun _ =>
       (if h : cF = 1#1 then A h else pure ⟨⟩) >>= fun _ =>
       (Prog.lift (.enqueueDma (partQ oQ iQ) (.remote (Dev.tc (⟨d1, hd1⟩ : Dev nD)) (partQ oQ iQ) (.dma (cell4 cc0_scratch8 oS iS)) sc1) (.dma (cell16 cc0_scratch2 oR iR)) u1 u2 ty1) >>= fun _ =>
        Prog.lift (.enqueueDma (partQ oQ iQ) (.remote (Dev.tc (⟨d2, hd2⟩ : Dev nD)) (partQ oQ iQ) (.dma (cell4 cc0_scratch10 oS iS)) sc2) (.dma (cell16 cc0_scratch2 oR iR)) u3 u4 ty2) >>= fun _ =>
        Prog.lift (.waitDma2 (cell16 cc0_scratch3 oR iR) (partO oO iO) (partO oO iO) wo1 wo2) >>= fun _ => pure PUnit.unit) >>= fun _ =>
       (if h : cG = 1#1 then B h else pure ⟨⟩) >>= fun _ =>
       (Prog.lift (.enqueueDma (partO oO iO) (.remote (Dev.tc (⟨d3, hd3⟩ : Dev nD)) (partO oO iO) (.dma (cell4 cc0_scratch9 oS iS)) sc3) (.dma (cell16 cc0_scratch3 oR iR)) u5 u6 ty3) >>= fun _ =>
        Prog.lift (.enqueueDma (partO oO iO) (.remote (Dev.tc (⟨d4, hd4⟩ : Dev nD)) (partO oO iO) (.dma (cell4 cc0_scratch11 oS iS)) sc4) (.dma (cell16 cc0_scratch3 oR iR)) u7 u8 ty4) >>= fun _ =>
        Prog.lift (.load (Memref.whole cc0_scratch0) (Rect.unit (s := S16x512x256) lQ S1x512x256.size ibQ).toLoadRect hl1) >>= fun q =>
        Prog.lift (.load (Memref.whole cc0_scratch1) (Rect.unit (s := S16x256x512) lO S1x256x512.size ibO).toLoadRect hl2) >>= fun p => pure (ret q p)) >>= fun b =>
       (Prog.lift (.load (Memref.whole cc0_stg2_0) (Rect.unit (s := S64x2x128x64) lH S4x2x128x64.size ibH).toLoadRect hl3) >>= fun kt =>
        Prog.lift (.load (Memref.whole cc0_stg3_0) (Rect.unit (s := S64x2x128x64) lH S4x2x128x64.size ibH).toLoadRect hl4) >>= fun vt =>
        Prog.lift (.load (Memref.whole cc0_stg5_0) (Rect.unit (s := S2x128x512) ![0, 0, 0] S2x128x512.size ibZ).toLoadRect hl5) >>= fun prev =>
        Prog.lift (.load (Memref.whole cc0_stg5_0) (Rect.unit (s := S2x128x512) ![0, 0, 0] S2x128x512.size ibZ).toLoadRect hl6) >>= fun _ => pure (fin b kt vt prev)) >>= fun v =>
       Prog.lift (.store (Memref.whole cc0_stg5_0) (Rect.unit (s := S2x128x512) ![0, 0, 0] S2x128x512.size ibZ) v Finset.univ hx hm) >>= fun _ => pure PUnit.unit)
      (fun _ : PUnit => St I K c (n + 9)) := by
  obtain ⟨pl, same, oR, oQ, -, oS, d1, d2, oO, -, d3, d4, lQ, lO, lH, -, -, -, -⟩ := nums
  exact vert I K rfl same pl hval (recvQ_of oR) (recvO_of oR) (by exact send_of 4 oS) (by exact send_of 6 oS) (by exact send_of 5 oS) (by exact send_of 7 oS)
    (slot_of_Q oQ) (slot_of_O oO) (Fin.ext d1) (Fin.ext d2) (Fin.ext d3) (Fin.ext d4) hA hB lQ lO lH

end Numbers

end Gather
-- ==== Proof.Rows.lean ====
module

public import proofs.«01_k».proof.Proof.Vert

/-! # The slots of the other columns

What the device does with the weights that come along its row: of a row's two neighbouring columns it takes both slots,
sends one query weight and one output weight on to the opposite column, and adds both products; of the opposite column it
takes the slot and adds its product. -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F] [Named F]

local notation "𝕄" => MT nD τ sig Unit (Elt F) ℕ UU ℕ

variable (I : Inp F) (K : GSem nD τ sig → ℕ) {c : Dev nD} {n : ℕ}

theorem recv_at {w : Fin 2} {zp k : Fin 4} (h : At (zOf c) n (.recv w zp k)) {s : Shape} {e : EltTy} {src dst : Memref sig .tc .vmem s e} {sS : DmaSem sig}
    (hsS : sS = recvSem w (slotOf c zp k)) {hsrc : src.view.WordExact} {hdst : dst.view.WordExact} (hN : dst.view.dmaCredit = 8192)
    {α : Type} {p : PUnit → Prog (TpuEff nD τ sig (Elt F) Λ₀ .tc) α} {Q : α → sProp 𝕄} (hk : St I K c (n + 1) ⊢ Run (F := F) c (p ⟨⟩) Q) :
    St I K c n ⊢ Run (F := F) c (Prog.lift (.waitDma2 sS src dst hsrc hdst) >>= p) Q := bindU I K (n' := n + 1) (recv_core I K h hsS hN) hk

theorem Done.of_at {z : Fin 4} {m m' : ℕ} {op : AOp} (h : At z m op) (hm : m < m') : Done z m' op := ⟨h.1, by have := h.2; omega⟩

/-! ## The neighbouring columns -/

/-- The numbers the part of a row's neighbouring slots computes are those of its slots. -/
def NextNums (c : Dev nD) (n : ℕ) (zp : Fin 4) (r3 r1 : Fin 1 → ℕ) (q3 q1 : Fin 3 → ℕ) (oS : Fin 1 → ℕ) (dQ dO : ℕ) (o3 o1 lQ3 lQ1 lO3 lO1 : Fin 3 → ℕ) (lH3 lH1 : Fin 4 → ℕ) : Prop :=
  let s3 := slotOf c zp 3
  let s1 := slotOf c zp 1
  (At (zOf c) n (.recv 0 zp 3) ∧ At (zOf c) (n + 1) (.send 8 zp) ∧ At (zOf c) (n + 2) (.recv 0 zp 1) ∧ At (zOf c) (n + 3) (.recv 1 zp 3) ∧ At (zOf c) (n + 4) (.recv 1 zp 1) ∧
    At (zOf c) (n + 5) (.send 9 zp) ∧ At (zOf c) (n + 6) (.chunk zp 3) ∧ At (zOf c) (n + 7) (.chunk zp 1)) ∧
  r3 = ![s3.val] ∧ r1 = ![s1.val] ∧ q3 = ![s3.val, 0, 0] ∧ q1 = ![s1.val, 0, 0] ∧ oS = ![zp.val] ∧ dQ = (destOf c 8).val ∧ dO = (destOf c 9).val ∧
  o3 = ![s3.val, 0, 0] ∧ o1 = ![s1.val, 0, 0] ∧ lQ3 = ![s3.val, 0, 0] ∧ lQ1 = ![s1.val, 0, 0] ∧ lO3 = ![s3.val, 0, 0] ∧ lO1 = ![s1.val, 0, 0] ∧
  lH3 = ![4 * s3.val, 0, 0, 0] ∧ lH1 = ![4 * s1.val, 0, 0, 0]

section Next
variable {zp : Fin 4} {r3 r1 : Fin 1 → ℕ} {q3 q1 : Fin 3 → ℕ} {oS : Fin 1 → ℕ} {dQ dO : ℕ} {o3 o1 lQ3 lQ1 lO3 lO1 : Fin 3 → ℕ} {lH3 lH1 : Fin 4 → ℕ}

instance : Decidable (NextNums c n zp r3 r1 q3 q1 oS dQ dO o3 o1 lQ3 lQ1 lO3 lO1 lH3 lH1) := by unfold NextNums; infer_instance

/-- The neighbouring slots of a row, from the numbers. -/
theorem nextCols (nums : NextNums c n zp r3 r1 q3 q1 oS dQ dO o3 o1 lQ3 lQ1 lO3 lO1 lH3 lH1)
    {α β γ δ : Type} {a0 : α} {ret : (S1x512x256.Idx → Elt F .bf16) → (S1x256x512.Idx → Elt F .bf16) → β}
    {mid : β → (S4x2x128x64.Idx → Elt F .f32) → (S4x2x128x64.Idx → Elt F .f32) → (S2x128x512.Idx → Elt F .f32) → γ} {fst : γ → (S2x128x512.Idx → Elt F .f32)}
    (hval3 : ∀ kt vt prev, fst (mid (ret (rowQ (I.wq (slotOf c zp 3))) (rowO (I.wo (slotOf c zp 3)))) kt vt prev) = chunkVal (I.x c) (I.wq (slotOf c zp 3)) (I.wo (slotOf c zp 3)) kt vt prev)
    {ret1 : (S1x512x256.Idx → Elt F .bf16) → (S1x256x512.Idx → Elt F .bf16) → (S4x2x128x64.Idx → Elt F .f32) → (S4x2x128x64.Idx → Elt F .f32) → δ}
    {fin : δ → (S2x128x512.Idx → Elt F .f32) → (S2x128x512.Idx → Elt F .f32)}
    (hval1 : ∀ kt vt prev, fin (ret1 (rowQ (I.wq (slotOf c zp 1))) (rowO (I.wo (slotOf c zp 1))) kt vt) prev = chunkVal (I.x c) (I.wq (slotOf c zp 1)) (I.wo (slotOf c zp 1)) kt vt prev)
    {ir3 : ∀ a, r3 a + S1.size a ≤ S16.size a} {ir1 : ∀ a, r1 a + S1.size a ≤ S16.size a} {iS : ∀ a, oS a + S1.size a ≤ S4.size a}
    {iq3 : ∀ a, q3 a + S1x512x256.size a ≤ S16x512x256.size a} {iq1 : ∀ a, q1 a + S1x512x256.size a ≤ S16x512x256.size a}
    {io3 : ∀ a, o3 a + S1x256x512.size a ≤ S16x256x512.size a} {io1 : ∀ a, o1 a + S1x256x512.size a ≤ S16x256x512.size a}
    {jq3 : ∀ a, lQ3 a + S1x512x256.size a ≤ S16x512x256.size a} {jq1 : ∀ a, lQ1 a + S1x512x256.size a ≤ S16x512x256.size a}
    {jo3 : ∀ a, lO3 a + S1x256x512.size a ≤ S16x256x512.size a} {jo1 : ∀ a, lO1 a + S1x256x512.size a ≤ S16x256x512.size a}
    {jh3 : ∀ a, lH3 a + S4x2x128x64.size a ≤ S64x2x128x64.size a} {jh1 : ∀ a, lH1 a + S4x2x128x64.size a ≤ S64x2x128x64.size a}
    {ibZ : ∀ a, (![0, 0, 0] : Fin 3 → ℕ) a + S2x128x512.size a ≤ S2x128x512.size a} {hdQ : dQ < nD} {hdO : dO < nD}
    {w1 w2 w3 w4 w5 w6 w7 w8 : _} {scQ : (partQ q3 iq3).view.ref.isScScratch = false} {scO : (partO o1 io1).view.ref.isScScratch = false}
    {u1 u2 : (partQ q3 iq3).view.WordExact} {u3 u4 : (partO o1 io1).view.WordExact} {t1 t2 : _} {h1 h2 h3 h4 h5 h6 h7 h8 h9 h10 h11 h12 hx hm hx' hm' : _} :
    St I K c n ⊢ Run (F := F) c
      ((Prog.lift (.waitDma2 (cell16 cc0_scratch2 r3 ir3) (partQ q3 iq3) (partQ q3 iq3) w1 w2) >>= fun _ =>
        Prog.lift (.enqueueDma (partQ q3 iq3) (.remote (Dev.tc (⟨dQ, hdQ⟩ : Dev nD)) (partQ q3 iq3) (.dma (cell4 cc0_scratch12 oS iS)) scQ) (.dma (cell16 cc0_scratch2 r3 ir3)) u1 u2 t1) >>= fun _ =>
        Prog.lift (.waitDma2 (cell16 cc0_scratch2 r1 ir1) (partQ q1 iq1) (partQ q1 iq1) w3 w4) >>= fun _ => pure a0) >>= fun _ =>
       (Prog.lift (.waitDma2 (cell16 cc0_scratch3 r3 ir3) (partO o3 io3) (partO o3 io3) w5 w6) >>= fun _ =>
        Prog.lift (.waitDma2 (cell16 cc0_scratch3 r1 ir1) (partO o1 io1) (partO o1 io1) w7 w8) >>= fun _ =>
        Prog.lift (.enqueueDma (partO o1 io1) (.remote (Dev.tc (⟨dO, hdO⟩ : Dev nD)) (partO o1 io1) (.dma (cell4 cc0_scratch13 oS iS)) scO) (.dma (cell16 cc0_scratch3 r1 ir1)) u3 u4 t2) >>= fun _ =>
        Prog.lift (.load (Memref.whole cc0_scratch0) (Rect.unit (s := S16x512x256) lQ3 S1x512x256.size jq3).toLoadRect h1) >>= fun q =>
        Prog.lift (.load (Memref.whole cc0_scratch1) (Rect.unit (s := S16x256x512) lO3 S1x256x512.size jo3).toLoadRect h2) >>= fun p => pure (ret q p)) >>= fun b =>
       (Prog.lift (.load (Memref.whole cc0_stg2_0) (Rect.unit (s := S64x2x128x64) lH3 S4x2x128x64.size jh3).toLoadRect h3) >>= fun kt =>
        Prog.lift (.load (Memref.whole cc0_stg3_0) (Rect.unit (s := S64x2x128x64) lH3 S4x2x128x64.size jh3).toLoadRect h4) >>= fun vt =>
        Prog.lift (.load (Memref.whole cc0_stg5_0) (Rect.unit (s := S2x128x512) ![0, 0, 0] S2x128x512.size ibZ).toLoadRect h5) >>= fun prev => pure (mid b kt vt prev)) >>= fun g =>
       (Prog.lift (.load (Memref.whole cc0_stg5_0) (Rect.unit (s := S2x128x512) ![0, 0, 0] S2x128x512.size ibZ).toLoadRect h6) >>= fun _ =>
        Prog.lift (.store (Memref.whole cc0_stg5_0) (Rect.unit (s := S2x128x512) ![0, 0, 0] S2x128x512.size ibZ) (fst g) Finset.univ hx hm) >>= fun _ =>
        Prog.lift (.load (Memref.whole cc0_scratch0) (Rect.unit (s := S16x512x256) lQ1 S1x512x256.size jq1).toLoadRect h7) >>= fun q =>
        Prog.lift (.load (Memref.whole cc0_scratch1) (Rect.unit (s := S16x256x512) lO1 S1x256x512.size jo1).toLoadRect h8) >>= fun p =>
        Prog.lift (.load (Memref.whole cc0_stg2_0) (Rect.unit (s := S64x2x128x64) lH1 S4x2x128x64.size jh1).toLoadRect h9) >>= fun kt =>
        Prog.lift (.load (Memref.whole cc0_stg3_0) (Rect.unit (s := S64x2x128x64) lH1 S4x2x128x64.size jh1).toLoadRect h10) >>= fun vt => pure (ret1 q p kt vt)) >>= fun d =>
       Prog.lift (.load (Memref.whole cc0_stg5_0) (Rect.unit (s := S2x128x512) ![0, 0, 0] S2x128x512.size ibZ).toLoadRect h11) >>= fun prev =>
       Prog.lift (.load (Memref.whole cc0_stg5_0) (Rect.unit (s := S2x128x512) ![0, 0, 0] S2x128x512.size ibZ).toLoadRect h12) >>= fun _ =>
       Prog.lift (.store (Memref.whole cc0_stg5_0) (Rect.unit (s := S2x128x512) ![0, 0, 0] S2x128x512.size ibZ) (fin d prev) Finset.univ hx' hm') >>= fun _ => pure PUnit.unit)
      (fun _ : PUnit => St I K c (n + 8)) := by
  obtain ⟨⟨a0, a1, a2, a3, a4, a5, a6, a7⟩, er3, er1, eq3, eq1, eS, edQ, edO, eo3, eo1, elQ3, elQ1, elO3, elO1, elH3, elH1⟩ := nums
  have k8 : kindW 8 = 0 ∧ srcK 8 = 3 := by decide
  have k9 : kindW 9 = 1 ∧ srcK 9 = 1 := by decide
  have f3 : foreign (zOf c) zp 3 = true := a0.1
  have f1 : foreign (zOf c) zp 1 = true := a2.1
  refine run_bind (recv_at I K a0 (recvQ_of er3) rfl ?_)
  refine bindU I K (n' := n + 2) (send_Q I K a1 (Fin.ext edQ) (by rw [k8.2]) (send_of 8 eS) (by rw [k8.1]; exact recvQ_of er3) (slot_of_Q eq3) k8.1 (by rw [k8.2]; exact f3)) ?_
  refine recv_at I K a2 (recvQ_of er1) rfl (run_pure (run_bind ?_))
  refine recv_at I K a3 (recvO_of er3) rfl (recv_at I K a4 (recvO_of er1) rfl ?_)
  refine bindU I K (n' := n + 6) (send_O I K a5 (Fin.ext edO) (by rw [k9.2]) (send_of 9 eS) (by rw [k9.1]; exact recvO_of er1) (slot_of_O eo1) k9.1 (by rw [k9.2]; exact f1)) ?_
  refine step_loadQ I K f3 (.of_at a0 (by omega)) elQ3 (step_loadO I K f3 (.of_at a3 (by omega)) elO3 (run_pure (run_bind ?_)))
  refine step_loadk I K _ elH3 (step_loadv I K _ elH3 (step_loadacc I K (run_pure (run_bind (step_loadacc I K ?_)))))
  refine bindU I K (n' := n + 7) (step_chunk I K a6 (hval3 _ _ _)) ?_
  refine step_loadQ I K f1 (.of_at a2 (by omega)) elQ1 (step_loadO I K f1 (.of_at a4 (by omega)) elO1 ?_)
  refine step_loadk I K _ elH1 (step_loadv I K _ elH1 (run_pure (step_loadacc I K (step_loadacc I K ?_))))
  exact bindU I K (step_chunk I K a7 (hval1 _ _ _)) (St_done I K _)
end Next

/-! ## The opposite column -/

/-- The numbers the part of a row's opposite slot computes are those of its slot. -/
def FarNums (c : Dev nD) (n : ℕ) (zp : Fin 4) (r : Fin 1 → ℕ) (q o lQ lO : Fin 3 → ℕ) (lH : Fin 4 → ℕ) : Prop :=
  let s := slotOf c zp 2
  (At (zOf c) n (.recv 0 zp 2) ∧ At (zOf c) (n + 1) (.recv 1 zp 2) ∧ At (zOf c) (n + 2) (.chunk zp 2)) ∧
  r = ![s.val] ∧ q = ![s.val, 0, 0] ∧ o = ![s.val, 0, 0] ∧ lQ = ![s.val, 0, 0] ∧ lO = ![s.val, 0, 0] ∧ lH = ![4 * s.val, 0, 0, 0]

section Far
variable {zp : Fin 4} {r : Fin 1 → ℕ} {q o lQ lO : Fin 3 → ℕ} {lH : Fin 4 → ℕ}

instance : Decidable (FarNums c n zp r q o lQ lO lH) := by unfold FarNums; infer_instance

/-- The opposite slot of a row, from the numbers. -/
theorem farCol (nums : FarNums c n zp r q o lQ lO lH) {β γ : Type} {ret : (S1x512x256.Idx → Elt F .bf16) → (S1x256x512.Idx → Elt F .bf16) → β}
    {mid : β → (S4x2x128x64.Idx → Elt F .f32) → (S4x2x128x64.Idx → Elt F .f32) → (S2x128x512.Idx → Elt F .f32) → γ} {fin : γ → (S2x128x512.Idx → Elt F .f32)}
    (hval : ∀ kt vt prev, fin (mid (ret (rowQ (I.wq (slotOf c zp 2))) (rowO (I.wo (slotOf c zp 2)))) kt vt prev) = chunkVal (I.x c) (I.wq (slotOf c zp 2)) (I.wo (slotOf c zp 2)) kt vt prev)
    {ir : ∀ a, r a + S1.size a ≤ S16.size a} {iq : ∀ a, q a + S1x512x256.size a ≤ S16x512x256.size a} {io : ∀ a, o a + S1x256x512.size a ≤ S16x256x512.size a}
    {jq : ∀ a, lQ a + S1x512x256.size a ≤ S16x512x256.size a} {jo : ∀ a, lO a + S1x256x512.size a ≤ S16x256x512.size a}
    {jh : ∀ a, lH a + S4x2x128x64.size a ≤ S64x2x128x64.size a} {ibZ : ∀ a, (![0, 0, 0] : Fin 3 → ℕ) a + S2x128x512.size a ≤ S2x128x512.size a}
    {w1 w2 w3 w4 h1 h2 h3 h4 h5 h6 hx hm : _} :
    St I K c n ⊢ Run (F := F) c
      ((Prog.lift (.waitDma2 (cell16 cc0_scratch2 r ir) (partQ q iq) (partQ q iq) w1 w2) >>= fun _ =>
        Prog.lift (.waitDma2 (cell16 cc0_scratch3 r ir) (partO o io) (partO o io) w3 w4) >>= fun _ =>
        Prog.lift (.load (Memref.whole cc0_scratch0) (Rect.unit (s := S16x512x256) lQ S1x512x256.size jq).toLoadRect h1) >>= fun q =>
        Prog.lift (.load (Memref.whole cc0_scratch1) (Rect.unit (s := S16x256x512) lO S1x256x512.size jo).toLoadRect h2) >>= fun p => pure (ret q p)) >>= fun b =>
       (Prog.lift (.load (Memref.whole cc0_stg2_0) (Rect.unit (s := S64x2x128x64) lH S4x2x128x64.size jh).toLoadRect h3) >>= fun kt =>
        Prog.lift (.load (Memref.whole cc0_stg3_0) (Rect.unit (s := S64x2x128x64) lH S4x2x128x64.size jh).toLoadRect h4) >>= fun vt =>
        Prog.lift (.load (Memref.whole cc0_stg5_0) (Rect.unit (s := S2x128x512) ![0, 0, 0] S2x128x512.size ibZ).toLoadRect h5) >>= fun prev => pure (mid b kt vt prev)) >>= fun g =>
       Prog.lift (.load (Memref.whole cc0_stg5_0) (Rect.unit (s := S2x128x512) ![0, 0, 0] S2x128x512.size ibZ).toLoadRect h6) >>= fun _ =>
       Prog.lift (.store (Memref.whole cc0_stg5_0) (Rect.unit (s := S2x128x512) ![0, 0, 0] S2x128x512.size ibZ) (fin g) Finset.univ hx hm) >>= fun _ => pure PUnit.unit)
      (fun _ : PUnit => St I K c (n + 3)) := by
  obtain ⟨⟨a0, a1, a2⟩, er, eq, eo, elQ, elO, elH⟩ := nums
  have f2 : foreign (zOf c) zp 2 = true := a0.1
  refine run_bind (recv_at I K a0 (recvQ_of er) rfl (recv_at I K a1 (recvO_of er) rfl ?_))
  refine step_loadQ I K f2 (.of_at a0 (by omega)) elQ (step_loadO I K f2 (.of_at a1 (by omega)) elO (run_pure (run_bind ?_)))
  refine step_loadk I K _ elH (step_loadv I K _ elH (step_loadacc I K (run_pure (step_loadacc I K ?_))))
  exact bindU I K (step_chunk I K a2 (hval _ _ _)) (St_done I K _)
end Far

end Gather
-- ==== Proof.Regions.lean ====
module

public import proofs.«01_k».proof.Proof.Vert
public import proofs.«01_k».proof.Proof.Gen.KernelIdeal.Skeleton

/-! # The regions of the program -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- A part of the program at the buffers of the call. -/
abbrev At0 {γ : Type 1} (f : (arg0 : Memref sig .tc .vmem S2x128x512 .f32) → arg0.IsWhole → (arg1 : Memref sig .tc .vmem S512x256 .bf16) → arg1.IsWhole →
    (arg2 : Memref sig .tc .vmem S64x2x128x64 .f32) → arg2.IsWhole → (arg3 : Memref sig .tc .vmem S64x2x128x64 .f32) → arg3.IsWhole →
    (arg4 : Memref sig .tc .vmem S256x512 .bf16) → arg4.IsWhole → (arg5 : Memref sig .tc .vmem S2x128x512 .f32) → arg5.IsWhole →
    (arg6 : Memref sig .tc .vmem S16x512x256 .bf16) → arg6.IsWhole → (arg7 : Memref sig .tc .vmem S16x256x512 .bf16) → arg7.IsWhole →
    DmaSems sig S16 → DmaSems sig S16 → DmaSems sig S4 → DmaSems sig S4 → DmaSems sig S4 → DmaSems sig S4 → DmaSems sig S4 → DmaSems sig S4 → DmaSems sig S4 → DmaSems sig S4 → DmaSems sig S4 → DmaSems sig S4 → γ) : γ :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9 cc0_scratch10 cc0_scratch11 cc0_scratch12 cc0_scratch13

/-- A part at the buffers of the call, written out. -/
theorem At0_eq {γ : Type 1} (f : (arg0 : Memref sig .tc .vmem S2x128x512 .f32) → arg0.IsWhole → (arg1 : Memref sig .tc .vmem S512x256 .bf16) → arg1.IsWhole →
    (arg2 : Memref sig .tc .vmem S64x2x128x64 .f32) → arg2.IsWhole → (arg3 : Memref sig .tc .vmem S64x2x128x64 .f32) → arg3.IsWhole →
    (arg4 : Memref sig .tc .vmem S256x512 .bf16) → arg4.IsWhole → (arg5 : Memref sig .tc .vmem S2x128x512 .f32) → arg5.IsWhole →
    (arg6 : Memref sig .tc .vmem S16x512x256 .bf16) → arg6.IsWhole → (arg7 : Memref sig .tc .vmem S16x256x512 .bf16) → arg7.IsWhole →
    DmaSems sig S16 → DmaSems sig S16 → DmaSems sig S4 → DmaSems sig S4 → DmaSems sig S4 → DmaSems sig S4 → DmaSems sig S4 → DmaSems sig S4 → DmaSems sig S4 → DmaSems sig S4 → DmaSems sig S4 → DmaSems sig S4 → γ) : At0 f =
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9 cc0_scratch10 cc0_scratch11 cc0_scratch12 cc0_scratch13 := rfl

/-! ## Column slots -/

/-- The query weight's four heads and the output weight, as a column slot's part hands them on. -/
abbrev FourHeads (F : FTy → Type) : Type :=
  Σ' (_ : FVec F S256x512 .bf16) (_ : FVec F S1x256x64 .f32) (_ : FVec F S1x256x64 .f32) (_ : FVec F S1x256x64 .f32), FVec F S1x256x64 .f32

/-! ### The row below -/

theorem skip3 : ∀ c : Dev nD, k0_cond3 c ≠ 1#1 → ∀ i < 9, Free (zOf c) (9 + i) := by decide +kernel
theorem nums3 : ∀ c : Dev nD, k0_cond3 c = 1#1 → VertNums c 9 (zOf c - 1) 0 1 (k0_cond4 c = 1#1) (k0_cond5 c = 1#1) (k0_off14 c) (k0_off15 c)
    (k0_off16 c) (k0_off17 c) (k0_off18 c) (k0_dev13 c) (k0_off19 c) (k0_dev14 c) (k0_dev15 c) (k0_off20 c)
    (k0_off21 c) (k0_off22 c) (k0_off23 c) (k0_dev16 c) (k0_dev17 c) (k0_dev18 c) (k0_off24 c) (k0_off25 c) (k0_off26 c) := by decide +kernel
theorem region3 (I : Inp F) (K : GSem nD τ sig → ℕ) {c : Dev nD} (v2 v20 v24 v28 v29 : BitVec 32) :
    St I K c 9 ⊢ Run (F := F) c (At0 k0_part90 c v2 v20 v24 v28 v29 maskV (k0_pay183 (I.x c))) (fun _ => St I K c 18) := by
  rw [k0_part90_eq_skeleton]
  refine step_if I K (fun h => ?_) (fun _ => rfl) (fun h => St_free I K (skip3 c h))
  simp only [k0_part1_eq_skeleton, k0_part2_eq_skeleton, k0_part3_eq_skeleton, k0_part4_eq_skeleton, k0_part5_eq_skeleton, k0_part6_eq_skeleton]
  dsimp only [k0_part1_skel, k0_part2_skel, k0_part3_skel, k0_part4_skel, k0_part5_skel, k0_part6_skel]
  exact column I K (nums3 c h) (β := FourHeads F) (ret := fun q p => ⟨k0_pay2 p, k0_pay3 _ q, k0_pay4 _ q, k0_pay5 _ q, k0_pay6 _ q⟩)
    (fin := fun b => k0_pay7 maskV b.1 b.2.1 b.2.2.1 b.2.2.2.1 b.2.2.2.2) (by exact fun kt vt prev => chunk_row (I.x c) _ _ kt vt prev)
    (fun h' _ => by exact onward_Q I K (nums3 c h) h' fun _ => send_of 0) (fun h' _ => by exact onward_O I K (nums3 c h) h' fun _ => send_of 1)

/-! ### The row above -/

theorem skip6 : ∀ c : Dev nD, k0_cond6 c ≠ 1#1 → ∀ i < 9, Free (zOf c) (18 + i) := by decide +kernel
theorem nums6 : ∀ c : Dev nD, k0_cond6 c = 1#1 → VertNums c 18 (zOf c + 1) 2 3 (k0_cond7 c = 1#1) (k0_cond8 c = 1#1) (k0_off27 c) (k0_off28 c)
    (k0_off29 c) (k0_off30 c) (k0_off31 c) (k0_dev19 c) (k0_off32 c) (k0_dev20 c) (k0_dev21 c) (k0_off33 c)
    (k0_off34 c) (k0_off35 c) (k0_off36 c) (k0_dev22 c) (k0_dev23 c) (k0_dev24 c) (k0_off37 c) (k0_off38 c) (k0_off39 c) := by decide +kernel
theorem region6 (I : Inp F) (K : GSem nD τ sig → ℕ) {c : Dev nD} (v2 v20 v24 v28 v30 : BitVec 32) :
    St I K c 18 ⊢ Run (F := F) c (At0 k0_part92 c v2 v20 v24 v28 v30 maskV (k0_pay183 (I.x c))) (fun _ => St I K c 27) := by
  rw [k0_part92_eq_skeleton]
  refine step_if I K (fun h => ?_) (fun _ => rfl) (fun h => St_free I K (skip6 c h))
  simp only [k0_part7_eq_skeleton, k0_part8_eq_skeleton, k0_part9_eq_skeleton, k0_part10_eq_skeleton, k0_part11_eq_skeleton, k0_part12_eq_skeleton]
  dsimp only [k0_part7_skel, k0_part8_skel, k0_part9_skel, k0_part10_skel, k0_part11_skel, k0_part12_skel]
  exact column I K (nums6 c h) (β := FourHeads F) (ret := fun q p => ⟨k0_pay9 p, k0_pay10 _ q, k0_pay11 _ q, k0_pay12 _ q, k0_pay13 _ q⟩)
    (fin := fun b => k0_pay14 maskV b.1 b.2.1 b.2.2.1 b.2.2.2.1 b.2.2.2.2) (by exact fun kt vt prev => chunk_row (I.x c) _ _ kt vt prev)
    (fun h' _ => by exact onward_Q I K (nums6 c h) h' fun _ => send_of 2) (fun h' _ => by exact onward_O I K (nums6 c h) h' fun _ => send_of 3)

/-! ### The second row below -/

theorem skip9 : ∀ c : Dev nD, k0_cond9 c ≠ 1#1 → ∀ i < 9, Free (zOf c) (27 + i) := by decide +kernel
theorem nums9 : ∀ c : Dev nD, k0_cond9 c = 1#1 → VertNums c 27 (zOf c - 2) 0 1 (k0_cond10 c = 1#1) (k0_cond11 c = 1#1) (k0_off40 c) (k0_off41 c)
    (k0_off42 c) (k0_off43 c) (k0_off44 c) (k0_dev25 c) (k0_off45 c) (k0_dev26 c) (k0_dev27 c) (k0_off46 c)
    (k0_off47 c) (k0_off48 c) (k0_off49 c) (k0_dev28 c) (k0_dev29 c) (k0_dev30 c) (k0_off50 c) (k0_off51 c) (k0_off52 c) := by decide +kernel
theorem region9 (I : Inp F) (K : GSem nD τ sig → ℕ) {c : Dev nD} (v2 v20 v24 v28 v29 : BitVec 32) :
    St I K c 27 ⊢ Run (F := F) c (At0 k0_part94 c v2 v20 v24 v28 v29 maskV (k0_pay183 (I.x c))) (fun _ => St I K c 36) := by
  rw [k0_part94_eq_skeleton]
  refine step_if I K (fun h => ?_) (fun _ => rfl) (fun h => St_free I K (skip9 c h))
  simp only [k0_part13_eq_skeleton, k0_part14_eq_skeleton, k0_part15_eq_skeleton, k0_part16_eq_skeleton, k0_part17_eq_skeleton, k0_part18_eq_skeleton]
  dsimp only [k0_part13_skel, k0_part14_skel, k0_part15_skel, k0_part16_skel, k0_part17_skel, k0_part18_skel]
  exact column I K (nums9 c h) (β := FourHeads F) (ret := fun q p => ⟨k0_pay16 p, k0_pay17 _ q, k0_pay18 _ q, k0_pay19 _ q, k0_pay20 _ q⟩)
    (fin := fun b => k0_pay21 maskV b.1 b.2.1 b.2.2.1 b.2.2.2.1 b.2.2.2.2) (by exact fun kt vt prev => chunk_row (I.x c) _ _ kt vt prev)
    (fun h' _ => by exact onward_Q I K (nums9 c h) h' fun _ => send_of 0) (fun h' _ => by exact onward_O I K (nums9 c h) h' fun _ => send_of 1)

/-! ### The second row above -/

theorem skip12 : ∀ c : Dev nD, k0_cond12 c ≠ 1#1 → ∀ i < 9, Free (zOf c) (36 + i) := by decide +kernel
theorem nums12 : ∀ c : Dev nD, k0_cond12 c = 1#1 → VertNums c 36 (zOf c + 2) 2 3 (k0_cond13 c = 1#1) (k0_cond14 c = 1#1) (k0_off53 c) (k0_off54 c)
    (k0_off55 c) (k0_off56 c) (k0_off57 c) (k0_dev31 c) (k0_off58 c) (k0_dev32 c) (k0_dev33 c) (k0_off59 c)
    (k0_off60 c) (k0_off61 c) (k0_off62 c) (k0_dev34 c) (k0_dev35 c) (k0_dev36 c) (k0_off63 c) (k0_off64 c) (k0_off65 c) := by decide +kernel
theorem region12 (I : Inp F) (K : GSem nD τ sig → ℕ) {c : Dev nD} (v2 v20 v24 v28 v30 : BitVec 32) :
    St I K c 36 ⊢ Run (F := F) c (At0 k0_part96 c v2 v20 v24 v28 v30 maskV (k0_pay183 (I.x c))) (fun _ => St I K c 45) := by
  rw [k0_part96_eq_skeleton]
  refine step_if I K (fun h => ?_) (fun _ => rfl) (fun h => St_free I K (skip12 c h))
  simp only [k0_part19_eq_skeleton, k0_part20_eq_skeleton, k0_part21_eq_skeleton, k0_part22_eq_skeleton, k0_part23_eq_skeleton, k0_part24_eq_skeleton]
  dsimp only [k0_part19_skel, k0_part20_skel, k0_part21_skel, k0_part22_skel, k0_part23_skel, k0_part24_skel]
  exact column I K (nums12 c h) (β := FourHeads F) (ret := fun q p => ⟨k0_pay23 p, k0_pay24 _ q, k0_pay25 _ q, k0_pay26 _ q, k0_pay27 _ q⟩)
    (fin := fun b => k0_pay28 maskV b.1 b.2.1 b.2.2.1 b.2.2.2.1 b.2.2.2.2) (by exact fun kt vt prev => chunk_row (I.x c) _ _ kt vt prev)
    (fun h' _ => by exact onward_Q I K (nums12 c h) h' fun _ => send_of 2) (fun h' _ => by exact onward_O I K (nums12 c h) h' fun _ => send_of 3)

/-! ### The third row below -/

theorem skip15 : ∀ c : Dev nD, k0_cond15 c ≠ 1#1 → ∀ i < 9, Free (zOf c) (45 + i) := by decide +kernel
theorem nums15 : ∀ c : Dev nD, k0_cond15 c = 1#1 → VertNums c 45 (zOf c - 3) 0 1 (k0_cond16 c = 1#1) (k0_cond17 c = 1#1) (k0_off66 c) (k0_off67 c)
    (k0_off68 c) (k0_off69 c) (k0_off70 c) (k0_dev37 c) (k0_off71 c) (k0_dev38 c) (k0_dev39 c) (k0_off72 c)
    (k0_off73 c) (k0_off74 c) (k0_off75 c) (k0_dev40 c) (k0_dev41 c) (k0_dev42 c) (k0_off76 c) (k0_off77 c) (k0_off78 c) := by decide +kernel
theorem region15 (I : Inp F) (K : GSem nD τ sig → ℕ) {c : Dev nD} (v2 v20 v24 v28 v29 : BitVec 32) :
    St I K c 45 ⊢ Run (F := F) c (At0 k0_part98 c v2 v20 v24 v28 v29 maskV (k0_pay183 (I.x c))) (fun _ => St I K c 54) := by
  rw [k0_part98_eq_skeleton]
  refine step_if I K (fun h => ?_) (fun _ => rfl) (fun h => St_free I K (skip15 c h))
  simp only [k0_part25_eq_skeleton, k0_part26_eq_skeleton, k0_part27_eq_skeleton, k0_part28_eq_skeleton, k0_part29_eq_skeleton, k0_part30_eq_skeleton]
  dsimp only [k0_part25_skel, k0_part26_skel, k0_part27_skel, k0_part28_skel, k0_part29_skel, k0_part30_skel]
  exact column I K (nums15 c h) (β := FourHeads F) (ret := fun q p => ⟨k0_pay30 p, k0_pay31 _ q, k0_pay32 _ q, k0_pay33 _ q, k0_pay34 _ q⟩)
    (fin := fun b => k0_pay35 maskV b.1 b.2.1 b.2.2.1 b.2.2.2.1 b.2.2.2.2) (by exact fun kt vt prev => chunk_row (I.x c) _ _ kt vt prev)
    (fun h' _ => by exact onward_Q I K (nums15 c h) h' fun _ => send_of 0) (fun h' _ => by exact onward_O I K (nums15 c h) h' fun _ => send_of 1)

/-! ### The third row above -/

theorem skip18 : ∀ c : Dev nD, k0_cond18 c ≠ 1#1 → ∀ i < 9, Free (zOf c) (54 + i) := by decide +kernel
theorem nums18 : ∀ c : Dev nD, k0_cond18 c = 1#1 → VertNums c 54 (zOf c + 3) 2 3 (k0_cond19 c = 1#1) (k0_cond20 c = 1#1) (k0_off79 c) (k0_off80 c)
    (k0_off81 c) (k0_off82 c) (k0_off83 c) (k0_dev43 c) (k0_off84 c) (k0_dev44 c) (k0_dev45 c) (k0_off85 c)
    (k0_off86 c) (k0_off87 c) (k0_off88 c) (k0_dev46 c) (k0_dev47 c) (k0_dev48 c) (k0_off89 c) (k0_off90 c) (k0_off91 c) := by decide +kernel
theorem region18 (I : Inp F) (K : GSem nD τ sig → ℕ) {c : Dev nD} (v2 v20 v24 v28 v30 : BitVec 32) :
    St I K c 54 ⊢ Run (F := F) c (At0 k0_part100 c v2 v20 v24 v28 v30 maskV (k0_pay183 (I.x c))) (fun _ => St I K c 63) := by
  rw [k0_part100_eq_skeleton]
  refine step_if I K (fun h => ?_) (fun _ => rfl) (fun h => St_free I K (skip18 c h))
  simp only [k0_part31_eq_skeleton, k0_part32_eq_skeleton, k0_part33_eq_skeleton, k0_part34_eq_skeleton, k0_part35_eq_skeleton, k0_part36_eq_skeleton]
  dsimp only [k0_part31_skel, k0_part32_skel, k0_part33_skel, k0_part34_skel, k0_part35_skel, k0_part36_skel]
  exact column I K (nums18 c h) (β := FourHeads F) (ret := fun q p => ⟨k0_pay37 p, k0_pay38 _ q, k0_pay39 _ q, k0_pay40 _ q, k0_pay41 _ q⟩)
    (fin := fun b => k0_pay42 maskV b.1 b.2.1 b.2.2.1 b.2.2.2.1 b.2.2.2.2) (by exact fun kt vt prev => chunk_row (I.x c) _ _ kt vt prev)
    (fun h' _ => by exact onward_Q I K (nums18 c h) h' fun _ => send_of 2) (fun h' _ => by exact onward_O I K (nums18 c h) h' fun _ => send_of 3)

end Gather
-- ==== Proof.Own.lean ====
module

public import proofs.«01_k».proof.Proof.Rows
public import proofs.«01_k».proof.Proof.Regions
public import Idealize.ShloMosaic.Lib.Pipeline.Value

/-! # The device's own weights

It sends them to its neighbours and adds their product. -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD} {n : ℕ}

/-- The device's own query weight, and its own output weight, sent to a neighbour. -/
theorem own_Q {a : Fin 10} (h : At (zOf c) n (.send a (zOf c))) (hk : srcK a = 0) {d : Dev nD} (hdev : d = destOf c a)
    {sS sR : DmaSem sig} (hsS : sS = sendSem a (zOf c))
    {α : Type} {p : PUnit → Prog (TpuEff nD τ sig (Elt F) Λ₀ .tc) α} {Q : α → sProp 𝕄} (hp : St I K c (n + 1) ⊢ Run (F := F) c (p ⟨⟩) Q)
    {m : Memref sig .tc .vmem S512x256 .bf16} (hm : m = slotQ (slotOf c (zOf c) 0)) (hsR : sR = recvSem 0 (slotOf c (zOf c) 0)) (hw : kindW a = 0)
    {hsc : m.view.ref.isScScratch = false} {hsrc : stgQ.view.WordExact} {hdst : m.view.WordExact}
    {hsem : DmaTarget.Typed .vmem (.dma sR) (.remote (Dev.tc d) m (.dma sS) hsc)} :
    St I K c n ⊢ Run (F := F) c (Prog.lift (.enqueueDma stgQ (.remote (Dev.tc d) m (.dma sS) hsc) (.dma sR) hsrc hdst hsem) >>= p) Q := by
  subst hm
  exact bindU I K (n' := n + 1) (step_ownQ I K h hdev (by rw [hk]) hsS (by rw [hw]; exact hsR) hw (by rw [hk]; exact own_false _)) hp
theorem own_O {a : Fin 10} (h : At (zOf c) n (.send a (zOf c))) (hk : srcK a = 0) {d : Dev nD} (hdev : d = destOf c a)
    {sS sR : DmaSem sig} (hsS : sS = sendSem a (zOf c))
    {α : Type} {p : PUnit → Prog (TpuEff nD τ sig (Elt F) Λ₀ .tc) α} {Q : α → sProp 𝕄} (hp : St I K c (n + 1) ⊢ Run (F := F) c (p ⟨⟩) Q)
    {m : Memref sig .tc .vmem S256x512 .bf16} (hm : m = slotO (slotOf c (zOf c) 0)) (hsR : sR = recvSem 1 (slotOf c (zOf c) 0)) (hw : kindW a = 1)
    {hsc : m.view.ref.isScScratch = false} {hsrc : stgO.view.WordExact} {hdst : m.view.WordExact}
    {hsem : DmaTarget.Typed .vmem (.dma sR) (.remote (Dev.tc d) m (.dma sS) hsc)} :
    St I K c n ⊢ Run (F := F) c (Prog.lift (.enqueueDma stgO (.remote (Dev.tc d) m (.dma sS) hsc) (.dma sR) hsrc hdst hsem) >>= p) Q := by
  subst hm
  exact bindU I K (n' := n + 1) (step_ownO I K h hdev (by rw [hk]) hsS (by rw [hw]; exact hsR) hw (by rw [hk]; exact own_false _)) hp

/-- The numbers a pair of own sends computes. -/
def OwnNums (c : Dev nD) (n : ℕ) (a b : Fin 10) (s r : Fin 1 → ℕ) (q o : Fin 3 → ℕ) (d e : ℕ) : Prop :=
  (At (zOf c) n (.send a (zOf c)) ∧ At (zOf c) (n + 1) (.send b (zOf c))) ∧ s = ![(zOf c).val] ∧ r = ![(slotOf c (zOf c) 0).val] ∧
    q = ![(slotOf c (zOf c) 0).val, 0, 0] ∧ o = ![(slotOf c (zOf c) 0).val, 0, 0] ∧ d = (destOf c a).val ∧ e = (destOf c b).val
instance (c : Dev nD) (n : ℕ) (a b : Fin 10) (s r : Fin 1 → ℕ) (q o : Fin 3 → ℕ) (d e : ℕ) : Decidable (OwnNums c n a b s r q o d e) := by
  unfold OwnNums; infer_instance

/-! ## Along the column -/

theorem skip1 : ∀ c : Dev nD, k0_cond1 c ≠ 1#1 → ∀ i < 2, Free (zOf c) (0 + i) := by decide +kernel
theorem nums1 : ∀ c : Dev nD, k0_cond1 c = 1#1 → OwnNums c 0 0 1 (k0_off1 c) (k0_off2 c) (k0_off3 c) (k0_off4 c) (k0_dev5 c) (k0_dev6 c) := by decide +kernel
theorem region1 (v29 : BitVec 32) : St I K c 0 ⊢ Run (F := F) c (At0 k0_part84 c v29) (fun _ => St I K c 2) := by
  rw [At0_eq, k0_part84_eq_skeleton, k0_part84_skel.eq_1]
  by_cases h : k0_cond1 c = 1#1
  swap
  · rw [dif_neg h, show St I K c 0 = St I K c 2 from St_free I K (skip1 c h)]
    exact St_done I K 2
  rw [dif_pos h]
  obtain ⟨⟨a0, a1⟩, es, er, eq, eo, ed, ee⟩ := nums1 c h
  refine own_Q I K a0 rfl (Fin.ext ed) (by exact send_of 0 es) ?_ (slot_of_Q eq) (recvQ_of er) rfl
  exact own_O I K a1 rfl (Fin.ext ee) (by exact send_of 1 es) (St_done I K _) (slot_of_O eo) (recvO_of er) rfl

theorem skip2 : ∀ c : Dev nD, k0_cond2 c ≠ 1#1 → ∀ i < 2, Free (zOf c) (2 + i) := by decide +kernel
theorem nums2 : ∀ c : Dev nD, k0_cond2 c = 1#1 → OwnNums c 2 2 3 (k0_off5 c) (k0_off6 c) (k0_off7 c) (k0_off8 c) (k0_dev7 c) (k0_dev8 c) := by decide +kernel
theorem region2 (v30 : BitVec 32) : St I K c 2 ⊢ Run (F := F) c (At0 k0_part86 c v30) (fun _ => St I K c 4) := by
  rw [At0_eq, k0_part86_eq_skeleton, k0_part86_skel.eq_1]
  by_cases h : k0_cond2 c = 1#1
  swap
  · rw [dif_neg h, show St I K c 2 = St I K c 4 from St_free I K (skip2 c h)]
    exact St_done I K 4
  rw [dif_pos h]
  obtain ⟨⟨a0, a1⟩, es, er, eq, eo, ed, ee⟩ := nums2 c h
  refine own_Q I K a0 rfl (Fin.ext ed) (by exact send_of 2 es) ?_ (slot_of_Q eq) (recvQ_of er) rfl
  exact own_O I K a1 rfl (Fin.ext ee) (by exact send_of 3 es) (St_done I K _) (slot_of_O eo) (recvO_of er) rfl

/-! ## To the neighbours of the row, and the own product -/

theorem numsRight : ∀ c : Dev nD, OwnNums c 4 4 5 (k0_off9 c) (k0_off10 c) (k0_off11 c) (k0_off12 c) (k0_dev9 c) (k0_dev10 c) := by decide +kernel
theorem numsLeft : ∀ c : Dev nD, OwnNums c 6 6 7 (k0_off9 c) (k0_off10 c) (k0_off11 c) (k0_off12 c) (k0_dev11 c) (k0_dev12 c) := by decide +kernel
theorem ownHeads : ∀ c : Dev nD, k0_off13 c = ![4 * (slotOf c (zOf c) 0).val, 0, 0, 0] := by decide +kernel
theorem ownChunk : ∀ c : Dev nD, At (zOf c) 8 (.chunk (zOf c) 0) := by decide +kernel

theorem ownWq (f : S512x256.Idx → Elt F .bf16) : k0_pay185 f = f := shapeCast_self f _
theorem ownWo (f : S256x512.Idx → Elt F .bf16) : k0_pay186 f = f := shapeCast_self f _
theorem own_index : ∀ c : Dev nD, slotOf c (zOf c) 0 = c := by decide +kernel

set_option maxHeartbeats 2000000 in
theorem regionRow (v24 v28 : BitVec 32) {α : Type} {p : (Σ' (_ : FVec F S512x256 .bf16), FVec F S256x512 .bf16) → Prog (TpuEff nD τ sig (Elt F) Λ₀ .tc) α} {Q : α → sProp 𝕄}
    (hp : St I K c 8 ⊢ Run (F := F) c (p ⟨I.wq c, I.wo c⟩) Q) :
    St I K c 4 ⊢ Run (F := F) c (At0 k0_part87 c v24 v28 >>= p) Q := by
  rw [At0_eq, k0_part87_eq_skeleton, k0_part87_skel.eq_1]
  obtain ⟨⟨a0, a1⟩, es, er, eq, eo, ed, ee⟩ := numsRight c
  obtain ⟨⟨b0, b1⟩, -, -, -, -, fd, fe⟩ := numsLeft c
  refine run_bind ?_
  refine own_Q I K a0 rfl (Fin.ext ed) (by exact send_of 4 es) ?_ (slot_of_Q eq) (recvQ_of er) rfl
  refine own_O I K a1 rfl (Fin.ext ee) (by exact send_of 5 es) ?_ (slot_of_O eo) (recvO_of er) rfl
  refine own_Q I K b0 rfl (Fin.ext fd) (by exact send_of 6 es) ?_ (slot_of_Q eq) (recvQ_of er) rfl
  refine own_O I K b1 rfl (Fin.ext fe) (by exact send_of 7 es) ?_ (slot_of_O eo) (recvO_of er) rfl
  refine step_loadwq I K (step_loadwo I K (run_pure ?_))
  rw [ownWq, ownWo]; exact hp

theorem regionOwn (v2 v20 : BitVec 32) {α : Type} {p : PUnit → Prog (TpuEff nD τ sig (Elt F) Λ₀ .tc) α} {Q : α → sProp 𝕄}
    (hp : St I K c 9 ⊢ Run (F := F) c (p ⟨⟩) Q) :
    St I K c 8 ⊢ Run (F := F) c (At0 k0_part88 c v2 maskV (k0_pay183 (I.x c)) (I.wq c) (I.wo c) >>= fun r => At0 k0_part89 v20 r.1 r.2 >>= p) Q := by
  rw [At0_eq, k0_part88_eq_skeleton, k0_part88_skel.eq_1]
  have o := own_index c
  refine run_bind (step_loadk I K _ (ownHeads c) (step_loadv I K _ (ownHeads c) (run_pure ?_)))
  rw [At0_eq, k0_part89_eq_skeleton, k0_part89_skel.eq_1]
  refine run_bind (step_loadacc I K (step_loadacc I K (bindU I K (n' := 9) (step_chunk I K (ownChunk c) ?_) (run_pure hp))))
  rw [o]; rfl

end Gather
-- ==== Proof.Barrier.lean ====
module

public import proofs.«01_k».proof.Proof.Own

/-! # The barrier

Every device lends the slots its neighbours write to, and waits until it has theirs. -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD}

/-- The direction back. -/
def opp (d : Fin 4) : Fin 4 := if d = 0 then 1 else if d = 1 then 0 else if d = 2 then 3 else 2
theorem toward_opp : ∀ (d : Fin 4) (c : Dev nD), toward (opp d) (toward d c) = c := by decide +kernel
theorem opp_opp : ∀ d : Fin 4, opp (opp d) = d := by decide

/-- What is owed to the neighbours' barriers from direction `d` on. -/
def barDue (c : Dev nD) (d : Fin 4) : CellTallies nD τ sig Unit := tallyAt (barCell (toward d c)) () 1
def owed (c : Dev nD) : CellTallies nD τ sig Unit := dues c 0 + barDue c 3 + barDue c 2 + barDue c 1 + barDue c 0

/-- What a signal in direction `d` uses up. -/
def sig1 (c : Dev nD) (d : Fin 4) : sProp 𝕄 :=
  iprop(dutyTok ER (barCell (toward d c)) 0 (opp d) ∗ reached ER (barCell (toward d c)) 0 ∗ barPay (F := F) (toward d c) (opp d))

theorem step_signal (d : Fin 4) {e : Dev nD} (he : e = toward d c) {O O' : CellTallies nD τ sig Unit} (hO : O' = O + barDue c d) {R : sProp 𝕄}
    {α : Type} {p : PUnit → Prog (TpuEff nD τ sig (Elt F) Λ₀ .tc) α} {Q : α → sProp 𝕄}
    (hp : iprop(recs I K ∗ (∃ W, owes (c : Thread nD τ) O W) ∗ R) ⊢ Run (F := F) c (p ⟨⟩) Q) :
    iprop(recs I K ∗ (∃ W, owes (c : Thread nD τ) O' W) ∗ sig1 (F := F) c d ∗ R) ⊢ Run (F := F) c (semSignalWord e (SemArray.scalar (sig.barrier 0 rfl) : Sems sig S_).sem 1#32 >>= p) Q := by
  subst he hO
  refine BI.Entails.trans ?_ (run_bind (P := iprop(recs I K ∗ (∃ W, owes (c : Thread nD τ) (O + barDue c d) W) ∗ sig1 (F := F) c d ∗ R)) (k := p) (Q := Q)
    (p := semSignalWord (toward d c) (SemArray.scalar (sig.barrier 0 rfl) : Sems sig S_).sem 1#32) ?_)
  · exact BI.Entails.refl _
  unfold sig1 Run
  iintro ⟨#HR, ⟨%W, HO⟩, ⟨Ht, #Hr, Hp⟩, HF⟩
  iapply (Rounds.wp_signal 𝒱₀ ER (sched I) (c : Thread nD τ) none (dst := (toward d c : Thread nD τ)) (sem := barS) (r := 0) (d := opp d) (κ := K (barCell (toward d c)))
      (by rw [duties_bar]; exact Finset.mem_univ _) (amount_bar I (toward d c) (opp d)) () O rfl) $$ [HO Ht Hp]
  · isplitr; · iapply (recs_inv I K (bar_mem (toward d c))); iexact HR
    isplitl [HO]; · iexact HO
    isplitl [Ht]; · iexact Ht
    isplitl [Hp]; · rw [payload_bar]; iexact Hp
    iexact Hr
  iintro HO
  rw [wp_ret]
  imodintro
  iapply hp
  isplitr; · iexact HR
  isplitl [HO]; · iexists W; iexact HO
  iexact HF

theorem late_dues : ∀ (c : Dev nD) (a : Fin 10) (zp : Fin 4), live (zOf c) a zp = true → 1 < level (landZ (zOf c) a) zp (landK a) := by decide +kernel

theorem step_barwait {R : sProp 𝕄}
    {α : Type} {p : PUnit → Prog (TpuEff nD τ sig (Elt F) Λ₀ .tc) α} {Q : α → sProp 𝕄}
    (hp : iprop(recs I K ∗ (∃ W, owes (c : Thread nD τ) (dues c 0) W) ∗ atPos ER (barCell c) 1 ∅ 0 ∗ (bigSep Finset.univ fun d => barPay (F := F) c d) ∗ R) ⊢ Run (F := F) c (p ⟨⟩) Q) :
    iprop(recs I K ∗ (∃ W, owes (c : Thread nD τ) (dues c 0) W) ∗ atPos ER (barCell c) 0 ∅ 0 ∗ cred (tallyAt (barCell c) () 4) ∗ R)
      ⊢ Run (F := F) c (semWaitWord (SemArray.scalar (sig.barrier 0 rfl) : Sems sig S_).sem 4#32 >>= p) Q := by
  refine BI.Entails.trans ?_ (run_bind (P := iprop(recs I K ∗ (∃ W, owes (c : Thread nD τ) (dues c 0) W) ∗ atPos ER (barCell c) 0 ∅ 0 ∗ cred (tallyAt (barCell c) () 4) ∗ R)) (k := p) (Q := Q)
    (p := semWaitWord (SemArray.scalar (sig.barrier 0 rfl) : Sems sig S_).sem 4#32) ?_)
  · exact BI.Entails.refl _
  unfold Run
  iintro ⟨#HR, ⟨%W, HO⟩, Hat, Hc, HF⟩
  iapply (Rounds.wp_wait_rest_token 𝒱₀ ER (sched I) (c : Thread nD τ) none (κ := K (barCell c))
      (wpE_semWait_eq 𝒱₀ (c : Thread nD τ) none Set.univ) (Set.mem_univ _) () (O := dues c 0) (W := W) (R := 0) (m := 0) (T := ∅)
      ((Nat.zero_add 4).trans (expect_bar I c).symm)) $$ [Hc HO Hat]
  · isplitr; · iapply (recs_inv I K (bar_mem c)); iexact HR
    isplitl [Hc]; · iexact Hc
    isplitl [HO]; · iexact HO
    isplitr
    · iapply (mayWait (F := F) (c := c) (n := 0) (.reg barS) 1 (le_of_eq (lv_bar c)) fun x hl _ => by
        rw [lv_dest c x.1 x.2 hl]; exact late_dues c x.1 x.2 hl)
      iapply (recs_lev I K); iexact HR
    iexact Hat
  iintro ⟨HO, Hat, -, Hp⟩
  rw [wp_ret]
  imodintro
  iapply hp
  isplitr; · iexact HR
  isplitl [HO]; · iexists _; iexact HO
  isplitl [Hat]; · iexact Hat
  isplitl [Hp]
  · rw [Finset.sdiff_empty, duties_bar]; iexact Hp
  iexact HF

/-! ## What the neighbours lent, send by send -/

/-- A send's slot at its destination. -/
def lent (c : Dev nD) (x : Fin 10 × Fin 4) : sProp 𝕄 :=
  if live (zOf c) x.1 x.2 = true then
    iprop(slotAny (F := F) (destOf c x.1) (kindW x.1) (slotOf c x.2 (srcK x.1)) ∗ reached ER (destCell c x.1 x.2) 0)
  else iprop(emp)

theorem lent_all : (bigSep Finset.univ fun d => barPay (F := F) c d) = bigSep Finset.univ (lent (F := F) c) := by
  unfold barPay
  rw [bigSep_univ_comm]
  refine bigSep_congr fun x _ => ?_
  have rest : (bigSep (Finset.univ.erase (dirOf x.1)) fun d : Fin 4 => if live (zOf c) x.1 x.2 = true ∧ dirOf x.1 = d then
      iprop(slotAny (F := F) (destOf c x.1) (kindW x.1) (slotOf c x.2 (srcK x.1)) ∗ reached ER (destCell c x.1 x.2) 0) else iprop(emp)) = (BI.emp : sProp 𝕄) := by
    rw [← bigSep_emp_const (M := 𝕄) (Finset.univ.erase (dirOf x.1))]
    exact bigSep_congr fun d hd => if_neg fun h => Finset.ne_of_mem_erase hd h.2.symm
  rw [split_off (Finset.mem_univ (dirOf x.1)), rest]
  unfold lent
  by_cases h : live (zOf c) x.1 x.2 = true
  · rw [if_pos ⟨h, rfl⟩, if_pos h]; exact BI.equiv_iff.mp sep_emp
  · rw [if_neg (fun h' => h h'.1), if_neg h]; exact BI.equiv_iff.mp sep_emp

/-! ## The program's barrier -/

theorem barNums : ∀ c : Dev nD, k0_dev1 c = (toward 0 c).val ∧ k0_dev2 c = (toward 1 c).val ∧ k0_dev3 c = (toward 2 c).val ∧ k0_dev4 c = (toward 3 c).val := by decide +kernel

/-- Before the barrier. -/
def Early (c : Dev nD) (R : sProp 𝕄) : sProp 𝕄 :=
  iprop(recs I K ∗ (∃ W, owes (c : Thread nD τ) (owed c) W) ∗ sig1 (F := F) c 0 ∗ sig1 (F := F) c 1 ∗ sig1 (F := F) c 2 ∗ sig1 (F := F) c 3
    ∗ atPos ER (barCell c) 0 ∅ 0 ∗ cred (tallyAt (barCell c) () 4) ∗ R)
/-- After it. -/
def Met (c : Dev nD) (R : sProp 𝕄) : sProp 𝕄 :=
  iprop(recs I K ∗ (∃ W, owes (c : Thread nD τ) (dues c 0) W) ∗ atPos ER (barCell c) 1 ∅ 0 ∗ bigSep Finset.univ (lent (F := F) c) ∗ R)

set_option maxHeartbeats 1000000 in
theorem regionBarrier (v3 v20 v24 v28 v35 : BitVec 32) {R : sProp 𝕄} {α : Type}
    {p : (Σ' (v36 : BitVec 32) (v54 : IVec S256x256 32) (v55 : IVec S256x256 32) (c128_i32 : BitVec 32) (v57 : IVec S256x256 32) (v64 : IVec S256x256 32), BitVec 1) → Prog (TpuEff nD τ sig (Elt F) Λ₀ .tc) α} {Q : α → sProp 𝕄}
    (hp : Met I K c R ⊢ Run (F := F) c (p ⟨Scalar.remsi v35 4#32, iota .tc S256x256 32 [0] iota_S256x256_d0_w32, iota .tc S256x256 32 [1] iota_S256x256_d1_w32, 128#32, k0_pay176, k0_pay177, Scalar.cmpi .sgt 128#32 0#32⟩) Q) :
    Early I K c R ⊢ Run (F := F) c (At0 k0_part80 c v3 v20 v24 v28 v35 >>= p) Q := by
  rw [At0_eq, k0_part80_eq_skeleton, k0_part80_skel.eq_1]
  obtain ⟨e1, e2, e3, e4⟩ := barNums c
  refine run_bind ?_
  unfold Early
  refine step_signal I K 0 (Fin.ext e1) (O := dues c 0 + barDue c 3 + barDue c 2 + barDue c 1) rfl ?_
  refine step_signal I K 1 (Fin.ext e2) (O := dues c 0 + barDue c 3 + barDue c 2) rfl ?_
  refine step_signal I K 2 (Fin.ext e3) (O := dues c 0 + barDue c 3) rfl ?_
  refine step_signal I K 3 (Fin.ext e4) (O := dues c 0) rfl ?_
  refine step_barwait I K ?_
  rw [lent_all]
  exact run_pure hp

end Gather
-- ==== Proof.RowRegions.lean ====
module

public import proofs.«01_k».proof.Proof.Rows
public import proofs.«01_k».proof.Proof.Regions

/-! # The regions of the program: the other columns -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The neighbouring columns -/

/-- What the parts of a row's neighbouring slots hand on. -/
abbrev Next38 (F : FTy → Type) : Type :=
  Σ' (_ : FVec F S512x256 .bf16) (_ : FVec F S256x512 .bf16) (_ : FVec F S256x64 .f32) (_ : FVec F S256x64 .f32) (_ : FVec F S512x64 .bf16), FVec F S256x64 .f32
abbrev Next39 (F : FTy → Type) : Type := Σ' (_ : FVec F S4x256x512 .f32), FVec F S2x128x512 .f32
abbrev Next40 (F : FTy → Type) : Type := Σ' (_ : FVec F S256x512 .bf16) (_ : FVec F S4x256x64 .f32) (_ : FVec F S4x256x256 .f32), IVec S1x256x256 1
abbrev Far65 (F : FTy → Type) : Type :=
  Σ' (_ : BitVec 32) (_ : FVec F S256x512 .bf16) (_ : FVec F S256x64 .f32) (_ : FVec F S1x256x64 .f32) (_ : FVec F S1x256x64 .f32), FVec F S1x256x64 .f32

/-! ### The own row -/

theorem skip21 : ∀ c : Dev nD, k0_cond21 c ≠ 1#1 → ∀ i < 8, Free (zOf c) (63 + i) := by decide +kernel
theorem nums21 : ∀ c : Dev nD, k0_cond21 c = 1#1 → NextNums c 63 (zOf c) (k0_off92 c 3#32) (k0_off92 c 1#32) (k0_off93 c 3#32) (k0_off93 c 1#32) (k0_off94 c) (k0_dev49 c) (k0_dev50 c)
    (k0_off95 c 3#32) (k0_off95 c 1#32) (k0_off96 c 3#32) (k0_off96 c 1#32) (k0_off97 c 3#32) (k0_off97 c 1#32) (k0_off98 c 3#32) (k0_off98 c 1#32) := by decide +kernel
theorem region21 (I : Inp F) (K : GSem nD τ sig → ℕ) {c : Dev nD} (v20 v24 v28 v32 v34 : BitVec 32) :
    St I K c 63 ⊢ Run (F := F) c (At0 k0_part102 c v20 v24 v28 v32 v34 maskV (k0_pay183 (I.x c))) (fun _ => St I K c 71) := by
  rw [k0_part102_eq_skeleton]
  refine step_if I K (fun h => ?_) (fun _ => rfl) (fun h => St_free I K (skip21 c h))
  simp only [k0_part37_eq_skeleton, k0_part38_eq_skeleton, k0_part39_eq_skeleton, k0_part40_eq_skeleton]
  dsimp only [k0_part37_skel, k0_part38_skel, k0_part39_skel, k0_part40_skel]
  exact nextCols I K (nums21 c h) (β := Next38 F) (γ := Next39 F) (δ := Next40 F)
    (ret := fun q p => ⟨k0_pay43 q, k0_pay44 p, k0_pay45 _ q, k0_pay46 _ q, k0_pay47 q, constant S256x64 .f32 0x00000000#32⟩)
    (mid := fun b kt vt prev => ⟨k0_pay48 maskV _ b.1 b.2.1 b.2.2.1 b.2.2.2.1 b.2.2.2.2.1 b.2.2.2.2.2 kt vt, k0_pay49 prev⟩) (fst := fun g => k0_pay50 g.1 g.2)
    (by exact fun kt vt prev => chunk_row (I.x c) _ _ kt vt prev)
    (ret1 := fun q p kt vt => ⟨k0_pay51 p, k0_pay52 vt, k0_pay53 _ q kt, k0_pay54 maskV⟩) (fin := fun d prev => k0_pay190 d.1 d.2.1 d.2.2.1 d.2.2.2 prev)
    (by exact fun kt vt prev => chunk_row (I.x c) _ _ kt vt prev)

/-! ### The row below -/

theorem skip22 : ∀ c : Dev nD, k0_cond22 c ≠ 1#1 → ∀ i < 8, Free (zOf c) (71 + i) := by decide +kernel
theorem nums22 : ∀ c : Dev nD, k0_cond22 c = 1#1 → NextNums c 71 (zOf c - 1) (k0_off99 c 3#32) (k0_off99 c 1#32) (k0_off100 c 3#32) (k0_off100 c 1#32) (k0_off101 c) (k0_dev51 c) (k0_dev52 c)
    (k0_off102 c 3#32) (k0_off102 c 1#32) (k0_off103 c 3#32) (k0_off103 c 1#32) (k0_off104 c 3#32) (k0_off104 c 1#32) (k0_off105 c 3#32) (k0_off105 c 1#32) := by decide +kernel
theorem region22 (I : Inp F) (K : GSem nD τ sig → ℕ) {c : Dev nD} (v20 v24 v28 v32 v34 : BitVec 32) :
    St I K c 71 ⊢ Run (F := F) c (At0 k0_part104 c v20 v24 v28 v32 v34 maskV (k0_pay183 (I.x c))) (fun _ => St I K c 79) := by
  rw [At0_eq, k0_part104_eq_skeleton, k0_part104_skel.eq_1]
  by_cases h : k0_cond22 c = 1#1
  swap
  · rw [dif_neg h, show St I K c 71 = St I K c 79 from St_free I K (skip22 c h)]
    exact St_done I K 79
  rw [dif_pos h]
  simp only [k0_part41_eq_skeleton, k0_part42_eq_skeleton, k0_part43_eq_skeleton, k0_part44_eq_skeleton]
  dsimp only [k0_part41_skel, k0_part42_skel, k0_part43_skel, k0_part44_skel]
  have nums := nums22 c h
  generalize zOf c - 1 = zp at nums
  exact nextCols I K nums (β := Next38 F) (γ := Next39 F) (δ := Next40 F)
    (ret := fun q p => ⟨k0_pay55 q, k0_pay56 p, k0_pay57 _ q, k0_pay58 _ q, k0_pay59 q, constant S256x64 .f32 0x00000000#32⟩)
    (mid := fun b kt vt prev => ⟨k0_pay60 maskV _ b.1 b.2.1 b.2.2.1 b.2.2.2.1 b.2.2.2.2.1 b.2.2.2.2.2 kt vt, k0_pay61 prev⟩) (fst := fun g => k0_pay62 g.1 g.2)
    (by exact fun kt vt prev => chunk_row (I.x c) _ _ kt vt prev)
    (ret1 := fun q p kt vt => ⟨k0_pay63 p, k0_pay64 vt, k0_pay65 _ q kt, k0_pay66 maskV⟩) (fin := fun d prev => k0_pay191 d.1 d.2.1 d.2.2.1 d.2.2.2 prev)
    (by exact fun kt vt prev => chunk_row (I.x c) _ _ kt vt prev)

/-! ### The second row below -/

theorem skip23 : ∀ c : Dev nD, k0_cond23 c ≠ 1#1 → ∀ i < 8, Free (zOf c) (79 + i) := by decide +kernel
theorem nums23 : ∀ c : Dev nD, k0_cond23 c = 1#1 → NextNums c 79 (zOf c - 2) (k0_off106 c 3#32) (k0_off106 c 1#32) (k0_off107 c 3#32) (k0_off107 c 1#32) (k0_off108 c) (k0_dev53 c) (k0_dev54 c)
    (k0_off109 c 3#32) (k0_off109 c 1#32) (k0_off110 c 3#32) (k0_off110 c 1#32) (k0_off111 c 3#32) (k0_off111 c 1#32) (k0_off112 c 3#32) (k0_off112 c 1#32) := by decide +kernel
theorem region23 (I : Inp F) (K : GSem nD τ sig → ℕ) {c : Dev nD} (v20 v24 v28 v32 v34 : BitVec 32) :
    St I K c 79 ⊢ Run (F := F) c (At0 k0_part106 c v20 v24 v28 v32 v34 maskV (k0_pay183 (I.x c))) (fun _ => St I K c 87) := by
  rw [At0_eq, k0_part106_eq_skeleton, k0_part106_skel.eq_1]
  by_cases h : k0_cond23 c = 1#1
  swap
  · rw [dif_neg h, show St I K c 79 = St I K c 87 from St_free I K (skip23 c h)]
    exact St_done I K 87
  rw [dif_pos h]
  simp only [k0_part45_eq_skeleton, k0_part46_eq_skeleton, k0_part47_eq_skeleton, k0_part48_eq_skeleton]
  dsimp only [k0_part45_skel, k0_part46_skel, k0_part47_skel, k0_part48_skel]
  have nums := nums23 c h
  generalize zOf c - 2 = zp at nums
  exact nextCols I K nums (β := Next38 F) (γ := Next39 F) (δ := Next40 F)
    (ret := fun q p => ⟨k0_pay67 q, k0_pay68 p, k0_pay69 _ q, k0_pay70 _ q, k0_pay71 q, constant S256x64 .f32 0x00000000#32⟩)
    (mid := fun b kt vt prev => ⟨k0_pay72 maskV _ b.1 b.2.1 b.2.2.1 b.2.2.2.1 b.2.2.2.2.1 b.2.2.2.2.2 kt vt, k0_pay73 prev⟩) (fst := fun g => k0_pay74 g.1 g.2)
    (by exact fun kt vt prev => chunk_row (I.x c) _ _ kt vt prev)
    (ret1 := fun q p kt vt => ⟨k0_pay75 p, k0_pay76 vt, k0_pay77 _ q kt, k0_pay78 maskV⟩) (fin := fun d prev => k0_pay192 d.1 d.2.1 d.2.2.1 d.2.2.2 prev)
    (by exact fun kt vt prev => chunk_row (I.x c) _ _ kt vt prev)

/-! ### The third row below -/

theorem skip24 : ∀ c : Dev nD, k0_cond24 c ≠ 1#1 → ∀ i < 8, Free (zOf c) (87 + i) := by decide +kernel
theorem nums24 : ∀ c : Dev nD, k0_cond24 c = 1#1 → NextNums c 87 (zOf c - 3) (k0_off113 c 3#32) (k0_off113 c 1#32) (k0_off114 c 3#32) (k0_off114 c 1#32) (k0_off115 c) (k0_dev55 c) (k0_dev56 c)
    (k0_off116 c 3#32) (k0_off116 c 1#32) (k0_off117 c 3#32) (k0_off117 c 1#32) (k0_off118 c 3#32) (k0_off118 c 1#32) (k0_off119 c 3#32) (k0_off119 c 1#32) := by decide +kernel
theorem region24 (I : Inp F) (K : GSem nD τ sig → ℕ) {c : Dev nD} (v20 v24 v28 v32 v34 : BitVec 32) :
    St I K c 87 ⊢ Run (F := F) c (At0 k0_part108 c v20 v24 v28 v32 v34 maskV (k0_pay183 (I.x c))) (fun _ => St I K c 95) := by
  rw [At0_eq, k0_part108_eq_skeleton, k0_part108_skel.eq_1]
  by_cases h : k0_cond24 c = 1#1
  swap
  · rw [dif_neg h, show St I K c 87 = St I K c 95 from St_free I K (skip24 c h)]
    exact St_done I K 95
  rw [dif_pos h]
  simp only [k0_part49_eq_skeleton, k0_part50_eq_skeleton, k0_part51_eq_skeleton, k0_part52_eq_skeleton]
  dsimp only [k0_part49_skel, k0_part50_skel, k0_part51_skel, k0_part52_skel]
  have nums := nums24 c h
  generalize zOf c - 3 = zp at nums
  exact nextCols I K nums (β := Next38 F) (γ := Next39 F) (δ := Next40 F)
    (ret := fun q p => ⟨k0_pay79 q, k0_pay80 p, k0_pay81 _ q, k0_pay82 _ q, k0_pay83 q, constant S256x64 .f32 0x00000000#32⟩)
    (mid := fun b kt vt prev => ⟨k0_pay84 maskV _ b.1 b.2.1 b.2.2.1 b.2.2.2.1 b.2.2.2.2.1 b.2.2.2.2.2 kt vt, k0_pay85 prev⟩) (fst := fun g => k0_pay86 g.1 g.2)
    (by exact fun kt vt prev => chunk_row (I.x c) _ _ kt vt prev)
    (ret1 := fun q p kt vt => ⟨k0_pay87 p, k0_pay88 vt, k0_pay89 _ q kt, k0_pay90 maskV⟩) (fin := fun d prev => k0_pay193 d.1 d.2.1 d.2.2.1 d.2.2.2 prev)
    (by exact fun kt vt prev => chunk_row (I.x c) _ _ kt vt prev)

/-! ### The row above -/

theorem skip25 : ∀ c : Dev nD, k0_cond25 c ≠ 1#1 → ∀ i < 8, Free (zOf c) (95 + i) := by decide +kernel
theorem nums25 : ∀ c : Dev nD, k0_cond25 c = 1#1 → NextNums c 95 (zOf c + 1) (k0_off120 c 3#32) (k0_off120 c 1#32) (k0_off121 c 3#32) (k0_off121 c 1#32) (k0_off122 c) (k0_dev57 c) (k0_dev58 c)
    (k0_off123 c 3#32) (k0_off123 c 1#32) (k0_off124 c 3#32) (k0_off124 c 1#32) (k0_off125 c 3#32) (k0_off125 c 1#32) (k0_off126 c 3#32) (k0_off126 c 1#32) := by decide +kernel
theorem region25 (I : Inp F) (K : GSem nD τ sig → ℕ) {c : Dev nD} (v20 v24 v28 v32 v34 : BitVec 32) :
    St I K c 95 ⊢ Run (F := F) c (At0 k0_part110 c v20 v24 v28 v32 v34 maskV (k0_pay183 (I.x c))) (fun _ => St I K c 103) := by
  rw [k0_part110_eq_skeleton]
  refine step_if I K (fun h => ?_) (fun _ => rfl) (fun h => St_free I K (skip25 c h))
  simp only [k0_part53_eq_skeleton, k0_part54_eq_skeleton, k0_part55_eq_skeleton, k0_part56_eq_skeleton]
  dsimp only [k0_part53_skel, k0_part54_skel, k0_part55_skel, k0_part56_skel]
  have nums := nums25 c h
  generalize zOf c + 1 = zp at nums
  exact nextCols I K nums (β := Next38 F) (γ := Next39 F) (δ := Next40 F)
    (ret := fun q p => ⟨k0_pay91 q, k0_pay92 p, k0_pay93 _ q, k0_pay94 _ q, k0_pay95 q, constant S256x64 .f32 0x00000000#32⟩)
    (mid := fun b kt vt prev => ⟨k0_pay96 maskV _ b.1 b.2.1 b.2.2.1 b.2.2.2.1 b.2.2.2.2.1 b.2.2.2.2.2 kt vt, k0_pay97 prev⟩) (fst := fun g => k0_pay98 g.1 g.2)
    (by exact fun kt vt prev => chunk_row (I.x c) _ _ kt vt prev)
    (ret1 := fun q p kt vt => ⟨k0_pay99 p, k0_pay100 vt, k0_pay101 _ q kt, k0_pay102 maskV⟩) (fin := fun d prev => k0_pay194 d.1 d.2.1 d.2.2.1 d.2.2.2 prev)
    (by exact fun kt vt prev => chunk_row (I.x c) _ _ kt vt prev)

/-! ### The second row above -/

theorem skip26 : ∀ c : Dev nD, k0_cond26 c ≠ 1#1 → ∀ i < 8, Free (zOf c) (103 + i) := by decide +kernel
theorem nums26 : ∀ c : Dev nD, k0_cond26 c = 1#1 → NextNums c 103 (zOf c + 2) (k0_off127 c 3#32) (k0_off127 c 1#32) (k0_off128 c 3#32) (k0_off128 c 1#32) (k0_off129 c) (k0_dev59 c) (k0_dev60 c)
    (k0_off130 c 3#32) (k0_off130 c 1#32) (k0_off131 c 3#32) (k0_off131 c 1#32) (k0_off132 c 3#32) (k0_off132 c 1#32) (k0_off133 c 3#32) (k0_off133 c 1#32) := by decide +kernel
theorem region26 (I : Inp F) (K : GSem nD τ sig → ℕ) {c : Dev nD} (v20 v24 v28 v32 v34 : BitVec 32) :
    St I K c 103 ⊢ Run (F := F) c (At0 k0_part112 c v20 v24 v28 v32 v34 maskV (k0_pay183 (I.x c))) (fun _ => St I K c 111) := by
  rw [k0_part112_eq_skeleton]
  refine step_if I K (fun h => ?_) (fun _ => rfl) (fun h => St_free I K (skip26 c h))
  simp only [k0_part57_eq_skeleton, k0_part58_eq_skeleton, k0_part59_eq_skeleton, k0_part60_eq_skeleton]
  dsimp only [k0_part57_skel, k0_part58_skel, k0_part59_skel, k0_part60_skel]
  have nums := nums26 c h
  generalize zOf c + 2 = zp at nums
  exact nextCols I K nums (β := Next38 F) (γ := Next39 F) (δ := Next40 F)
    (ret := fun q p => ⟨k0_pay103 q, k0_pay104 p, k0_pay105 _ q, k0_pay106 _ q, k0_pay107 q, constant S256x64 .f32 0x00000000#32⟩)
    (mid := fun b kt vt prev => ⟨k0_pay108 maskV _ b.1 b.2.1 b.2.2.1 b.2.2.2.1 b.2.2.2.2.1 b.2.2.2.2.2 kt vt, k0_pay109 prev⟩) (fst := fun g => k0_pay110 g.1 g.2)
    (by exact fun kt vt prev => chunk_row (I.x c) _ _ kt vt prev)
    (ret1 := fun q p kt vt => ⟨k0_pay111 p, k0_pay112 vt, k0_pay113 _ q kt, k0_pay114 maskV⟩) (fin := fun d prev => k0_pay195 d.1 d.2.1 d.2.2.1 d.2.2.2 prev)
    (by exact fun kt vt prev => chunk_row (I.x c) _ _ kt vt prev)

/-! ### The third row above -/

theorem skip27 : ∀ c : Dev nD, k0_cond27 c ≠ 1#1 → ∀ i < 8, Free (zOf c) (111 + i) := by decide +kernel
theorem nums27 : ∀ c : Dev nD, k0_cond27 c = 1#1 → NextNums c 111 (zOf c + 3) (k0_off134 c 3#32) (k0_off134 c 1#32) (k0_off135 c 3#32) (k0_off135 c 1#32) (k0_off136 c) (k0_dev61 c) (k0_dev62 c)
    (k0_off137 c 3#32) (k0_off137 c 1#32) (k0_off138 c 3#32) (k0_off138 c 1#32) (k0_off139 c 3#32) (k0_off139 c 1#32) (k0_off140 c 3#32) (k0_off140 c 1#32) := by decide +kernel
theorem region27 (I : Inp F) (K : GSem nD τ sig → ℕ) {c : Dev nD} (v20 v24 v28 v32 v34 : BitVec 32) :
    St I K c 111 ⊢ Run (F := F) c (At0 k0_part114 c v20 v24 v28 v32 v34 maskV (k0_pay183 (I.x c))) (fun _ => St I K c 119) := by
  rw [k0_part114_eq_skeleton]
  refine step_if I K (fun h => ?_) (fun _ => rfl) (fun h => St_free I K (skip27 c h))
  simp only [k0_part61_eq_skeleton, k0_part62_eq_skeleton, k0_part63_eq_skeleton, k0_part64_eq_skeleton]
  dsimp only [k0_part61_skel, k0_part62_skel, k0_part63_skel, k0_part64_skel]
  have nums := nums27 c h
  generalize zOf c + 3 = zp at nums
  exact nextCols I K nums (β := Next38 F) (γ := Next39 F) (δ := Next40 F)
    (ret := fun q p => ⟨k0_pay115 q, k0_pay116 p, k0_pay117 _ q, k0_pay118 _ q, k0_pay119 q, constant S256x64 .f32 0x00000000#32⟩)
    (mid := fun b kt vt prev => ⟨k0_pay120 maskV _ b.1 b.2.1 b.2.2.1 b.2.2.2.1 b.2.2.2.2.1 b.2.2.2.2.2 kt vt, k0_pay121 prev⟩) (fst := fun g => k0_pay122 g.1 g.2)
    (by exact fun kt vt prev => chunk_row (I.x c) _ _ kt vt prev)
    (ret1 := fun q p kt vt => ⟨k0_pay123 p, k0_pay124 vt, k0_pay125 _ q kt, k0_pay126 maskV⟩) (fin := fun d prev => k0_pay196 d.1 d.2.1 d.2.2.1 d.2.2.2 prev)
    (by exact fun kt vt prev => chunk_row (I.x c) _ _ kt vt prev)

/-! ## The opposite column -/

/-! ### The own row -/

theorem skip28 : ∀ c : Dev nD, k0_cond28 c ≠ 1#1 → ∀ i < 3, Free (zOf c) (119 + i) := by decide +kernel
theorem nums28 : ∀ c : Dev nD, k0_cond28 c = 1#1 → FarNums c 119 (zOf c) (k0_off141 c) (k0_off142 c) (k0_off143 c) (k0_off144 c) (k0_off145 c) (k0_off146 c) := by decide +kernel
theorem region28 (I : Inp F) (K : GSem nD τ sig → ℕ) {c : Dev nD} (v20 v24 v28 v36 : BitVec 32) :
    St I K c 119 ⊢ Run (F := F) c (At0 k0_part116 c v20 v24 v28 v36 maskV (k0_pay183 (I.x c))) (fun _ => St I K c 122) := by
  rw [k0_part116_eq_skeleton]
  refine step_if I K (fun h => ?_) (fun _ => rfl) (fun h => St_free I K (skip28 c h))
  simp only [k0_part65_eq_skeleton, k0_part66_eq_skeleton]
  dsimp only [k0_part65_skel, k0_part66_skel]
  exact farCol I K (nums28 c h) (β := Far65 F) (γ := FVec F S2x128x512 .f32)
    (ret := fun q p => ⟨_, k0_pay128 p, k0_pay129 _ q, k0_pay130 _ q, k0_pay131 _ q, k0_pay132 _ q⟩)
    (mid := fun b => k0_pay133 maskV b.2.1 b.2.2.1 b.2.2.2.1 b.2.2.2.2.1 b.2.2.2.2.2) (fin := fun g => g) (by exact fun kt vt prev => chunk_row (I.x c) _ _ kt vt prev)

/-! ### The row below -/

theorem skip29 : ∀ c : Dev nD, k0_cond29 c ≠ 1#1 → ∀ i < 3, Free (zOf c) (122 + i) := by decide +kernel
theorem nums29 : ∀ c : Dev nD, k0_cond29 c = 1#1 → FarNums c 122 (zOf c - 1) (k0_off147 c) (k0_off148 c) (k0_off149 c) (k0_off150 c) (k0_off151 c) (k0_off152 c) := by decide +kernel
theorem region29 (I : Inp F) (K : GSem nD τ sig → ℕ) {c : Dev nD} (v20 v24 v28 v36 : BitVec 32) :
    St I K c 122 ⊢ Run (F := F) c (At0 k0_part118 c v20 v24 v28 v36 maskV (k0_pay183 (I.x c))) (fun _ => St I K c 125) := by
  rw [At0_eq, k0_part118_eq_skeleton, k0_part118_skel.eq_1]
  by_cases h : k0_cond29 c = 1#1
  swap
  · rw [dif_neg h, show St I K c 122 = St I K c 125 from St_free I K (skip29 c h)]
    exact St_done I K 125
  rw [dif_pos h]
  simp only [k0_part67_eq_skeleton, k0_part68_eq_skeleton]
  dsimp only [k0_part67_skel, k0_part68_skel]
  have nums := nums29 c h
  generalize zOf c - 1 = zp at nums
  exact farCol I K nums (β := Far65 F) (γ := FVec F S2x128x512 .f32)
    (ret := fun q p => ⟨_, k0_pay135 p, k0_pay136 _ q, k0_pay137 _ q, k0_pay138 _ q, k0_pay139 _ q⟩)
    (mid := fun b => k0_pay140 maskV b.2.1 b.2.2.1 b.2.2.2.1 b.2.2.2.2.1 b.2.2.2.2.2) (fin := fun g => g) (by exact fun kt vt prev => chunk_row (I.x c) _ _ kt vt prev)

/-! ### The second row below -/

theorem skip30 : ∀ c : Dev nD, k0_cond30 c ≠ 1#1 → ∀ i < 3, Free (zOf c) (125 + i) := by decide +kernel
theorem nums30 : ∀ c : Dev nD, k0_cond30 c = 1#1 → FarNums c 125 (zOf c - 2) (k0_off153 c) (k0_off154 c) (k0_off155 c) (k0_off156 c) (k0_off157 c) (k0_off158 c) := by decide +kernel
theorem region30 (I : Inp F) (K : GSem nD τ sig → ℕ) {c : Dev nD} (v20 v24 v28 v36 : BitVec 32) :
    St I K c 125 ⊢ Run (F := F) c (At0 k0_part120 c v20 v24 v28 v36 maskV (k0_pay183 (I.x c))) (fun _ => St I K c 128) := by
  rw [At0_eq, k0_part120_eq_skeleton, k0_part120_skel.eq_1]
  by_cases h : k0_cond30 c = 1#1
  swap
  · rw [dif_neg h, show St I K c 125 = St I K c 128 from St_free I K (skip30 c h)]
    exact St_done I K 128
  rw [dif_pos h]
  simp only [k0_part69_eq_skeleton, k0_part70_eq_skeleton]
  dsimp only [k0_part69_skel, k0_part70_skel]
  have nums := nums30 c h
  generalize zOf c - 2 = zp at nums
  exact farCol I K nums (β := Far65 F) (γ := FVec F S2x128x512 .f32)
    (ret := fun q p => ⟨_, k0_pay142 p, k0_pay143 _ q, k0_pay144 _ q, k0_pay145 _ q, k0_pay146 _ q⟩)
    (mid := fun b => k0_pay147 maskV b.2.1 b.2.2.1 b.2.2.2.1 b.2.2.2.2.1 b.2.2.2.2.2) (fin := fun g => g) (by exact fun kt vt prev => chunk_row (I.x c) _ _ kt vt prev)

/-! ### The third row below -/

theorem skip31 : ∀ c : Dev nD, k0_cond31 c ≠ 1#1 → ∀ i < 3, Free (zOf c) (128 + i) := by decide +kernel
theorem nums31 : ∀ c : Dev nD, k0_cond31 c = 1#1 → FarNums c 128 (zOf c - 3) (k0_off159 c) (k0_off160 c) (k0_off161 c) (k0_off162 c) (k0_off163 c) (k0_off164 c) := by decide +kernel
theorem region31 (I : Inp F) (K : GSem nD τ sig → ℕ) {c : Dev nD} (v20 v24 v28 v36 : BitVec 32) :
    St I K c 128 ⊢ Run (F := F) c (At0 k0_part122 c v20 v24 v28 v36 maskV (k0_pay183 (I.x c))) (fun _ => St I K c 131) := by
  rw [At0_eq, k0_part122_eq_skeleton, k0_part122_skel.eq_1]
  by_cases h : k0_cond31 c = 1#1
  swap
  · rw [dif_neg h, show St I K c 128 = St I K c 131 from St_free I K (skip31 c h)]
    exact St_done I K 131
  rw [dif_pos h]
  simp only [k0_part71_eq_skeleton, k0_part72_eq_skeleton]
  dsimp only [k0_part71_skel, k0_part72_skel]
  have nums := nums31 c h
  generalize zOf c - 3 = zp at nums
  exact farCol I K nums (β := Far65 F) (γ := FVec F S2x128x512 .f32)
    (ret := fun q p => ⟨_, k0_pay149 p, k0_pay150 _ q, k0_pay151 _ q, k0_pay152 _ q, k0_pay153 _ q⟩)
    (mid := fun b => k0_pay154 maskV b.2.1 b.2.2.1 b.2.2.2.1 b.2.2.2.2.1 b.2.2.2.2.2) (fin := fun g => g) (by exact fun kt vt prev => chunk_row (I.x c) _ _ kt vt prev)

/-! ### The row above -/

theorem skip32 : ∀ c : Dev nD, k0_cond32 c ≠ 1#1 → ∀ i < 3, Free (zOf c) (131 + i) := by decide +kernel
theorem nums32 : ∀ c : Dev nD, k0_cond32 c = 1#1 → FarNums c 131 (zOf c + 1) (k0_off165 c) (k0_off166 c) (k0_off167 c) (k0_off168 c) (k0_off169 c) (k0_off170 c) := by decide +kernel
theorem region32 (I : Inp F) (K : GSem nD τ sig → ℕ) {c : Dev nD} (v20 v24 v28 v36 : BitVec 32) :
    St I K c 131 ⊢ Run (F := F) c (At0 k0_part124 c v20 v24 v28 v36 maskV (k0_pay183 (I.x c))) (fun _ => St I K c 134) := by
  rw [k0_part124_eq_skeleton]
  refine step_if I K (fun h => ?_) (fun _ => rfl) (fun h => St_free I K (skip32 c h))
  simp only [k0_part73_eq_skeleton, k0_part74_eq_skeleton]
  dsimp only [k0_part73_skel, k0_part74_skel]
  have nums := nums32 c h
  generalize zOf c + 1 = zp at nums
  exact farCol I K nums (β := Far65 F) (γ := FVec F S2x128x512 .f32)
    (ret := fun q p => ⟨_, k0_pay156 p, k0_pay157 _ q, k0_pay158 _ q, k0_pay159 _ q, k0_pay160 _ q⟩)
    (mid := fun b => k0_pay161 maskV b.2.1 b.2.2.1 b.2.2.2.1 b.2.2.2.2.1 b.2.2.2.2.2) (fin := fun g => g) (by exact fun kt vt prev => chunk_row (I.x c) _ _ kt vt prev)

/-! ### The second row above -/

theorem skip33 : ∀ c : Dev nD, k0_cond33 c ≠ 1#1 → ∀ i < 3, Free (zOf c) (134 + i) := by decide +kernel
theorem nums33 : ∀ c : Dev nD, k0_cond33 c = 1#1 → FarNums c 134 (zOf c + 2) (k0_off171 c) (k0_off172 c) (k0_off173 c) (k0_off174 c) (k0_off175 c) (k0_off176 c) := by decide +kernel
theorem region33 (I : Inp F) (K : GSem nD τ sig → ℕ) {c : Dev nD} (v20 v24 v28 v36 : BitVec 32) :
    St I K c 134 ⊢ Run (F := F) c (At0 k0_part126 c v20 v24 v28 v36 maskV (k0_pay183 (I.x c))) (fun _ => St I K c 137) := by
  rw [k0_part126_eq_skeleton]
  refine step_if I K (fun h => ?_) (fun _ => rfl) (fun h => St_free I K (skip33 c h))
  simp only [k0_part75_eq_skeleton, k0_part76_eq_skeleton]
  dsimp only [k0_part75_skel, k0_part76_skel]
  have nums := nums33 c h
  generalize zOf c + 2 = zp at nums
  exact farCol I K nums (β := Far65 F) (γ := FVec F S2x128x512 .f32)
    (ret := fun q p => ⟨_, k0_pay163 p, k0_pay164 _ q, k0_pay165 _ q, k0_pay166 _ q, k0_pay167 _ q⟩)
    (mid := fun b => k0_pay168 maskV b.2.1 b.2.2.1 b.2.2.2.1 b.2.2.2.2.1 b.2.2.2.2.2) (fin := fun g => g) (by exact fun kt vt prev => chunk_row (I.x c) _ _ kt vt prev)

/-! ### The third row above -/

theorem skip34 : ∀ c : Dev nD, k0_cond34 c ≠ 1#1 → ∀ i < 3, Free (zOf c) (137 + i) := by decide +kernel
theorem nums34 : ∀ c : Dev nD, k0_cond34 c = 1#1 → FarNums c 137 (zOf c + 3) (k0_off177 c) (k0_off178 c) (k0_off179 c) (k0_off180 c) (k0_off181 c) (k0_off182 c) := by decide +kernel
theorem region34 (I : Inp F) (K : GSem nD τ sig → ℕ) {c : Dev nD} (v20 v24 v28 v36 : BitVec 32) :
    St I K c 137 ⊢ Run (F := F) c (At0 k0_part128 c v20 v24 v28 v36 maskV (k0_pay183 (I.x c))) (fun _ => St I K c 140) := by
  rw [k0_part128_eq_skeleton]
  refine step_if I K (fun h => ?_) (fun _ => rfl) (fun h => St_free I K (skip34 c h))
  simp only [k0_part77_eq_skeleton, k0_part78_eq_skeleton]
  dsimp only [k0_part77_skel, k0_part78_skel]
  have nums := nums34 c h
  generalize zOf c + 3 = zp at nums
  exact farCol I K nums (β := Far65 F) (γ := FVec F S2x128x512 .f32)
    (ret := fun q p => ⟨_, k0_pay170 p, k0_pay171 _ q, k0_pay172 _ q, k0_pay173 _ q, k0_pay174 _ q⟩)
    (mid := fun b => k0_pay175 maskV b.2.1 b.2.2.1 b.2.2.2.1 b.2.2.2.2.1 b.2.2.2.2.2) (fin := fun g => g) (by exact fun kt vt prev => chunk_row (I.x c) _ _ kt vt prev)

end Gather
-- ==== Proof.Waits.lean ====
module

public import proofs.«01_k».proof.Proof.Rows
public import proofs.«01_k».proof.Proof.Regions

/-! # The sends awaited

Before it ends a device waits for each of its sends. -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD} {n : ℕ}

/-- A send of a query weight, or of an output weight, awaited. -/
theorem wait_Q {a : Fin 10} {zp : Fin 4} (h : At (zOf c) n (.swait a zp)) {sS : DmaSem sig} (hs : sS = sendSem a zp) {off : Fin 3 → ℕ}
    {inb : ∀ a, off a + S1x512x256.size a ≤ S16x512x256.size a} {h1 h2 : (partQ off inb).view.WordExact}
    {α : Type} {p : PUnit → Prog (TpuEff nD τ sig (Elt F) Λ₀ .tc) α} {Q : α → sProp 𝕄} (hp : St I K c (n + 1) ⊢ Run (F := F) c (p ⟨⟩) Q) :
    St I K c n ⊢ Run (F := F) c (Prog.lift (.waitDma2 sS (partQ off inb) (partQ off inb) h1 h2) >>= p) Q :=
  bindU I K (n' := n + 1) (swait_core I K h hs rfl) hp
theorem wait_O {a : Fin 10} {zp : Fin 4} (h : At (zOf c) n (.swait a zp)) {sS : DmaSem sig} (hs : sS = sendSem a zp) {off : Fin 3 → ℕ}
    {inb : ∀ a, off a + S1x256x512.size a ≤ S16x256x512.size a} {h1 h2 : (partO off inb).view.WordExact}
    {α : Type} {p : PUnit → Prog (TpuEff nD τ sig (Elt F) Λ₀ .tc) α} {Q : α → sProp 𝕄} (hp : St I K c (n + 1) ⊢ Run (F := F) c (p ⟨⟩) Q) :
    St I K c n ⊢ Run (F := F) c (Prog.lift (.waitDma2 sS (partO off inb) (partO off inb) h1 h2) >>= p) Q :=
  bindU I K (n' := n + 1) (swait_core I K h hs rfl) hp

/-- The conditions under which a device sent the weights of the row at distance `k` up, and down. -/
def upward (k v : BitVec 32) : BitVec 1 :=
  Scalar.cmpi .ne (Scalar.extui (Scalar.andi (Scalar.cmpi .slt v 3#32) (Scalar.cmpi .sge v k)) : BitVec 32) 0#32
def downward (k v : BitVec 32) : BitVec 1 :=
  Scalar.cmpi .ne (Scalar.extui (Scalar.andi (Scalar.cmpi .sgt v 0#32) (Scalar.cmpi .sle v k)) : BitVec 32) 0#32

/-- The two waits at a position are both due, or both are not. -/
def Both (z : Fin 4) (n : ℕ) (a b : Fin 10) (zp : Fin 4) (v : BitVec 1) : Prop :=
  (v = 1#1 → At z n (.swait a zp) ∧ At z (n + 1) (.swait b zp)) ∧ (v ≠ 1#1 → ∀ i < 2, Free z (n + i))
instance (z : Fin 4) (n : ℕ) (a b : Fin 10) (zp : Fin 4) (v : BitVec 1) : Decidable (Both z n a b zp v) := by unfold Both; infer_instance
theorem upward_at : ∀ z zp : Fin 4, Both z (140 + 10 * zp.val) 0 1 zp (upward (BitVec.ofNat 32 zp.val) (BitVec.ofNat 32 z.val)) := by decide +kernel
theorem downward_at : ∀ z zp : Fin 4, Both z (142 + 10 * zp.val) 2 3 zp (downward (BitVec.ofNat 32 zp.val) (BitVec.ofNat 32 z.val)) := by decide +kernel
/-- The other six waits are always due. -/
theorem rest_at : ∀ z zp : Fin 4, ∀ i : Fin 6, At z (144 + 10 * zp.val + i.val) (.swait ⟨4 + i.val, by omega⟩ zp) := by decide +kernel

theorem pair_wait {a b : Fin 10} {zp : Fin 4} {v : BitVec 1} (hv : Both (zOf c) n a b zp v)
    {sQ sO : DmaSem sig} (hQ : sQ = sendSem a zp) (hO : sO = sendSem b zp) {off off' : Fin 3 → ℕ}
    {inb : ∀ a, off a + S1x512x256.size a ≤ S16x512x256.size a} {h1 h2 : (partQ off inb).view.WordExact}
    {inb' : ∀ a, off' a + S1x256x512.size a ≤ S16x256x512.size a} {h3 h4 : (partO off' inb').view.WordExact}
    {α : Type} {p : PUnit → Prog (TpuEff nD τ sig (Elt F) Λ₀ .tc) α} {q : Prog (TpuEff nD τ sig (Elt F) Λ₀ .tc) α} {Q : α → sProp 𝕄}
    (hp : St I K c (n + 2) ⊢ Run (F := F) c (p ⟨⟩) Q) (hq : St I K c (n + 2) ⊢ Run (F := F) c q Q) :
    St I K c n ⊢ Run (F := F) c (if _h : v = 1#1 then
      Prog.lift (.waitDma2 sQ (partQ off inb) (partQ off inb) h1 h2) >>= fun _ => Prog.lift (.waitDma2 sO (partO off' inb') (partO off' inb') h3 h4) >>= p else q) Q := by
  by_cases h : v = 1#1
  · rw [dif_pos h]
    exact wait_Q I K (hv.1 h).1 hQ (wait_O I K (hv.1 h).2 hO hp)
  · rw [dif_neg h, St_free I K (m := 2) (hv.2 h)]
    exact hq

/-- Three waits in a row. -/
theorem three_QOQ {a b d : Fin 10} {zp : Fin 4} (ha : At (zOf c) n (.swait a zp)) (hb : At (zOf c) (n + 1) (.swait b zp)) (hd : At (zOf c) (n + 2) (.swait d zp))
    {s1 s2 s3 : DmaSem sig} (e1 : s1 = sendSem a zp) (e2 : s2 = sendSem b zp) (e3 : s3 = sendSem d zp) {off off' off'' : Fin 3 → ℕ}
    {inb : ∀ a, off a + S1x512x256.size a ≤ S16x512x256.size a} {h1 h2 : (partQ off inb).view.WordExact}
    {inb' : ∀ a, off' a + S1x256x512.size a ≤ S16x256x512.size a} {h3 h4 : (partO off' inb').view.WordExact}
    {inb'' : ∀ a, off'' a + S1x512x256.size a ≤ S16x512x256.size a} {h5 h6 : (partQ off'' inb'').view.WordExact}
    {α : Type} {p : PUnit → Prog (TpuEff nD τ sig (Elt F) Λ₀ .tc) α} {Q : α → sProp 𝕄} (hp : St I K c (n + 3) ⊢ Run (F := F) c (p ⟨⟩) Q) :
    St I K c n ⊢ Run (F := F) c (Prog.lift (.waitDma2 s1 (partQ off inb) (partQ off inb) h1 h2) >>= fun _ =>
      Prog.lift (.waitDma2 s2 (partO off' inb') (partO off' inb') h3 h4) >>= fun _ => Prog.lift (.waitDma2 s3 (partQ off'' inb'') (partQ off'' inb'') h5 h6) >>= p) Q :=
  wait_Q I K ha e1 (wait_O I K hb e2 (wait_Q I K hd e3 hp))
theorem three_OQO {a b d : Fin 10} {zp : Fin 4} (ha : At (zOf c) n (.swait a zp)) (hb : At (zOf c) (n + 1) (.swait b zp)) (hd : At (zOf c) (n + 2) (.swait d zp))
    {s1 s2 s3 : DmaSem sig} (e1 : s1 = sendSem a zp) (e2 : s2 = sendSem b zp) (e3 : s3 = sendSem d zp) {off off' off'' : Fin 3 → ℕ}
    {inb : ∀ a, off a + S1x256x512.size a ≤ S16x256x512.size a} {h1 h2 : (partO off inb).view.WordExact}
    {inb' : ∀ a, off' a + S1x512x256.size a ≤ S16x512x256.size a} {h3 h4 : (partQ off' inb').view.WordExact}
    {inb'' : ∀ a, off'' a + S1x256x512.size a ≤ S16x256x512.size a} {h5 h6 : (partO off'' inb'').view.WordExact}
    {α : Type} {p : PUnit → Prog (TpuEff nD τ sig (Elt F) Λ₀ .tc) α} {Q : α → sProp 𝕄} (hp : St I K c (n + 3) ⊢ Run (F := F) c (p ⟨⟩) Q) :
    St I K c n ⊢ Run (F := F) c (Prog.lift (.waitDma2 s1 (partO off inb) (partO off inb) h1 h2) >>= fun _ =>
      Prog.lift (.waitDma2 s2 (partQ off' inb') (partQ off' inb') h3 h4) >>= fun _ => Prog.lift (.waitDma2 s3 (partO off'' inb'') (partO off'' inb'') h5 h6) >>= p) Q :=
  wait_O I K ha e1 (wait_Q I K hb e2 (wait_O I K hd e3 hp))

/-! ## The waits for distance 0 -/

theorem pair130 {v : BitVec 1} (e : v = upward 0#32 (BitVec.ofNat 32 (zOf c).val)) : St I K c 140 ⊢ Run (F := F) c (At0 k0_part130 v) (fun _ => St I K c 142) := by
  subst e
  rw [At0_eq, k0_part130_eq_skeleton, k0_part130_skel.eq_1]
  exact pair_wait I K (upward_at (zOf c) 0) (by exact send_of 0 rfl) (by exact send_of 1 rfl) (St_done I K _) (St_done I K _)
theorem pair132 {v : BitVec 1} (e : v = downward 0#32 (BitVec.ofNat 32 (zOf c).val)) : St I K c 142 ⊢ Run (F := F) c (At0 k0_part132 v) (fun _ => St I K c 144) := by
  subst e
  rw [At0_eq, k0_part132_eq_skeleton, k0_part132_skel.eq_1]
  exact pair_wait I K (downward_at (zOf c) 0) (by exact send_of 2 rfl) (by exact send_of 3 rfl) (St_done I K _) (St_done I K _)
theorem three133 : St I K c 144 ⊢ Run (F := F) c (At0 k0_part133) (fun _ => St I K c 147) := by
  rw [At0_eq, k0_part133_eq_skeleton, k0_part133_skel.eq_1]
  exact three_QOQ I K (rest_at (zOf c) 0 0) (rest_at (zOf c) 0 1) (rest_at (zOf c) 0 2) (by exact send_of 4 rfl) (by exact send_of 5 rfl) (by exact send_of 6 rfl) (St_done I K _)
theorem three134 (v : BitVec 32) {α : Type} {p : BitVec 1 → Prog (TpuEff nD τ sig (Elt F) Λ₀ .tc) α} {Q : α → sProp 𝕄} (hp : St I K c 150 ⊢ Run (F := F) c (p (upward 1#32 v)) Q) :
    St I K c 147 ⊢ Run (F := F) c (At0 k0_part134 v >>= p) Q := by
  rw [At0_eq, k0_part134_eq_skeleton, k0_part134_skel.eq_1]
  exact run_bind (three_OQO I K (rest_at (zOf c) 0 3) (rest_at (zOf c) 0 4) (rest_at (zOf c) 0 5) (by exact send_of 7 rfl) (by exact send_of 8 rfl) (by exact send_of 9 rfl) (run_pure hp))
/-! ## The waits for distance 1 -/

theorem pair135 {v : BitVec 1} (e : v = upward 1#32 (BitVec.ofNat 32 (zOf c).val)) : St I K c 150 ⊢ Run (F := F) c (At0 k0_part135 v) (fun _ => St I K c 152) := by
  subst e
  rw [At0_eq, k0_part135_eq_skeleton, k0_part135_skel.eq_1]
  exact pair_wait I K (upward_at (zOf c) 1) (by exact send_of 0 rfl) (by exact send_of 1 rfl) (St_done I K _) (St_done I K _)
theorem pair137 {v : BitVec 1} (e : v = downward 1#32 (BitVec.ofNat 32 (zOf c).val)) : St I K c 152 ⊢ Run (F := F) c (At0 k0_part137 v) (fun _ => St I K c 154) := by
  subst e
  rw [At0_eq, k0_part137_eq_skeleton, k0_part137_skel.eq_1]
  exact pair_wait I K (downward_at (zOf c) 1) (by exact send_of 2 rfl) (by exact send_of 3 rfl) (St_done I K _) (St_done I K _)
theorem three138 : St I K c 154 ⊢ Run (F := F) c (At0 k0_part138) (fun _ => St I K c 157) := by
  rw [At0_eq, k0_part138_eq_skeleton, k0_part138_skel.eq_1]
  exact three_QOQ I K (rest_at (zOf c) 1 0) (rest_at (zOf c) 1 1) (rest_at (zOf c) 1 2) (by exact send_of 4 rfl) (by exact send_of 5 rfl) (by exact send_of 6 rfl) (St_done I K _)
theorem three139 (v : BitVec 32) {α : Type} {p : BitVec 1 → Prog (TpuEff nD τ sig (Elt F) Λ₀ .tc) α} {Q : α → sProp 𝕄} (hp : St I K c 160 ⊢ Run (F := F) c (p (upward 2#32 v)) Q) :
    St I K c 157 ⊢ Run (F := F) c (At0 k0_part139 v >>= p) Q := by
  rw [At0_eq, k0_part139_eq_skeleton, k0_part139_skel.eq_1]
  exact run_bind (three_OQO I K (rest_at (zOf c) 1 3) (rest_at (zOf c) 1 4) (rest_at (zOf c) 1 5) (by exact send_of 7 rfl) (by exact send_of 8 rfl) (by exact send_of 9 rfl) (run_pure hp))
/-! ## The waits for distance 2 -/

theorem pair140 {v : BitVec 1} (e : v = upward 2#32 (BitVec.ofNat 32 (zOf c).val)) : St I K c 160 ⊢ Run (F := F) c (At0 k0_part140 v) (fun _ => St I K c 162) := by
  subst e
  rw [At0_eq, k0_part140_eq_skeleton, k0_part140_skel.eq_1]
  exact pair_wait I K (upward_at (zOf c) 2) (by exact send_of 0 rfl) (by exact send_of 1 rfl) (St_done I K _) (St_done I K _)
theorem pair142 {v : BitVec 1} (e : v = downward 2#32 (BitVec.ofNat 32 (zOf c).val)) : St I K c 162 ⊢ Run (F := F) c (At0 k0_part142 v) (fun _ => St I K c 164) := by
  subst e
  rw [At0_eq, k0_part142_eq_skeleton, k0_part142_skel.eq_1]
  exact pair_wait I K (downward_at (zOf c) 2) (by exact send_of 2 rfl) (by exact send_of 3 rfl) (St_done I K _) (St_done I K _)
theorem three143 : St I K c 164 ⊢ Run (F := F) c (At0 k0_part143) (fun _ => St I K c 167) := by
  rw [At0_eq, k0_part143_eq_skeleton, k0_part143_skel.eq_1]
  exact three_QOQ I K (rest_at (zOf c) 2 0) (rest_at (zOf c) 2 1) (rest_at (zOf c) 2 2) (by exact send_of 4 rfl) (by exact send_of 5 rfl) (by exact send_of 6 rfl) (St_done I K _)
theorem three144 (v : BitVec 32) {α : Type} {p : BitVec 1 → Prog (TpuEff nD τ sig (Elt F) Λ₀ .tc) α} {Q : α → sProp 𝕄} (hp : St I K c 170 ⊢ Run (F := F) c (p (upward 3#32 v)) Q) :
    St I K c 167 ⊢ Run (F := F) c (At0 k0_part144 v >>= p) Q := by
  rw [At0_eq, k0_part144_eq_skeleton, k0_part144_skel.eq_1]
  exact run_bind (three_OQO I K (rest_at (zOf c) 2 3) (rest_at (zOf c) 2 4) (rest_at (zOf c) 2 5) (by exact send_of 7 rfl) (by exact send_of 8 rfl) (by exact send_of 9 rfl) (run_pure hp))
/-! ## The waits for distance 3 -/

theorem pair145 {v : BitVec 1} (e : v = upward 3#32 (BitVec.ofNat 32 (zOf c).val)) : St I K c 170 ⊢ Run (F := F) c (At0 k0_part145 v) (fun _ => St I K c 172) := by
  subst e
  rw [At0_eq, k0_part145_eq_skeleton, k0_part145_skel.eq_1]
  exact pair_wait I K (upward_at (zOf c) 3) (by exact send_of 0 rfl) (by exact send_of 1 rfl) (St_done I K _) (St_done I K _)
theorem pair147 {v : BitVec 1} (e : v = downward 3#32 (BitVec.ofNat 32 (zOf c).val)) : St I K c 172 ⊢ Run (F := F) c (At0 k0_part147 v) (fun _ => St I K c 174) := by
  subst e
  rw [At0_eq, k0_part147_eq_skeleton, k0_part147_skel.eq_1]
  exact pair_wait I K (downward_at (zOf c) 3) (by exact send_of 2 rfl) (by exact send_of 3 rfl) (St_done I K _) (St_done I K _)
theorem three148 : St I K c 174 ⊢ Run (F := F) c (At0 k0_part148) (fun _ => St I K c 177) := by
  rw [At0_eq, k0_part148_eq_skeleton, k0_part148_skel.eq_1]
  exact three_QOQ I K (rest_at (zOf c) 3 0) (rest_at (zOf c) 3 1) (rest_at (zOf c) 3 2) (by exact send_of 4 rfl) (by exact send_of 5 rfl) (by exact send_of 6 rfl) (St_done I K _)

end Gather
-- ==== Proof.Fresh.lean ====
module

public import proofs.«01_k».proof.Proof.Barrier
public import proofs.«01_k».proof.Proof.RowRegions
public import proofs.«01_k».proof.Proof.Waits

/-! # The body

The steps of the kernel, put together. -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD}

/-- A part that computes scalars or a value only. -/
theorem give {P : sProp 𝕄} {α β : Type} {q : Prog (TpuEff nD τ sig (Elt F) Λ₀ .tc) α} {a : α} (hq : q = pure a)
    {p : α → Prog (TpuEff nD τ sig (Elt F) Λ₀ .tc) β} {Q : β → sProp 𝕄} (hp : P ⊢ Run (F := F) c (p a) Q) : P ⊢ Run (F := F) c (q >>= p) Q := by
  subst hq; exact run_bind (run_pure hp)
theorem aside {P R : sProp 𝕄} {α : Type} {p : Prog (TpuEff nD τ sig (Elt F) Λ₀ .tc) α} {Q : α → sProp 𝕄} (h : P ⊢ Run (F := F) c p Q) :
    iprop(P ∗ R) ⊢ Run (F := F) c p (fun a => iprop(Q a ∗ R)) := by
  unfold Run at h ⊢
  exact (sep_mono_left h).trans (wp_frame_r _ _ _)

/-- What a send needs from its own device. -/
def waiting (c : Dev nD) (x : Fin 10 × Fin 4) : sProp 𝕄 :=
  if live (zOf c) x.1 x.2 = true then
    iprop(atPos ER (sendCell c x.1 x.2) 0 ∅ 0 ∗ reached ER (sendCell c x.1 x.2) 0 ∗ dutyTok ER (sendCell c x.1 x.2) 0 0 ∗ dutyTok ER (destCell c x.1 x.2) 0 0)
  else atPos ER (sendCell c x.1 x.2) 0 ∅ 0

theorem none_done : ∀ (z : Fin 4) (op : AOp), ¬Done z 0 op := fun z op h => Nat.not_lt_zero _ h.2

theorem send_ready (x : Fin 10 × Fin 4) : iprop(waiting (F := F) c x ∗ lent (F := F) c x) ⊢ sendSt (F := F) c 0 x := by
  unfold waiting lent sendSt unsent
  by_cases h : live (zOf c) x.1 x.2 = true
  · rw [if_pos h, if_pos h, if_pos h, if_neg (none_done _ _), if_neg (none_done _ _)]
    iintro ⟨⟨Ha, Hr, Ht, Hd⟩, Hs, Hr'⟩
    isplitl [Ha]; · iexact Ha
    isplitl [Hr]; · iexact Hr
    isplitl [Ht]; · iexact Ht
    isplitl [Hd]; · iexact Hd
    isplitl [Hr']; · iexact Hr'
    iexact Hs
  · rw [if_neg h, if_neg h, if_neg h]
    iintro ⟨H, -⟩; iexact H

/-- Before the first step, the result buffer still at contents not chosen. -/
def Fresh (c : Dev nD) (f : S2x128x512.Idx → Elt F .f32) : sProp 𝕄 :=
  iprop(recs I K ∗ bigSep Finset.univ (sendSt (F := F) c 0) ∗ bigSep Finset.univ (recvSt I c 0) ∗ (∃ W, owes (c : Thread nD τ) (dues c 0) W) ∗ bufs I c f)

def aboard (c : Dev nD) (f : S2x128x512.Idx → Elt F .f32) : sProp 𝕄 :=
  iprop(bigSep Finset.univ (waiting (F := F) c) ∗ bigSep Finset.univ (recvSt I c 0) ∗ bufs I c f)

theorem met_fresh (f : S2x128x512.Idx → Elt F .f32) (G : sProp 𝕄) :
    Met I K c iprop(aboard I c f ∗ G) ⊢ iprop(Fresh I K c f ∗ (atPos ER (barCell c) 1 ∅ 0 ∗ G)) := by
  have hs : iprop(bigSep Finset.univ (waiting (F := F) c) ∗ bigSep Finset.univ (lent (F := F) c)) ⊢ bigSep Finset.univ (sendSt (F := F) c 0) := by
    rw [← bigSep_sep']; exact bigSep_mono fun x _ => send_ready x
  unfold Met Fresh aboard
  iintro ⟨#HR, HO, Ha, Hl, ⟨Hw, Hv, Hb⟩, HG⟩
  isplitr [Ha HG]
  · isplitr; · iexact HR
    isplitl [Hw Hl]
    · iapply hs; isplitl [Hw] <;> iassumption
    isplitl [Hv]; · iexact Hv
    isplitl [HO] <;> iassumption
  isplitl [Ha] <;> iassumption

section Clear
variable {f : S2x128x512.Idx → Elt F .f32}
theorem fresh_x {α : Type} {Q : α → sProp 𝕄} {inb : ∀ a, (![0, 0, 0] : Fin 3 → ℕ) a + S2x128x512.size a ≤ S2x128x512.size a}
    {hl : (Memref.whole cc0_stg0_0).view.LoadsAt (Rect.unit (s := S2x128x512) ![0, 0, 0] S2x128x512.size inb).toLoadRect}
    {p : (S2x128x512.Idx → Elt F .f32) → Prog (TpuEff nD τ sig (Elt F) Λ₀ .tc) α} (hk : Fresh I K c f ⊢ Run (F := F) c (p (I.x c)) Q) :
    Fresh I K c f ⊢ Run (F := F) c (Prog.lift (.load (Memref.whole cc0_stg0_0) (Rect.unit (s := S2x128x512) ![0, 0, 0] S2x128x512.size inb).toLoadRect hl) >>= p) Q := by
  have hv : ((Memref.whole cc0_stg0_0).access (Rect.unit (s := S2x128x512) ![0, 0, 0] S2x128x512.size inb)).read (Elt F) (I.x c) = (I.x c) :=
    Memref.read_access_unit_zero (Elt F) cc0_stg0_0 stage_zero3 inb (I.x c)
  unfold Fresh bufs at hk ⊢
  iintro ⟨#HR, HS, HV, HO, ⟨H1, H2, H3, H4⟩⟩
  iapply (wp_load_rect 𝒱₀ (c : Thread nD τ) none Set.univ (m := Memref.whole cc0_stg0_0) (r := Rect.unit (s := S2x128x512) ![0, 0, 0] S2x128x512.size inb) (S := Finset.univ) (Finset.subset_univ _)) $$ [H1]
  · iexact H1
  iintro H1
  rw [hv]
  iapply hk
  isplitl []; · iexact HR
  isplitl [HS]; · iexact HS
  isplitl [HV]; · iexact HV
  isplitl [HO]; · iexact HO
  isplitl [H1]; · iexact H1
  isplitl [H2]; · iexact H2
  isplitl [H3]; · iexact H3
  iexact H4

theorem fresh_out {α : Type} {Q : α → sProp 𝕄} {inb : ∀ a, (![0, 0, 0] : Fin 3 → ℕ) a + S2x128x512.size a ≤ S2x128x512.size a}
    {hl : (Memref.whole cc0_stg5_0).view.LoadsAt (Rect.unit (s := S2x128x512) ![0, 0, 0] S2x128x512.size inb).toLoadRect}
    {p : (S2x128x512.Idx → Elt F .f32) → Prog (TpuEff nD τ sig (Elt F) Λ₀ .tc) α} (hk : ∀ v, Fresh I K c f ⊢ Run (F := F) c (p v) Q) :
    Fresh I K c f ⊢ Run (F := F) c (Prog.lift (.load (Memref.whole cc0_stg5_0) (Rect.unit (s := S2x128x512) ![0, 0, 0] S2x128x512.size inb).toLoadRect hl) >>= p) Q := by
  unfold Fresh bufs at hk ⊢
  iintro ⟨#HR, HS, HV, HO, ⟨H1, H2, H3, H4⟩⟩
  iapply (wp_load_rect 𝒱₀ (c : Thread nD τ) none Set.univ (m := Memref.whole cc0_stg5_0) (r := Rect.unit (s := S2x128x512) ![0, 0, 0] S2x128x512.size inb) (S := Finset.univ) (Finset.subset_univ _)) $$ [H4]
  · iexact H4
  iintro H4
  iapply (hk _)
  isplitl []; · iexact HR
  isplitl [HS]; · iexact HS
  isplitl [HV]; · iexact HV
  isplitl [HO]; · iexact HO
  isplitl [H1]; · iexact H1
  isplitl [H2]; · iexact H2
  isplitl [H3]; · iexact H3
  iexact H4

theorem fresh_store {v : S2x128x512.Idx → Elt F .f32} (hv : v = acc I c 0) {inb : ∀ a, (![0, 0, 0] : Fin 3 → ℕ) a + S2x128x512.size a ≤ S2x128x512.size a}
    {hx : ((Memref.whole cc0_stg5_0).access (Rect.unit (s := S2x128x512) ![0, 0, 0] S2x128x512.size inb)).Stores Finset.univ}
    {hm : (Finset.univ : Finset (Rect.unit (s := S2x128x512) ![0, 0, 0] S2x128x512.size inb).shape.Idx) = Finset.univ ∨ ∀ a, (Rect.unit (s := S2x128x512) ![0, 0, 0] S2x128x512.size inb).stride a = 1} :
    Fresh I K c f ⊢ Run (F := F) c (Prog.lift (.store (Memref.whole cc0_stg5_0) (Rect.unit (s := S2x128x512) ![0, 0, 0] S2x128x512.size inb) v Finset.univ hx hm)) (fun _ => St I K c 0) := by
  have hw : ((Memref.whole cc0_stg5_0).access (Rect.unit (s := S2x128x512) ![0, 0, 0] S2x128x512.size inb)).write (Elt F) f v Finset.univ = v :=
    Memref.write_access_unit_zero_univ (Elt F) cc0_stg5_0 stage_zero3 inb f v
  unfold Fresh St bufs
  rw [← hv]
  iintro ⟨#HR, HS, HV, HO, ⟨H1, H2, H3, H4⟩⟩
  iapply (wp_store 𝒱₀ (c : Thread nD τ) none Set.univ (m := Memref.whole cc0_stg5_0) (r := Rect.unit (s := S2x128x512) ![0, 0, 0] S2x128x512.size inb) (w := v) (S := Finset.univ) (Finset.subset_univ _)) $$ [H4]
  · iexact H4
  iintro H4
  rw [hw]
  rw [wp_ret]; imodintro
  isplitl []; · iexact HR
  isplitl [HS]; · iexact HS
  isplitl [HV]; · iexact HV
  isplitl [HO]; · iexact HO
  isplitl [H1]; · iexact H1
  isplitl [H2]; · iexact H2
  isplitl [H3]; · iexact H3
  iexact H4
end Clear

/-- The result buffer is cleared. -/
theorem regionClear (f : S2x128x512.Idx → Elt F .f32) (v20 : BitVec 32) {α : Type} {p : (S256x512.Idx → Elt F .bf16) → Prog (TpuEff nD τ sig (Elt F) Λ₀ .tc) α} {Q : α → sProp 𝕄}
    (hp : St I K c 0 ⊢ Run (F := F) c (p (k0_pay183 (I.x c))) Q) : Fresh I K c f ⊢ Run (F := F) c (At0 k0_part83 v20 >>= p) Q := by
  rw [At0_eq, k0_part83_eq_skeleton, k0_part83_skel.eq_1]
  refine run_bind (fresh_x I K (fresh_out I K fun v => run_bind ((fresh_store I K (by rfl)).trans (wp_mono _ _ _ fun _ => ?_))))
  exact run_pure hp

/-- The row as the program computes it from the device's number. -/
def rowWord (c : Dev nD) : BitVec 32 := BitVec.ofNat 32 (zOf c).val

theorem regionWord {P : sProp 𝕄} {α : Type} {p : (Σ' (d0 : Dev nD) (v2 : BitVec 32) (v3 : BitVec 32) (v20 : BitVec 32) (v24 : BitVec 32) (v28 : BitVec 32) (v29 : BitVec 32) (v30 : BitVec 32) (v32 : BitVec 32) (v34 : BitVec 32), BitVec 32) → Prog (TpuEff nD τ sig (Elt F) Λ₀ .tc) α} {Q : α → sProp 𝕄}
    (hp : ∀ v2 v3 v24 v28 v29 v30 v32 v34 v35, P ⊢ Run (F := F) c (p ⟨c, v2, v3, rowWord c, v24, v28, v29, v30, v32, v34, v35⟩) Q) :
    P ⊢ Run (F := F) c (At0 k0_part79 >>= p) Q := by
  have e : ∀ c : Dev nD,
      (let v2 := Scalar.remsi (Scalar.divsi (Dev.word c) 1#32) 16#32
       Scalar.select (Scalar.andi
          (Scalar.cmpi .ne (Scalar.subi (Scalar.extui (Scalar.cmpi .sgt v2 0#32) : BitVec 32) (Scalar.extui (Scalar.cmpi .slt v2 0#32)))
            (Scalar.subi (Scalar.extui (Scalar.cmpi .sgt 4#32 0#32) : BitVec 32) (Scalar.extui (Scalar.cmpi .slt 4#32 0#32))))
          (Scalar.cmpi .ne (Scalar.remsi v2 4#32) 0#32)) (Scalar.subi (Scalar.divsi v2 4#32) 1#32) (Scalar.divsi v2 4#32)) = rowWord c := by decide +kernel
  rw [At0_eq, k0_part79_eq_skeleton, k0_part79_skel.eq_1]
  refine run_bind ?_
  unfold Run
  rw [show (Prog.lift TpuEff.deviceId : Prog (TpuEff nD τ sig (Elt F) Λ₀ .tc) (Dev nD)) = .op .deviceId .ret from rfl]
  simp only [Prog.bind_op, Prog.bind_ret, wp_deviceId]
  refine run_pure ?_
  have e' := e c
  dsimp only at e'
  rw [e']
  exact hp _ _ _ _ _ _ _ _ _

end Gather
-- ==== Proof.Lend.lean ====
module

public import proofs.«01_k».proof.Proof.Barrier
public import Idealize.ShloMosaic.Lib.Ring

/-! # Entering and leaving the kernel

The gathering buffers are cut in slots, the weights in shares; at the end all comes back. -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD}

/-! ## The slots of a gathering buffer -/

def setQ (o : Fin 16) : Finset S16x512x256.Idx := (slotQ o).view.set
theorem mem_slotQ (o : Fin 16) (i : S16x512x256.Idx) : Iff (i ∈ setQ o) ((i 0).val = o.val) := by
  have e : setQ o = (Rect.unit (s := S16x512x256) ![o.val, 0, 0] S1x512x256.size (inbQ o)).set := by
    unfold setQ
    exact (View.set_reshape _ _).trans (View.set_slice_whole _ _)
  rw [e, Rect.mem_set_unit]
  constructor
  · intro h; have := h 0; simp [S1x512x256] at this; omega
  · intro h a; fin_cases a
    · simp [S1x512x256]; omega
    · have := (i 1).isLt; simp [S16x512x256, S1x512x256] at this ⊢; omega
    · have := (i 2).isLt; simp [S16x512x256, S1x512x256] at this ⊢; omega
def setO (o : Fin 16) : Finset S16x256x512.Idx := (slotO o).view.set
theorem mem_slotO (o : Fin 16) (i : S16x256x512.Idx) : Iff (i ∈ setO o) ((i 0).val = o.val) := by
  have e : setO o = (Rect.unit (s := S16x256x512) ![o.val, 0, 0] S1x256x512.size (inbO o)).set := by
    unfold setO
    exact (View.set_reshape _ _).trans (View.set_slice_whole _ _)
  rw [e, Rect.mem_set_unit]
  constructor
  · intro h; have := h 0; simp [S1x256x512] at this; omega
  · intro h a; fin_cases a
    · simp [S1x256x512]; omega
    · have := (i 1).isLt; simp [S16x256x512, S1x256x512] at this ⊢; omega
    · have := (i 2).isLt; simp [S16x256x512, S1x256x512] at this ⊢; omega

theorem disjQ (o o' : Fin 16) (h : o ≠ o') : Disjoint (setQ o) (setQ o') :=
  Finset.disjoint_left.mpr fun i h1 h2 => h (Fin.ext (((mem_slotQ o i).mp h1).symm.trans ((mem_slotQ o' i).mp h2)))
theorem disjO (o o' : Fin 16) (h : o ≠ o') : Disjoint (setO o) (setO o') :=
  Finset.disjoint_left.mpr fun i h1 h2 => h (Fin.ext (((mem_slotO o i).mp h1).symm.trans ((mem_slotO o' i).mp h2)))
theorem coverQ : (Finset.univ.biUnion fun o : Fin 16 => setQ o) = Finset.univ :=
  Finset.eq_univ_iff_forall.mpr fun i => Finset.mem_biUnion.mpr ⟨⟨(i 0).val, (i 0).isLt⟩, Finset.mem_univ _, (mem_slotQ _ i).mpr rfl⟩
theorem coverO : (Finset.univ.biUnion fun o : Fin 16 => setO o) = Finset.univ :=
  Finset.eq_univ_iff_forall.mpr fun i => Finset.mem_biUnion.mpr ⟨⟨(i 0).val, (i 0).isLt⟩, Finset.mem_univ _, (mem_slotO _ i).mpr rfl⟩

/-- A gathering buffer at contents not chosen. -/
def wholeQ (c : Dev nD) : sProp 𝕄 := iprop(∃ f : Buf (Elt F) ((c : Thread nD τ).loc cc0_scratch0), ((c : Thread nD τ).loc cc0_scratch0) ↦{fullShare} f)
def wholeO (c : Dev nD) : sProp 𝕄 := iprop(∃ f : Buf (Elt F) ((c : Thread nD τ).loc cc0_scratch1), ((c : Thread nD τ).loc cc0_scratch1) ↦{fullShare} f)

theorem bigSep_fin2 (Φ : Fin 2 → sProp 𝕄) : bigSep Finset.univ Φ = iprop(Φ 0 ∗ Φ 1) := BI.bigSep_fin_two Φ

theorem cutQ : wholeQ (F := F) c ⊢ bigSep Finset.univ fun o : Fin 16 => slotAny (F := F) c 0 o := by
  have k (f : Buf (Elt F) ((c : Thread nD τ).loc cc0_scratch0)) : (((c : Thread nD τ).loc cc0_scratch0) ↦{fullShare} f : sProp 𝕄)
      ⊢ bigSep Finset.univ fun o : Fin 16 => slotAny (F := F) c 0 o := by
    rw [Ring.pointsTo_blocks (fun o : Fin 16 => setQ o) disjQ coverQ f]
    refine bigSep_mono fun o _ => ?_
    show (((c : Thread nD τ).loc cc0_scratch0) ↦[setQ o]{fullShare} f : sProp 𝕄) ⊢ slotAny c 0 o
    unfold slotAny ptsQ; rw [if_pos rfl]; iintro H; iexists f; iexact H
  unfold wholeQ
  iintro ⟨%f, H⟩
  iapply (k f); iexact H
theorem joinQ (f : Buf (Elt F) ((c : Thread nD τ).loc cc0_scratch0)) :
    (bigSep Finset.univ fun o : Fin 16 => slotAny (F := F) c 0 o) ⊢ wholeQ (F := F) c := by
  have j : (bigSep Finset.univ fun o : Fin 16 => iprop(∃ g : Buf (Elt F) ((c : Thread nD τ).loc cc0_scratch0), ((c : Thread nD τ).loc cc0_scratch0) ↦[setQ o]{fullShare} g) : sProp 𝕄)
      ⊢ iprop(∃ g : Buf (Elt F) ((c : Thread nD τ).loc cc0_scratch0), ((c : Thread nD τ).loc cc0_scratch0) ↦{fullShare} g) :=
    Ring.pointsTo_blocks_join_exists (ℓ := (c : Thread nD τ).loc cc0_scratch0) (B := Fin 16) (fun o : Fin 16 => setQ o) disjQ coverQ f
  refine BI.Entails.trans (bigSep_mono fun o _ => ?_) j
  show slotAny c 0 o ⊢ iprop(∃ g : Buf (Elt F) ((c : Thread nD τ).loc cc0_scratch0), ((c : Thread nD τ).loc cc0_scratch0) ↦[setQ o]{fullShare} g)
  unfold slotAny ptsQ; rw [if_pos rfl]; exact BI.Entails.refl _
theorem cutO : wholeO (F := F) c ⊢ bigSep Finset.univ fun o : Fin 16 => slotAny (F := F) c 1 o := by
  have k (f : Buf (Elt F) ((c : Thread nD τ).loc cc0_scratch1)) : (((c : Thread nD τ).loc cc0_scratch1) ↦{fullShare} f : sProp 𝕄)
      ⊢ bigSep Finset.univ fun o : Fin 16 => slotAny (F := F) c 1 o := by
    rw [Ring.pointsTo_blocks (fun o : Fin 16 => setO o) disjO coverO f]
    refine bigSep_mono fun o _ => ?_
    show (((c : Thread nD τ).loc cc0_scratch1) ↦[setO o]{fullShare} f : sProp 𝕄) ⊢ slotAny c 1 o
    unfold slotAny ptsO; rw [if_neg (by decide : ¬(1 : Fin 2) = 0)]; iintro H; iexists f; iexact H
  unfold wholeO
  iintro ⟨%f, H⟩
  iapply (k f); iexact H
theorem joinO (f : Buf (Elt F) ((c : Thread nD τ).loc cc0_scratch1)) :
    (bigSep Finset.univ fun o : Fin 16 => slotAny (F := F) c 1 o) ⊢ wholeO (F := F) c := by
  have j : (bigSep Finset.univ fun o : Fin 16 => iprop(∃ g : Buf (Elt F) ((c : Thread nD τ).loc cc0_scratch1), ((c : Thread nD τ).loc cc0_scratch1) ↦[setO o]{fullShare} g) : sProp 𝕄)
      ⊢ iprop(∃ g : Buf (Elt F) ((c : Thread nD τ).loc cc0_scratch1), ((c : Thread nD τ).loc cc0_scratch1) ↦{fullShare} g) :=
    Ring.pointsTo_blocks_join_exists (ℓ := (c : Thread nD τ).loc cc0_scratch1) (B := Fin 16) (fun o : Fin 16 => setO o) disjO coverO f
  refine BI.Entails.trans (bigSep_mono fun o _ => ?_) j
  show slotAny c 1 o ⊢ iprop(∃ g : Buf (Elt F) ((c : Thread nD τ).loc cc0_scratch1), ((c : Thread nD τ).loc cc0_scratch1) ↦[setO o]{fullShare} g)
  unfold slotAny ptsO; rw [if_neg (by decide : ¬(1 : Fin 2) = 0)]; exact BI.Entails.refl _
theorem cut_slots : iprop(wholeQ (F := F) c ∗ wholeO (F := F) c) ⊢ bigSep Finset.univ fun x : Fin 2 × Fin 16 => slotAny (F := F) c x.1 x.2 := by
  rw [bigSep_univ_prod, bigSep_fin2]
  iintro ⟨HQ, HO⟩
  isplitl [HQ]
  · iapply cutQ; iexact HQ
  iapply cutO; iexact HO

theorem join_slots (fQ : Buf (Elt F) ((c : Thread nD τ).loc cc0_scratch0)) (fO : Buf (Elt F) ((c : Thread nD τ).loc cc0_scratch1)) :
    (bigSep Finset.univ fun x : Fin 2 × Fin 16 => slotAny (F := F) c x.1 x.2) ⊢ iprop(wholeQ (F := F) c ∗ wholeO (F := F) c) := by
  rw [bigSep_univ_prod, bigSep_fin2]
  iintro ⟨HQ, HO⟩
  isplitl [HQ]
  · iapply (joinQ fQ); iexact HQ
  iapply (joinO fO); iexact HO

/-! ## Who writes a slot -/

/-- A sender is determined by the row it lands on, the kind, and the distance. -/
theorem send_unique : ∀ (z z' zp : Fin 4) (a a' : Fin 10), live z a zp = true → live z' a' zp = true → landZ z a = landZ z' a' →
    kindW a = kindW a' → landK a = landK a' → a = a' := by decide +kernel
theorem opp_live : ∀ (c : Dev nD) (d : Fin 4), toward (opp d) (toward d c) = c := by decide +kernel
theorem toward_inj : ∀ (d : Fin 4) (c c' : Dev nD), toward d c = toward d c' → c = c' := fun d c c' h => by
  rw [← opp_live c d, ← opp_live c' d, h]

/-- Where a send of a device lands. -/
def target (j : Dev nD × Fin 10 × Fin 4) : Option (Dev nD × Fin 2 × Fin 16) :=
  if live (zOf j.1) j.2.1 j.2.2 = true then some (destOf j.1 j.2.1, kindW j.2.1, slotOf j.1 j.2.2 (srcK j.2.1)) else none

theorem target_inj (j j' : Dev nD × Fin 10 × Fin 4) (i : Dev nD × Fin 2 × Fin 16) (h : target j = some i) (h' : target j' = some i) : j = j' := by
  obtain ⟨c, a, zp⟩ := j; obtain ⟨c', a', zp'⟩ := j'
  unfold target at h h'
  split at h <;> [skip; exact absurd h (by simp)]
  split at h' <;> [skip; exact absurd h' (by simp)]
  rename_i hl hl'
  dsimp only at hl hl' h h'
  have e := Option.some.inj (h.trans h'.symm)
  have e1 : destOf c a = destOf c' a' := congrArg Prod.fst e
  have e2 : kindW a = kindW a' := congrArg (fun x => x.2.1) e
  have e3 : slotOf c zp (srcK a) = slotOf c' zp' (srcK a') := congrArg (fun x => x.2.2) e
  obtain ⟨-, z1, s1⟩ := lands c a zp hl
  obtain ⟨-, z2, s2⟩ := lands c' a' zp' hl'
  rw [s1, s2, ← e1] at e3
  have e4 := slot_inj _ (zp, landK a) (zp', landK a') e3
  obtain rfl : zp = zp' := congrArg Prod.fst e4
  obtain rfl : a = a' := send_unique _ _ zp a a' hl hl' (by rw [← z1, ← z2, e1]) e2 (congrArg Prod.snd e4)
  obtain rfl := toward_inj _ c c' e1
  rfl

/-- The same seen from the destination: neighbour `j.1`'s send `j.2` writes one of the device's slots. -/
def writer (c : Dev nD) (j : Fin 4 × Fin 10 × Fin 4) : Option (Fin 2 × Fin 16) :=
  if live (zOf (toward j.1 c)) j.2.1 j.2.2 = true ∧ dirOf j.2.1 = opp j.1 then some (kindW j.2.1, slotOf (toward j.1 c) j.2.2 (srcK j.2.1)) else none

theorem opp_inj : ∀ d d' : Fin 4, opp d = opp d' → d = d' := by decide
theorem writer_inj (c : Dev nD) (j j' : Fin 4 × Fin 10 × Fin 4) (i : Fin 2 × Fin 16) (h : writer c j = some i) (h' : writer c j' = some i) : j = j' := by
  obtain ⟨d, x⟩ := j; obtain ⟨d', x'⟩ := j'
  unfold writer at h h'
  split at h <;> [skip; exact absurd h (by simp)]
  split at h' <;> [skip; exact absurd h' (by simp)]
  rename_i hl hl'
  dsimp only at hl hl' h h'
  have t1 : target (toward d c, x) = some (c, i) := by
    unfold target; rw [if_pos hl.1, ← Option.some.inj h]; unfold destOf; rw [hl.2, opp_live]
  have t2 : target (toward d' c, x') = some (c, i) := by
    unfold target; rw [if_pos hl'.1, ← Option.some.inj h']; unfold destOf; rw [hl'.2, opp_live]
  have e := target_inj _ _ _ t1 t2
  obtain rfl : x = x' := congrArg Prod.snd e
  obtain rfl : d = d' := opp_inj d d' (hl.2.symm.trans hl'.2)
  rfl
theorem writer_own (c : Dev nD) (j : Fin 4 × Fin 10 × Fin 4) (w : Fin 2) : writer c j ≠ some (w, slotOf c (zOf c) 0) := fun h => by
  unfold writer at h
  split at h <;> [skip; exact absurd h (by simp)]
  rename_i hl
  have := dest_not_own _ _ _ hl.1
  have e : destOf (toward j.1 c) j.2.1 = c := by unfold destOf; rw [hl.2, opp_live]
  rw [e] at this
  exact this (congrArg Prod.snd (Option.some.inj h))

/-! ## Lending the slots -/

/-- A slot whose receive cell is open. -/
def ready (c : Dev nD) (i : Fin 2 × Fin 16) : sProp 𝕄 := iprop(slotAny (F := F) c i.1 i.2 ∗ reached ER (recvCell c i.1 i.2) 0)

/-- The slots nobody writes. -/
def kept (c : Dev nD) : sProp 𝕄 := bigSep Finset.univ fun i : Fin 2 × Fin 16 => if ∀ j, writer c j ≠ some i then ready (F := F) c i else iprop(emp)

theorem lend_slots : (bigSep Finset.univ (ready (F := F) c)) ⊢ iprop((bigSep Finset.univ fun d : Fin 4 => barPay (F := F) (toward d c) (opp d)) ∗ kept (F := F) c) := by
  have all : bigSep Finset.univ (ready (F := F) c) ⊢ iprop((bigSep Finset.univ fun j : Fin 4 × Fin 10 × Fin 4 => (writer c j).elim BI.emp (ready (F := F) c)) ∗ kept (F := F) c) :=
    bigSep_along_rest (writer c) (writer_inj c) (ready (F := F) c)
  suffices key : (bigSep Finset.univ fun j : Fin 4 × Fin 10 × Fin 4 => (writer c j).elim BI.emp (ready (F := F) c)) ⊢ bigSep Finset.univ fun d : Fin 4 => barPay (F := F) (toward d c) (opp d) by
    iintro H
    ihave H' := all $$ H
    icases H' with ⟨H1, H2⟩
    isplitl [H1]; · iapply key; iexact H1
    iexact H2
  rw [bigSep_univ_prod]
  refine bigSep_mono fun d _ => ?_
  unfold barPay
  refine bigSep_mono fun x _ => ?_
  unfold writer
  by_cases h : live (zOf (toward d c)) x.1 x.2 = true ∧ dirOf x.1 = opp d
  · rw [if_pos h, if_pos h]
    have e : destOf (toward d c) x.1 = c := by unfold destOf; rw [h.2, opp_live]
    unfold destCell
    rw [e]
    exact BI.Entails.refl _
  · rw [if_neg h, if_neg h]; exact BI.Entails.refl _

end Gather
-- ==== Proof.Enter.lean ====
module

public import proofs.«01_k».proof.Proof.Fresh
public import proofs.«01_k».proof.Proof.Lend

/-! # What the body is given, and what it gives back -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD}

/-! ## The cells of a device -/

def cellIx : (Fin 2 × Fin 16) ⊕ (Fin 10 × Fin 4) ≃ Fin 72 := Equiv.ofBijective
  (fun | .inl x => (⟨16 * x.1.val + x.2.val, by omega⟩ : Fin 72) | .inr x => ⟨32 + 4 * x.1.val + x.2.val, by omega⟩) (by decide +kernel)
theorem own_recv (x : Fin 2 × Fin 16) : ((c : Thread nD τ), ownSem (cellIx (.inl x))) = recvCell c x.1 x.2 := by
  show ((c : Thread nD τ), ownSem (⟨16 * x.1.val + x.2.val, _⟩ : Fin 72)) = _
  unfold ownSem recvCell recvSem; congr 3; simp only; omega
theorem own_send (x : Fin 10 × Fin 4) : ((c : Thread nD τ), ownSem (cellIx (.inr x))) = sendCell c x.1 x.2 := by
  show ((c : Thread nD τ), ownSem (⟨32 + 4 * x.1.val + x.2.val, _⟩ : Fin 72)) = _
  unfold ownSem sendCell sendSem; congr 3; simp only; omega

def slotE (c : Dev nD) : Fin 4 × Fin 4 ≃ Fin 16 := Equiv.ofBijective (fun x => slotOf c x.1 x.2)
  ((Fintype.bijective_iff_injective_and_card _).mpr ⟨fun x y h => slot_inj c x y h, rfl⟩)
def recvE (c : Dev nD) : Fin 2 × Fin 4 × Fin 4 ≃ Fin 2 × Fin 16 := Equiv.prodCongr (Equiv.refl _) (slotE c)

theorem by_slot (Φ : Fin 2 × Fin 16 → sProp 𝕄) :
    bigSep Finset.univ Φ = bigSep Finset.univ fun y : Fin 2 × Fin 4 × Fin 4 => Φ (y.1, slotOf c y.2.1 y.2.2) :=
  bigSep_univ_equiv (recvE c) Φ
theorem own_split (Φ : GSem nD τ sig → sProp 𝕄) : (bigSep Finset.univ fun i : Fin 72 => Φ ((c : Thread nD τ), ownSem i))
    = iprop((bigSep Finset.univ fun y : Fin 2 × Fin 16 => Φ (recvCell c y.1 y.2)) ∗ bigSep Finset.univ fun x : Fin 10 × Fin 4 => Φ (sendCell c x.1 x.2)) := by
  rw [bigSep_univ_equiv cellIx (fun i : Fin 72 => Φ ((c : Thread nD τ), ownSem i)), bigSep_univ_sum,
    bigSep_congr (fun x _ => congrArg Φ (own_recv x)), bigSep_congr (fun x _ => congrArg Φ (own_send x))]
  rfl

theorem bigSep_fin4 (Φ : Fin 4 → sProp 𝕄) : bigSep Finset.univ Φ = iprop(Φ 0 ∗ Φ 1 ∗ Φ 2 ∗ Φ 3) := by
  rw [split_off (Finset.mem_univ (0 : Fin 4)) Φ, split_off (j := (1 : Fin 4)) (by decide) Φ, split_off (j := (2 : Fin 4)) (by decide) Φ,
    show ((((Finset.univ : Finset (Fin 4)).erase 0).erase 1).erase 2) = {3} from by decide, bigSep_singleton]

/-! ## What a device holds before it enters -/

def sendToks (c : Dev nD) (x : Fin 10 × Fin 4) : sProp 𝕄 :=
  if live (zOf c) x.1 x.2 = true then iprop(dutyTok ER (sendCell c x.1 x.2) 0 0 ∗ dutyTok ER (destCell c x.1 x.2) 0 0) else iprop(emp)
def recvCred (c : Dev nD) (y : Fin 2 × Fin 4 × Fin 4) : sProp 𝕄 :=
  if foreign (zOf c) y.2.1 y.2.2 = true then cred (tallyAt (recvCell c y.1 (slotOf c y.2.1 y.2.2)) () 8192) else iprop(emp)
def barTok (c : Dev nD) (d : Fin 4) : sProp 𝕄 :=
  iprop(dutyTok ER (barCell (toward d c)) 0 (opp d) ∗ reached ER (barCell (toward d c)) 0)
def heldBy (c : Dev nD) : sProp 𝕄 :=
  iprop(recs I K ∗ atPos ER (barCell c) 0 ∅ 0 ∗ bigSep Finset.univ (barTok (F := F) c) ∗ bigSep Finset.univ (sendToks (F := F) c)
    ∗ bigSep Finset.univ (recvCred (F := F) c) ∗ cred (tallyAt (barCell c) () 4))

def opened (g : GSem nD τ sig) : sProp 𝕄 := iprop(atPos ER g 0 ∅ 0 ∗ reached ER g 0)

/-- The device's own weights, as the slots' family has them. -/
def stg (c : Dev nD) (w : Fin 2) (q : PosShare TreeShare) : sProp 𝕄 := if w = 0 then stgPtsQ I c q else stgPtsO I c q
def weight (c : Dev nD) (y : Fin 2 × Fin 4 × Fin 4) : sProp 𝕄 :=
  if foreign (zOf c) y.2.1 y.2.2 = true then iprop(emp) else stg I c y.1 fullShare

theorem foreign_own : ∀ (z : Fin 4) (x : Fin 4 × Fin 4), Iff (foreign z x.1 x.2 = true) (x ≠ (z, 0)) := by decide +kernel

theorem weights_eq : bigSep Finset.univ (weight I c) = iprop(stgPtsQ I c fullShare ∗ stgPtsO I c fullShare) := by
  have one (w : Fin 2) : (bigSep Finset.univ fun x : Fin 4 × Fin 4 => weight I c (w, x)) = stg I c w fullShare := by
    rw [split_off (Finset.mem_univ ((zOf c, 0) : Fin 4 × Fin 4)), bigSep_congr (Ψ := fun _ => (BI.emp : sProp 𝕄)) (fun x hx => by
      unfold weight; exact if_pos ((foreign_own _ _).mpr (Finset.ne_of_mem_erase hx))), bigSep_emp_const]
    refine (BI.equiv_iff.mp sep_emp : iprop(weight I c (w, zOf c, 0) ∗ BI.emp) = weight I c (w, zOf c, 0)).trans ?_
    unfold weight; exact if_neg fun h => (foreign_own _ _).mp h rfl
  rw [bigSep_univ_prod, bigSep_fin2, one, one]
  rfl

theorem leaves (w : Fin 2) : stg I c w fullShare = bigSep Finset.univ fun p : Fin (2 ^ 3) => stg I c w (ShareLeaves.leaf 3 fullShare p) := by
  unfold stg; split
  · exact ShareLeaves.pointsTo_leaves _ _ 3 fullShare
  · exact ShareLeaves.pointsTo_leaves _ _ 3 fullShare
theorem slot_leaves (w : Fin 2) (o : Fin 16) : slotPts I c w o fullShare = bigSep Finset.univ fun p : Fin (2 ^ 3) => slotPts I c w o (ShareLeaves.leaf 3 fullShare p) := by
  unfold slotPts; split
  · exact ShareLeaves.pointsTo_leaves _ _ 3 fullShare
  · exact ShareLeaves.pointsTo_leaves _ _ 3 fullShare

theorem pieces_own {n : ℕ} {w : Fin 2} {zp k : Fin 4} (h : ¬foreign (zOf c) zp k = true) (hb : ∀ p, ¬Busy (zOf c) n w zp k p) :
    pieces I c n w zp k = stg I c w fullShare := by
  rw [leaves]; unfold pieces
  refine bigSep_congr fun p _ => ?_
  unfold pieceSt piecePts stg; rw [if_neg (hb p), if_neg h]
theorem pieces_foreign {n : ℕ} {w : Fin 2} {zp k : Fin 4} (h : foreign (zOf c) zp k = true) (hb : ∀ p, ¬Busy (zOf c) n w zp k p) :
    pieces I c n w zp k = slotPts I c w (slotOf c zp k) fullShare := by
  rw [slot_leaves]; unfold pieces
  refine bigSep_congr fun p _ => ?_
  unfold pieceSt piecePts; rw [if_neg (hb p), if_pos h]

theorem recv_enter (y : Fin 2 × Fin 4 × Fin 4) :
    iprop(atPos ER (recvCell c y.1 (slotOf c y.2.1 y.2.2)) 0 ∅ 0 ∗ (recvCred (F := F) c y ∗ weight I c y)) ⊢ recvSt I c 0 y := by
  unfold recvCred weight recvSt
  by_cases h : foreign (zOf c) y.2.1 y.2.2 = true
  · rw [if_pos h, if_pos h, if_pos h, if_neg (none_done _ _)]
    iintro ⟨H1, H2, -⟩
    isplitl [H1]; · iexact H1
    iexact H2
  · rw [if_neg h, if_neg h, if_neg h, pieces_own I h fun p => by
      rintro ⟨a, -, -, -, h', -⟩; exact none_done _ _ h']
    iintro ⟨H1, -, H3⟩
    isplitl [H1]; · iexact H1
    iexact H3

theorem send_enter (x : Fin 10 × Fin 4) : iprop(opened (F := F) (sendCell c x.1 x.2) ∗ sendToks (F := F) c x) ⊢ waiting (F := F) c x := by
  unfold opened sendToks waiting
  split
  · iintro ⟨⟨H1, H2⟩, H3, H4⟩
    isplitl [H1]; · iexact H1
    isplitl [H2]; · iexact H2
    isplitl [H3]; · iexact H3
    iexact H4
  · iintro ⟨⟨H1, -⟩, -⟩; iexact H1

theorem enter (f : S2x128x512.Idx → Elt F .f32) :
    iprop(heldBy I K c ∗ (bigSep Finset.univ fun i : Fin 72 => opened (F := F) ((c : Thread nD τ), ownSem i)) ∗ (wholeQ (F := F) c ∗ wholeO (F := F) c)
      ∗ (stgPtsQ I c fullShare ∗ stgPtsO I c fullShare) ∗ bufs I c f ∗ (∃ W, owes (c : Thread nD τ) (owed c) W))
    ⊢ Early I K c iprop(aboard I c f ∗ kept (F := F) c) := by
  have kw : (iprop(stgPtsQ I c fullShare ∗ stgPtsO I c fullShare) : sProp 𝕄) ⊢ bigSep Finset.univ (weight I c) := by
    rw [weights_eq]
  have ko : (bigSep Finset.univ fun i : Fin 72 => opened (F := F) ((c : Thread nD τ), ownSem i))
      ⊢ iprop((bigSep Finset.univ fun y : Fin 2 × Fin 16 => opened (F := F) (recvCell c y.1 y.2)) ∗ bigSep Finset.univ fun x : Fin 10 × Fin 4 => opened (F := F) (sendCell c x.1 x.2)) := by
    rw [own_split]
  have kr : (bigSep Finset.univ fun y : Fin 2 × Fin 16 => opened (F := F) (recvCell c y.1 y.2))
      ⊢ iprop((bigSep Finset.univ fun y : Fin 2 × Fin 4 × Fin 4 => atPos ER (recvCell c y.1 (slotOf c y.2.1 y.2.2)) 0 ∅ 0)
        ∗ bigSep Finset.univ fun y : Fin 2 × Fin 16 => reached ER (recvCell c y.1 y.2) 0) := by
    rw [← by_slot (c := c) (fun y : Fin 2 × Fin 16 => (atPos ER (recvCell c y.1 y.2) 0 ∅ 0 : sProp 𝕄)), ← bigSep_sep']
    exact BI.Entails.refl _
  have kl : iprop((bigSep Finset.univ fun y : Fin 2 × Fin 16 => slotAny (F := F) c y.1 y.2) ∗ bigSep Finset.univ fun y : Fin 2 × Fin 16 => reached ER (recvCell c y.1 y.2) 0)
      ⊢ bigSep Finset.univ (ready (F := F) c) := by
    rw [← bigSep_sep']
    exact BI.Entails.refl _
  have kb : iprop(bigSep Finset.univ (barTok (F := F) c) ∗ bigSep Finset.univ fun d => barPay (F := F) (toward d c) (opp d))
      ⊢ iprop(sig1 (F := F) c 0 ∗ sig1 (F := F) c 1 ∗ sig1 (F := F) c 2 ∗ sig1 (F := F) c 3) := by
    rw [← bigSep_sep', bigSep_fin4]
    unfold barTok sig1
    iintro ⟨⟨⟨A0, B0⟩, C0⟩, ⟨⟨A1, B1⟩, C1⟩, ⟨⟨A2, B2⟩, C2⟩, ⟨A3, B3⟩, C3⟩
    isplitl [A0 B0 C0]; · isplitl [A0]; · iexact A0
                          isplitl [B0]; · iexact B0
                          iexact C0
    isplitl [A1 B1 C1]; · isplitl [A1]; · iexact A1
                          isplitl [B1]; · iexact B1
                          iexact C1
    isplitl [A2 B2 C2]; · isplitl [A2]; · iexact A2
                          isplitl [B2]; · iexact B2
                          iexact C2
    isplitl [A3]; · iexact A3
    isplitl [B3]; · iexact B3
    iexact C3
  have kv : iprop((bigSep Finset.univ fun y : Fin 2 × Fin 4 × Fin 4 => atPos ER (recvCell c y.1 (slotOf c y.2.1 y.2.2)) 0 ∅ 0)
      ∗ bigSep Finset.univ (recvCred (F := F) c) ∗ bigSep Finset.univ (weight I c)) ⊢ bigSep Finset.univ (recvSt I c 0) := by
    rw [← bigSep_sep', ← bigSep_sep']; exact bigSep_mono fun y _ => recv_enter I y
  have ks : iprop((bigSep Finset.univ fun x : Fin 10 × Fin 4 => opened (F := F) (sendCell c x.1 x.2)) ∗ bigSep Finset.univ (sendToks (F := F) c))
      ⊢ bigSep Finset.univ (waiting (F := F) c) := by
    rw [← bigSep_sep']; exact bigSep_mono fun x _ => send_enter x
  have kc := cut_slots (F := F) (c := c)
  have kL := lend_slots (F := F) (c := c)
  unfold heldBy Early aboard
  iintro ⟨⟨#HR, HB, HT, HS, HC, Hc⟩, HO, HW, Hst, Hbf, Hw⟩
  ihave HO2 := ko $$ [HO]; · iexact HO
  icases HO2 with ⟨Hor, Hos⟩
  ihave Hor2 := kr $$ [Hor]; · iexact Hor
  icases Hor2 with ⟨Hpos, Hrch⟩
  ihave Hsl := kc $$ [HW]; · iexact HW
  ihave Hrd := kl $$ [Hsl Hrch]; · isplitl [Hsl]; · iexact Hsl
                                   iexact Hrch
  ihave Hln := kL $$ [Hrd]; · iexact Hrd
  icases Hln with ⟨Hpay, Hkept⟩
  ihave Hsg := kb $$ [HT Hpay]; · isplitl [HT]; · iexact HT
                                  iexact Hpay
  icases Hsg with ⟨G0, G1, G2, G3⟩
  ihave Hwt := kw $$ [Hst]; · iexact Hst
  ihave Hrv := kv $$ [Hpos HC Hwt]; · isplitl [Hpos]; · iexact Hpos
                                      isplitl [HC]; · iexact HC
                                      iexact Hwt
  ihave Hwa := ks $$ [Hos HS]; · isplitl [Hos]; · iexact Hos
                                 iexact HS
  isplitl []; · iexact HR
  isplitl [Hw]; · iexact Hw
  isplitl [G0]; · iexact G0
  isplitl [G1]; · iexact G1
  isplitl [G2]; · iexact G2
  isplitl [G3]; · iexact G3
  isplitl [HB]; · iexact HB
  isplitl [Hc]; · iexact Hc
  isplitr [Hkept]
  · isplitl [Hwa]; · iexact Hwa
    isplitl [Hrv]; · iexact Hrv
    iexact Hbf
  iexact Hkept

end Gather
-- ==== Proof.Leave.lean ====
module

public import proofs.«01_k».proof.Proof.Enter

/-! # What the body gives back -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD}

theorem all_waited : ∀ (z : Fin 4) (a : Fin 10) (zp : Fin 4), live z a zp = true → Done z 180 (.swait a zp) := by decide +kernel
theorem all_sent : ∀ (z : Fin 4) (a : Fin 10) (zp : Fin 4), live z a zp = true → Done z 180 (.send a zp) := by decide +kernel
theorem all_received : ∀ (z : Fin 4) (w : Fin 2) (zp k : Fin 4), foreign z zp k = true → Done z 180 (.recv w zp k) := by decide +kernel

theorem no_dues (c : Dev nD) : dues c 180 = 0 :=
  Finset.sum_eq_zero fun x _ => if_neg fun h => h.2 (all_sent _ _ _ h.1)
theorem not_busy (z : Fin 4) (w : Fin 2) (zp k : Fin 4) (p : Fin (2 ^ 3)) : ¬Busy z 180 w zp k p := by
  rintro ⟨a, -, -, -, h, h'⟩
  exact h' (all_waited z a zp h.1)

theorem closed {g : GSem nD τ sig} (hg : g ∈ barCells ∪ ownCells) (R : ℕ) (hR : ∀ r, R ≤ r → (sched I).duties g r = ∅) :
    iprop(recs I K ∗ atPos ER g R ∅ 0) ⊢ iprop(|={Set.univ}=> semVal g 0) := by
  have k := recs_inv I K hg
  have k2 := Rounds.cell_close ER (sched I) (Set.mem_univ (K g)) id hR
  refine BI.Entails.trans (?_ : iprop(recs I K ∗ atPos ER g R ∅ 0) ⊢ iprop(cellInv ER (sched I) (K g) g ∗ atPos ER g R ∅ 0)) k2
  show iprop(recs I K ∗ atPos ER g R ∅ 0) ⊢ iprop(cellInv ER (sched I) (K g) g ∗ atPos ER g R ∅ 0)
  iintro ⟨H, H2⟩
  isplitl [H]
  · iapply k; iexact H
  iexact H2

theorem send_leave (x : Fin 10 × Fin 4) : iprop(recs I K ∗ sendSt (F := F) c 180 x) ⊢ iprop(|={Set.univ}=> semVal (sendCell c x.1 x.2) 0) := by
  unfold sendSt
  by_cases h : live (zOf c) x.1 x.2 = true
  · rw [if_pos h, if_pos (all_waited _ _ _ h)]
    exact closed I K (send_mem c _ _) 1 fun r hr => duties_later I _ r hr
  · rw [if_neg h]
    exact closed I K (send_mem c _ _) 0 fun r _ => duties_dead I c h r

/-- What a slot comes back as: the slot, or at the own one the weight. -/
def back (c : Dev nD) (y : Fin 2 × Fin 4 × Fin 4) : sProp 𝕄 :=
  iprop((if foreign (zOf c) y.2.1 y.2.2 = true then slotAny (F := F) c y.1 (slotOf c y.2.1 y.2.2) else iprop(emp)) ∗ weight I c y)

theorem filled (w : Fin 2) (o : Fin 16) : slotPts I c w o fullShare ⊢ slotAny (F := F) c w o := by
  unfold slotPts slotAny
  split
  · iintro H; iexists _; iexact H
  · iintro H; iexists _; iexact H

theorem recv_leave (y : Fin 2 × Fin 4 × Fin 4) : iprop(recs I K ∗ recvSt I c 180 y)
    ⊢ iprop(|={Set.univ}=> (semVal (recvCell c y.1 (slotOf c y.2.1 y.2.2)) 0 ∗ back I c y)) := by
  unfold recvSt back weight
  by_cases h : foreign (zOf c) y.2.1 y.2.2 = true
  · rw [if_pos h, if_pos (all_received _ _ _ _ h), if_pos h, if_pos h, pieces_foreign I h (not_busy _ _ _ _)]
    have k := closed I K (recv_mem c y.1 (slotOf c y.2.1 y.2.2)) 1 fun r hr => duties_later I _ r hr
    have k2 := filled I (c := c) y.1 (slotOf c y.2.1 y.2.2)
    iintro ⟨HR, H1, H2⟩
    imod k $$ [HR H1] with Hv
    · isplitl [HR]; · iexact HR
      iexact H1
    imodintro
    isplitl [Hv]; · iexact Hv
    isplitl [H2]; · iapply k2; iexact H2
    iempintro
  · rw [if_neg h, if_neg h, if_neg h, pieces_own I h (not_busy _ _ _ _)]
    have e : (y.2.1, y.2.2) = ((zOf c, 0) : Fin 4 × Fin 4) := by
      by_contra hne; exact h ((foreign_own _ (y.2.1, y.2.2)).mpr hne)
    have e1 : y.2.1 = zOf c := congrArg Prod.fst e
    have e2 : y.2.2 = 0 := congrArg Prod.snd e
    have k := closed I K (recv_mem c y.1 (slotOf c y.2.1 y.2.2)) 0 fun r _ => by rw [e1, e2]; exact duties_own I c y.1 r
    iintro ⟨HR, H1, H2⟩
    imod k $$ [HR H1] with Hv
    · isplitl [HR]; · iexact HR
      iexact H1
    imodintro
    isplitl [Hv]; · iexact Hv
    isplitr; · iempintro
    iexact H2

/-- The slots received and the ones kept are all of them. -/
theorem gather_slots : iprop((bigSep Finset.univ fun y : Fin 2 × Fin 4 × Fin 4 =>
      if foreign (zOf c) y.2.1 y.2.2 = true then slotAny (F := F) c y.1 (slotOf c y.2.1 y.2.2) else iprop(emp)) ∗ kept (F := F) c)
    ⊢ bigSep Finset.univ fun i : Fin 2 × Fin 16 => slotAny (F := F) c i.1 i.2 := by
  rw [by_slot (c := c) (fun i : Fin 2 × Fin 16 => slotAny (F := F) c i.1 i.2), kept, by_slot (c := c), ← bigSep_sep']
  refine bigSep_mono fun y _ => ?_
  show iprop((if foreign (zOf c) y.2.1 y.2.2 = true then slotAny (F := F) c y.1 (slotOf c y.2.1 y.2.2) else iprop(emp))
    ∗ (if ∀ j, writer c j ≠ some (y.1, slotOf c y.2.1 y.2.2) then ready (F := F) c (y.1, slotOf c y.2.1 y.2.2) else iprop(emp))) ⊢ slotAny (F := F) c y.1 (slotOf c y.2.1 y.2.2)
  by_cases h : foreign (zOf c) y.2.1 y.2.2 = true
  · rw [if_pos h]
    iintro ⟨H, -⟩; iexact H
  · have e : (y.2.1, y.2.2) = ((zOf c, 0) : Fin 4 × Fin 4) := by
      by_contra hne; exact h ((foreign_own _ (y.2.1, y.2.2)).mpr hne)
    have e1 : y.2.1 = zOf c := congrArg Prod.fst e
    have e2 : y.2.2 = 0 := congrArg Prod.snd e
    rw [if_neg h, if_pos (fun j => by rw [e1, e2]; exact writer_own c j y.1)]
    unfold ready
    iintro ⟨-, H, -⟩; iexact H

theorem leave (fQ : Buf (Elt F) ((c : Thread nD τ).loc cc0_scratch0)) (fO : Buf (Elt F) ((c : Thread nD τ).loc cc0_scratch1)) :
    iprop(St I K c 180 ∗ (atPos ER (barCell c) 1 ∅ 0 ∗ kept (F := F) c))
    ⊢ iprop(|={Set.univ}=> (semVal (barCell c) 0 ∗ (bigSep Finset.univ fun i : Fin 72 => semVal ((c : Thread nD τ), ownSem i) 0) ∗ (wholeQ (F := F) c ∗ wholeO (F := F) c)
      ∗ (stgPtsQ I c fullShare ∗ stgPtsO I c fullShare) ∗ bufs I c (acc I c 180) ∗ (∃ W, owes (c : Thread nD τ) 0 W))) := by
  have ks : iprop(recs I K ∗ bigSep Finset.univ (sendSt (F := F) c 180)) ⊢ iprop(|={Set.univ}=> bigSep Finset.univ fun x : Fin 10 × Fin 4 => semVal (sendCell c x.1 x.2) 0) :=
    BI.Entails.trans (bigSep_with_persistent fun x _ => send_leave I K x) (BI.bigSep_fupd _ _)
  have kr : iprop(recs I K ∗ bigSep Finset.univ (recvSt I c 180)) ⊢ iprop(|={Set.univ}=> bigSep Finset.univ fun y : Fin 2 × Fin 4 × Fin 4 =>
      iprop(semVal (recvCell c y.1 (slotOf c y.2.1 y.2.2)) 0 ∗ back I c y)) :=
    BI.Entails.trans (bigSep_with_persistent fun y _ => recv_leave I K y) (BI.bigSep_fupd _ _)
  have kb := closed I K (bar_mem c) 1 fun r hr => duties_later I _ r hr
  have ksp : (bigSep Finset.univ fun y : Fin 2 × Fin 4 × Fin 4 => iprop(semVal (recvCell c y.1 (slotOf c y.2.1 y.2.2)) 0 ∗ back I c y))
      ⊢ iprop((bigSep Finset.univ fun y : Fin 2 × Fin 16 => semVal (recvCell c y.1 y.2) 0)
        ∗ (bigSep Finset.univ fun y : Fin 2 × Fin 4 × Fin 4 => if foreign (zOf c) y.2.1 y.2.2 = true then slotAny (F := F) c y.1 (slotOf c y.2.1 y.2.2) else iprop(emp))
        ∗ (stgPtsQ I c fullShare ∗ stgPtsO I c fullShare)) := by
    rw [← weights_eq, by_slot (c := c) (fun y : Fin 2 × Fin 16 => (semVal (recvCell c y.1 y.2) 0 : sProp 𝕄)), ← bigSep_sep', ← bigSep_sep']
    exact BI.Entails.refl _
  have kall : iprop((bigSep Finset.univ fun y : Fin 2 × Fin 16 => semVal (recvCell c y.1 y.2) 0) ∗ bigSep Finset.univ fun x : Fin 10 × Fin 4 => semVal (sendCell c x.1 x.2) 0)
      ⊢ (bigSep Finset.univ fun i : Fin 72 => semVal ((c : Thread nD τ), ownSem i) 0 : sProp 𝕄) := by
    rw [own_split (fun g => (semVal g 0 : sProp 𝕄))]
  have kg := gather_slots (F := F) (c := c)
  have kj := join_slots (F := F) (c := c) fQ fO
  unfold St
  rw [no_dues]
  iintro ⟨⟨#HR, Hs, Hr, Hw, Hb⟩, Ha, Hk⟩
  imod ks $$ [Hs] with Hs
  · isplitl []; · iexact HR
    iexact Hs
  imod kr $$ [Hr] with Hr
  · isplitl []; · iexact HR
    iexact Hr
  imod kb $$ [Ha] with Ha
  · isplitl []; · iexact HR
    iexact Ha
  ihave Hr2 := ksp $$ [Hr]; · iexact Hr
  icases Hr2 with ⟨Hv, Hsl, Hst⟩
  ihave Hg := kg $$ [Hsl Hk]; · isplitl [Hsl]; · iexact Hsl
                                iexact Hk
  imodintro
  isplitl [Ha]; · iexact Ha
  isplitl [Hv Hs]
  · iapply kall
    isplitl [Hv]; · iexact Hv
    iexact Hs
  isplitl [Hg]; · iapply kj; iexact Hg
  isplitl [Hst]; · iexact Hst
  isplitl [Hb]; · iexact Hb
  iexact Hw

end Gather
-- ==== Proof.Tail.lean ====
module

public import proofs.«01_k».proof.Proof.Fresh

/-! # The body after the barrier: the far columns and the last waits -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD}

/-- Six parts, each followed by one that computes scalars only. -/
theorem six {n0 n1 n2 n3 n4 n5 n6 : ℕ} {α : Type} {p1 p2 p3 p4 p5 p6 d1 d2 d3 d4 d5 d6 : Prog (TpuEff nD τ sig (Elt F) Λ₀ .tc) PUnit} {k : Prog (TpuEff nD τ sig (Elt F) Λ₀ .tc) α} {Q : α → sProp 𝕄}
    (h1 : St I K c n0 ⊢ Run (F := F) c p1 (fun _ => St I K c n1)) (e1 : d1 = pure PUnit.unit)
    (h2 : St I K c n1 ⊢ Run (F := F) c p2 (fun _ => St I K c n2)) (e2 : d2 = pure PUnit.unit)
    (h3 : St I K c n2 ⊢ Run (F := F) c p3 (fun _ => St I K c n3)) (e3 : d3 = pure PUnit.unit)
    (h4 : St I K c n3 ⊢ Run (F := F) c p4 (fun _ => St I K c n4)) (e4 : d4 = pure PUnit.unit)
    (h5 : St I K c n4 ⊢ Run (F := F) c p5 (fun _ => St I K c n5)) (e5 : d5 = pure PUnit.unit)
    (h6 : St I K c n5 ⊢ Run (F := F) c p6 (fun _ => St I K c n6)) (e6 : d6 = pure PUnit.unit)
    (hk : St I K c n6 ⊢ Run (F := F) c k Q) : St I K c n0 ⊢ Run (F := F) c (do p1; d1; p2; d2; p3; d3; p4; d4; p5; d5; p6; d6; k) Q :=
  bindU I K h1 (give e1 ( bindU I K h2 (give e2 ( bindU I K h3 (give e3 ( bindU I K h4 (give e4 ( bindU I K h5 (give e5 ( bindU I K h6 (give e6 hk)))))))))))
theorem one {n n' : ℕ} {α : Type} {p : Prog (TpuEff nD τ sig (Elt F) Λ₀ .tc) PUnit} {k : Prog (TpuEff nD τ sig (Elt F) Λ₀ .tc) α} {Q : α → sProp 𝕄}
    (h : St I K c n ⊢ Run (F := F) c p (fun _ => St I K c n')) (hk : St I K c n' ⊢ Run (F := F) c k Q) : St I K c n ⊢ Run (F := F) c (do p; k) Q := bindU I K h hk
theorem two {n n' : ℕ} {α : Type} {p d : Prog (TpuEff nD τ sig (Elt F) Λ₀ .tc) PUnit} {k : Prog (TpuEff nD τ sig (Elt F) Λ₀ .tc) α} {Q : α → sProp 𝕄}
    (h : St I K c n ⊢ Run (F := F) c p (fun _ => St I K c n')) (e : d = pure PUnit.unit) (hk : St I K c n' ⊢ Run (F := F) c k Q) :
    St I K c n ⊢ Run (F := F) c (do p; d; k) Q := bindU I K h (give e hk)

/-- The waits for what was sent of the first two distances. -/
def tailF (v20 : BitVec 32) : Prog (TpuEff nD τ sig (Elt F) Λ₀ .tc) (BitVec 32) := do
  let v380 : BitVec 1 ← At0 k0_part129 v20
  At0 k0_part130 v380
  let v385 : BitVec 1 ← At0 k0_part131 v20
  At0 k0_part132 v385
  At0 k0_part133
  let v426 : BitVec 1 ← At0 k0_part134 v20
  At0 k0_part135 v426
  let v431 : BitVec 1 ← At0 k0_part136 v20
  At0 k0_part137 v431
  At0 k0_part138
  pure v20

/-- The last far column. -/
def tailE (c : Dev nD) (v20 v24 v28 v36 : BitVec 32) (m : IVec S256x256 1) (x : FVec F S256x512 .bf16) :
    Prog (TpuEff nD τ sig (Elt F) Λ₀ .tc) (BitVec 32) := do
  At0 k0_part128 c v20 v24 v28 v36 m x
  tailF v20

/-- The far columns. -/
def tailD (c : Dev nD) (v20 v24 v28 v36 : BitVec 32) (m : IVec S256x256 1) (x : FVec F S256x512 .bf16) :
    Prog (TpuEff nD τ sig (Elt F) Λ₀ .tc) (BitVec 32) := do
  At0 k0_part116 c v20 v24 v28 v36 m x
  At0 k0_part117 v20
  At0 k0_part118 c v20 v24 v28 v36 m x
  At0 k0_part119 v20
  At0 k0_part120 c v20 v24 v28 v36 m x
  At0 k0_part121 v20
  At0 k0_part122 c v20 v24 v28 v36 m x
  At0 k0_part123 v20
  At0 k0_part124 c v20 v24 v28 v36 m x
  At0 k0_part125 v20
  At0 k0_part126 c v20 v24 v28 v36 m x
  At0 k0_part127 v20
  tailE c v20 v24 v28 v36 m x

/-- The last near column. -/
def tailC (c : Dev nD) (v20 v24 v28 v32 v34 v36 : BitVec 32) (m : IVec S256x256 1) (x : FVec F S256x512 .bf16) :
    Prog (TpuEff nD τ sig (Elt F) Λ₀ .tc) (BitVec 32) := do
  At0 k0_part114 c v20 v24 v28 v32 v34 m x
  At0 k0_part115 v20
  tailD c v20 v24 v28 v36 m x

/-- The near columns. -/
def tailB (c : Dev nD) (v20 v24 v28 v32 v34 v36 : BitVec 32) (m : IVec S256x256 1) (x : FVec F S256x512 .bf16) :
    Prog (TpuEff nD τ sig (Elt F) Λ₀ .tc) (BitVec 32) := do
  At0 k0_part102 c v20 v24 v28 v32 v34 m x
  At0 k0_part103 v20
  At0 k0_part104 c v20 v24 v28 v32 v34 m x
  At0 k0_part105 v20
  At0 k0_part106 c v20 v24 v28 v32 v34 m x
  At0 k0_part107 v20
  At0 k0_part108 c v20 v24 v28 v32 v34 m x
  At0 k0_part109 v20
  At0 k0_part110 c v20 v24 v28 v32 v34 m x
  At0 k0_part111 v20
  At0 k0_part112 c v20 v24 v28 v32 v34 m x
  At0 k0_part113 v20
  tailC c v20 v24 v28 v32 v34 v36 m x

/-- The slots that come down or up the own column. -/
def tailA (c : Dev nD) (v20 v2 v24 v28 v29 v30 v32 v34 v36 : BitVec 32) (m : IVec S256x256 1) (x : FVec F S256x512 .bf16) :
    Prog (TpuEff nD τ sig (Elt F) Λ₀ .tc) (BitVec 32) := do
  At0 k0_part90 c v2 v20 v24 v28 v29 m x
  At0 k0_part91 v20
  At0 k0_part92 c v2 v20 v24 v28 v30 m x
  At0 k0_part93 v20
  At0 k0_part94 c v2 v20 v24 v28 v29 m x
  At0 k0_part95 v20
  At0 k0_part96 c v2 v20 v24 v28 v30 m x
  At0 k0_part97 v20
  At0 k0_part98 c v2 v20 v24 v28 v29 m x
  At0 k0_part99 v20
  At0 k0_part100 c v2 v20 v24 v28 v30 m x
  At0 k0_part101 v20
  tailB c v20 v24 v28 v32 v34 v36 m x

set_option maxHeartbeats 4000000 in
theorem last : St I K c 140 ⊢ Run (F := F) c (tailF (rowWord c)) (fun v => iprop(⌜v = rowWord c⌝ ∗ St I K c 157)) := by
  unfold tailF
  refine give (a := upward 0#32 (rowWord c)) (by rfl) (bindU I K (n' := 142) (pair130 I K rfl) ?_)
  refine give (a := downward 0#32 (rowWord c)) (by rfl) (bindU I K (n' := 144) (pair132 I K rfl) ?_)
  refine bindU I K (n' := 147) (three133 I K) (three134 I K _ ?_)
  refine bindU I K (n' := 152) (pair135 I K rfl) ?_
  refine give (a := downward 1#32 (rowWord c)) (by rfl) (bindU I K (n' := 154) (pair137 I K rfl) ?_)
  refine bindU I K (n' := 157) (three138 I K) ?_
  refine run_pure ?_
  iintro H
  isplitr; · ipureintro; rfl
  iexact H

variable {v20 : BitVec 32} (hv : v20 = rowWord c)
include hv

set_option maxHeartbeats 4000000 in
theorem lastE (v24 v28 v36 : BitVec 32) :
    St I K c 137 ⊢ Run (F := F) c (tailE c v20 v24 v28 v36 maskV (k0_pay183 (I.x c))) (fun v => iprop(⌜v = rowWord c⌝ ∗ St I K c 157)) := by
  unfold tailE
  refine one I K (n' := 140) (region34 I K _ _ _ _) ?_
  subst hv; exact last I K

set_option maxHeartbeats 4000000 in
theorem lastD (v24 v28 v36 : BitVec 32) :
    St I K c 119 ⊢ Run (F := F) c (tailD c v20 v24 v28 v36 maskV (k0_pay183 (I.x c))) (fun v => iprop(⌜v = rowWord c⌝ ∗ St I K c 157)) := by
  unfold tailD
  refine six I K (n1 := 122) (n2 := 125) (n3 := 128) (n4 := 131) (n5 := 134) (n6 := 137) (region28 I K _ _ _ _) rfl (region29 I K _ _ _ _) rfl (region30 I K _ _ _ _) rfl (region31 I K _ _ _ _) rfl (region32 I K _ _ _ _) rfl (region33 I K _ _ _ _) rfl ?_
  exact lastE I K hv _ _ _

set_option maxHeartbeats 4000000 in
theorem lastC (v24 v28 v32 v34 v36 : BitVec 32) :
    St I K c 111 ⊢ Run (F := F) c (tailC c v20 v24 v28 v32 v34 v36 maskV (k0_pay183 (I.x c))) (fun v => iprop(⌜v = rowWord c⌝ ∗ St I K c 157)) := by
  unfold tailC
  refine two I K (n' := 119) (region27 I K _ _ _ _ _) rfl ?_
  exact lastD I K hv _ _ _

set_option maxHeartbeats 4000000 in
theorem lastB (v24 v28 v32 v34 v36 : BitVec 32) :
    St I K c 63 ⊢ Run (F := F) c (tailB c v20 v24 v28 v32 v34 v36 maskV (k0_pay183 (I.x c))) (fun v => iprop(⌜v = rowWord c⌝ ∗ St I K c 157)) := by
  unfold tailB
  refine six I K (n1 := 71) (n2 := 79) (n3 := 87) (n4 := 95) (n5 := 103) (n6 := 111) (region21 I K _ _ _ _ _) rfl (region22 I K _ _ _ _ _) rfl (region23 I K _ _ _ _ _) rfl (region24 I K _ _ _ _ _) rfl (region25 I K _ _ _ _ _) rfl (region26 I K _ _ _ _ _) rfl ?_
  exact lastC I K hv _ _ _ _ _

set_option maxHeartbeats 4000000 in
theorem lastA (v2 v24 v28 v29 v30 v32 v34 v36 : BitVec 32) :
    St I K c 9 ⊢ Run (F := F) c (tailA c v20 v2 v24 v28 v29 v30 v32 v34 v36 maskV (k0_pay183 (I.x c))) (fun v => iprop(⌜v = rowWord c⌝ ∗ St I K c 157)) := by
  unfold tailA
  refine six I K (n1 := 18) (n2 := 27) (n3 := 36) (n4 := 45) (n5 := 54) (n6 := 63) (region3 I K _ _ _ _ _) rfl (region6 I K _ _ _ _ _) rfl (region9 I K _ _ _ _ _) rfl (region12 I K _ _ _ _ _) rfl (region15 I K _ _ _ _ _) rfl (region18 I K _ _ _ _ _) rfl ?_
  exact lastB I K hv _ _ _ _ _

end Gather
-- ==== Proof.Body.lean ====
module

public import proofs.«01_k».proof.Proof.Tail

/-! # The body -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD}

set_option maxHeartbeats 4000000 in
theorem first (f : S2x128x512.Idx → Elt F .f32) (G : sProp 𝕄) :
    Early I K c iprop(aboard I c f ∗ G) ⊢ Run (F := F) c (At0 k0_part149) (fun v => iprop((⌜v = rowWord c⌝ ∗ St I K c 157) ∗ (atPos ER (barCell c) 1 ∅ 0 ∗ G))) := by
  rw [At0_eq, k0_part149_eq_skeleton, k0_part149_skel.eq_1]
  refine regionWord fun v2 v3 v24 v28 v29 v30 v32 v34 v35 => ?_
  dsimp only
  refine regionBarrier I K v3 _ v24 v28 v35 ?_
  refine (met_fresh I K f G).trans (aside ?_)
  dsimp only
  refine give (by rfl) (give (a := maskV) (by rfl) (regionClear I K f _ ?_))
  refine bindU I K (n' := 2) (region1 I K _) (give (by rfl) (bindU I K (n' := 4) (region2 I K _) (regionRow I K _ _ ?_)))
  dsimp only
  refine regionOwn I K _ _ ?_
  exact lastA I K rfl _ _ _ _ _ _ _ _

end Gather
-- ==== Proof.Whole.lean ====
module

public import proofs.«01_k».proof.Proof.Body

/-! # The body as a whole -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F) (K : GSem nD τ sig → ℕ) {c : Dev nD}

theorem pull {P R Q : sProp 𝕄} {v w : BitVec 32} (h : v = w → iprop(P ∗ R) ⊢ Q) : iprop((⌜v = w⌝ ∗ P) ∗ R) ⊢ Q := by
  iintro ⟨⟨%e, H⟩, HR⟩
  iapply (h e)
  isplitl [H]; · iexact H
  iexact HR

set_option maxHeartbeats 4000000 in
/-- The body: the barrier, the gathering, the products, and the waits for what was sent. -/
theorem whole (f : S2x128x512.Idx → Elt F .f32) (G : sProp 𝕄) :
    Early I K c iprop(aboard I c f ∗ G) ⊢ Run (F := F) c (At0 cc0_body) (fun _ => iprop(St I K c 180 ∗ (atPos ER (barCell c) 1 ∅ 0 ∗ G))) := by
  rw [At0_eq, cc0_body_eq_skeleton, cc0_body_skel.eq_1]
  refine run_bind ((first I K f G).trans (wp_mono _ _ _ fun v => pull fun e => ?_))
  subst e
  refine aside ?_
  refine three139 I K _ ?_
  refine bindU I K (n' := 162) (pair140 I K rfl) ?_
  refine give (a := downward 2#32 (rowWord c)) (by rfl) (bindU I K (n' := 164) (pair142 I K rfl) ?_)
  refine bindU I K (n' := 167) (three143 I K) (three144 I K _ ?_)
  refine bindU I K (n' := 172) (pair145 I K rfl) ?_
  refine give (a := downward 3#32 (rowWord c)) (by rfl) (bindU I K (n' := 174) (pair147 I K rfl) ?_)
  refine bindU I K (n' := 177) (three148 I K) ?_
  exact three_OQO I K (rest_at (zOf c) 3 3) (rest_at (zOf c) 3 4) (rest_at (zOf c) 3 5) (by exact send_of 7 rfl) (by exact send_of 8 rfl) (by exact send_of 9 rfl)
    (run_pure (BI.Entails.refl _))

end Gather
-- ==== Proof.Region.lean ====
module

public import proofs.«01_k».proof.Proof.Leave
public import proofs.«01_k».proof.Proof.Whole
public import proofs.«01_k».proof.Proof.Gen.KernelIdeal.Points
public import proofs.«01_k».proof.Proof.Gen.KernelIdeal.Regions
public import Idealize.ShloMosaic.Lib.Pipeline.RegionTalk

/-! # The call: what it is entered with and what it leaves -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The inputs -/

/-- A window's array as the call finds it. -/
abbrev arrIn (c : Dev nD) (w : Fin cfg0.W) : Buf (Elt F) ((cfg0.win w).arr.view.loc (c : Thread nD τ)) :=
  V1 m c (Proc.devRef .tc (Pipeline.arrRef spec0 w))
/-- The block of it the call's one point reads. -/
abbrev blkIn (c : Dev nD) (w : Fin cfg0.W) := ((cfg0.win w).blk t0_0).view.read (Elt F) (arrIn m c w)

/-- What each device's staging buffers hold when the body runs. -/
def inp : Inp F where
  wq c := blkIn m c 1
  wo c := blkIn m c 4
  x c := blkIn m c 0
  kt c := blkIn m c 2
  vt c := blkIn m c 3

/-! ## The proof data -/

/-- Before the body: the protocol's state, opened. After it: every counter at zero. -/
def before0 (c : Dev nD) : sProp 𝕄 :=
  iprop((∃ K, heldBy (inp m) K c ∗ bigSep Finset.univ fun i : Fin 72 => opened (F := F) ((c : Thread nD τ), ownSem i)))
def after0 (c : Dev nD) : sProp 𝕄 :=
  iprop(semVal (barCell c) 0 ∗ bigSep Finset.univ fun i : Fin 72 => semVal ((c : Thread nD τ), ownSem i) 0)

/-- The call's proof data. -/
def dat0 (c : Dev nD) : Dat τ (Elt F) Unit ℕ UU ℕ cfg0 c where
  A w := arrIn m c w
  after w _ := match w with
    | ⟨0, _⟩ => (inp m).x c
    | ⟨1, _⟩ => (inp m).wq c
    | ⟨2, _⟩ => (inp m).kt c
    | ⟨3, _⟩ => (inp m).vt c
    | ⟨4, _⟩ => (inp m).wo c
    | ⟨5, _⟩ => acc (inp m) c 180
  Φ t := iprop((if t.val = 0 then before0 m c else after0 (F := F) c) ∗ (wholeQ (F := F) c ∗ wholeO (F := F) c) ∗ ∃ r, prngReg c r)
  q _ := fullShare
  owed t := if t.val = 0 then owed c else 0

abbrev pdats : (p : Fin 1) → (c : Dev nD) → Dat τ (Elt F) Unit ℕ UU ℕ (cfgs p) c
  | 0 => dat0 m

theorem owed_first (c : Dev nD) : (dat0 (F := F) m c).owed t0_0.castSucc = owed c := by
  show (if (t0_0.castSucc : Fin (cfg0.N + 1)).val = 0 then owed c else 0) = owed c; exact if_pos rfl
theorem owed_last (c : Dev nD) : (pdats (F := F) m 0 c).owed (Fin.last _) = 0 := by
  show (if (Fin.last cfg0.N).val = 0 then owed c else 0) = 0
  rw [Fin.val_last, if_neg (by rw [show cfg0.N = 1 from N_0]; decide)]

theorem owes_within {c : Dev nD} (t : Fin (cfg0.N + 1)) {O : CellTallies nD τ sig Unit} (h : (dat0 (F := F) m c).owed t = O) :
    iprop(∃ W, owes (c : Thread nD τ) O W) ⊢ ((dat0 (F := F) m c).owesAt () t : sProp 𝕄) := by
  unfold Dat.owesAt Pipeline.owesWithin Dat.bound; rw [h, show (dat0 (F := F) m c).recorded t = Set.univ from rfl]
  iintro ⟨%W, HO⟩; iexists W; isplitr
  · ipureintro; exact fun _ _ => Or.inl trivial
  iexact HO
theorem owes_out {c : Dev nD} (t : Fin (cfg0.N + 1)) {O : CellTallies nD τ sig Unit} (h : (dat0 (F := F) m c).owed t = O) :
    ((dat0 (F := F) m c).owesAt () t : sProp 𝕄) ⊢ iprop(∃ W, owes (c : Thread nD τ) O W) := by
  unfold Dat.owesAt Pipeline.owesWithin; rw [h]
  iintro ⟨%W, -, HO⟩; iexists W; iexact HO

/-! ## The body -/

theorem found (c : Dev nD) (w : Fin cfg0.W) (h : (cfg0.win w).fetch t0_0 = true) (d) :
    (dat0 m c).before w t0_0 d = (dat0 m c).fetched w t0_0 d := by unfold Dat.before; rw [if_pos h]
theorem found_0 (c : Dev nD) (d) : (dat0 m c).before 0 t0_0 d = (inp m).x c := (found m c 0 (fetch0_0 _) d).trans rfl
theorem found_1 (c : Dev nD) (d) : (dat0 m c).before 1 t0_0 d = (inp m).wq c := (found m c 1 (fetch0_1 _) d).trans rfl
theorem found_2 (c : Dev nD) (d) : (dat0 m c).before 2 t0_0 d = (inp m).kt c := (found m c 2 (fetch0_2 _) d).trans rfl
theorem found_3 (c : Dev nD) (d) : (dat0 m c).before 3 t0_0 d = (inp m).vt c := (found m c 3 (fetch0_3 _) d).trans rfl
theorem found_4 (c : Dev nD) (d) : (dat0 m c).before 4 t0_0 d = (inp m).wo c := (found m c 4 (fetch0_4 _) d).trans rfl

omit [FloatOps F] [Named F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem stgQ_eq (I : Inp F) (c : Dev nD) : stgPtsQ I c fullShare
    = (((c : Thread nD τ).loc cc0_stg1_0) ↦{fullShare} (I.wq c : Buf (Elt F) ((c : Thread nD τ).loc cc0_stg1_0))) := by
  unfold stgPtsQ; simp only [Memref.view_whole, View.set_whole]
theorem stgO_eq (I : Inp F) (c : Dev nD) : stgPtsO I c fullShare
    = (((c : Thread nD τ).loc cc0_stg4_0) ↦{fullShare} (I.wo c : Buf (Elt F) ((c : Thread nD τ).loc cc0_stg4_0))) := by
  unfold stgPtsO; simp only [Memref.view_whole, View.set_whole]

/-- What the body leaves. -/
def ended (I : Inp F) (c : Dev nD) : sProp 𝕄 :=
  iprop(semVal (barCell c) 0 ∗ (bigSep Finset.univ fun i : Fin 72 => semVal ((c : Thread nD τ), ownSem i) 0)
      ∗ (wholeQ (F := F) c ∗ wholeO (F := F) c) ∗ (stgPtsQ I c fullShare ∗ stgPtsO I c fullShare) ∗ bufs I c (acc I c 180)
      ∗ (∃ W, owes (c : Thread nD τ) 0 W))

/-- The body at the device's state, its update included. -/
theorem all (I : Inp F) (K : GSem nD τ sig → ℕ) (c : Dev nD) (f : S2x128x512.Idx → Elt F .f32) :
    iprop(heldBy I K c ∗ (bigSep Finset.univ fun i : Fin 72 => opened (F := F) ((c : Thread nD τ), ownSem i)) ∗ (wholeQ (F := F) c ∗ wholeO (F := F) c)
      ∗ (stgPtsQ I c fullShare ∗ stgPtsO I c fullShare) ∗ bufs I c f ∗ (∃ W, owes (c : Thread nD τ) (owed c) W))
    ⊢ Run c (At0 cc0_body) (fun _ => ended I c) := by
  have k0 : iprop(wholeQ (F := F) c ∗ wholeO (F := F) c) ⊢ iprop(∃ (fQ : Buf (Elt F) ((c : Thread nD τ).loc cc0_scratch0)) (fO : Buf (Elt F) ((c : Thread nD τ).loc cc0_scratch1)),
      ⌜fQ = fQ ∧ fO = fO⌝ ∗ wholeQ (F := F) c ∗ wholeO (F := F) c) := by
    unfold wholeQ wholeO
    iintro ⟨⟨%fQ, HQ⟩, ⟨%fO, HO⟩⟩
    iexists fQ; iexists fO
    isplitr; · ipureintro; exact ⟨rfl, rfl⟩
    isplitl [HQ]; · iexists fQ; iexact HQ
    iexists fO; iexact HO
  iintro ⟨Hh, Ho, Hw, Hs, Hb, HO⟩
  ihave Hw' := k0 $$ Hw
  icases Hw' with ⟨%fQ, %fO, -, Hw⟩
  have k1 := (enter I K (c := c) f).trans ((whole I K (c := c) f (kept (F := F) c)).trans
    ((wp_mono _ _ _ fun _ => leave I K (c := c) fQ fO).trans (wp_fupd _ _ _ _ _)))
  iapply k1
  isplitl [Hh]; · iexact Hh
  isplitl [Ho]; · iexact Ho
  isplitl [Hw]; · iexact Hw
  isplitl [Hs]; · iexact Hs
  isplitl [Hb] <;> iassumption

/-- What the body leaves is what its point must leave. -/
theorem shut (c : Dev nD) : iprop(ended (inp m) c ∗ ∃ r, prngReg c r)
    ⊢ iprop((after0 (F := F) c ∗ (wholeQ (F := F) c ∗ wholeO (F := F) c) ∗ ∃ r, prngReg c r) ∗ (dat0 (F := F) m c).owesAt () t0_0.succ
      ∗ (∃ f : Buf (Elt F) ((c : Thread nD τ).loc cc0_stg0_0), ⌜f = (dat0 m c).after 0 t0_0⌝ ∗ (((c : Thread nD τ).loc cc0_stg0_0) ↦{fullShare} f))
      ∗ (∃ f : Buf (Elt F) ((c : Thread nD τ).loc cc0_stg1_0), ⌜f = (dat0 m c).after 1 t0_0⌝ ∗ (((c : Thread nD τ).loc cc0_stg1_0) ↦{fullShare} f))
      ∗ (∃ f : Buf (Elt F) ((c : Thread nD τ).loc cc0_stg2_0), ⌜f = (dat0 m c).after 2 t0_0⌝ ∗ (((c : Thread nD τ).loc cc0_stg2_0) ↦{fullShare} f))
      ∗ (∃ f : Buf (Elt F) ((c : Thread nD τ).loc cc0_stg3_0), ⌜f = (dat0 m c).after 3 t0_0⌝ ∗ (((c : Thread nD τ).loc cc0_stg3_0) ↦{fullShare} f))
      ∗ (∃ f : Buf (Elt F) ((c : Thread nD τ).loc cc0_stg4_0), ⌜f = (dat0 m c).after 4 t0_0⌝ ∗ (((c : Thread nD τ).loc cc0_stg4_0) ↦{fullShare} f))
      ∗ (∃ f : Buf (Elt F) ((c : Thread nD τ).loc cc0_stg5_0), ⌜f = (dat0 m c).after 5 t0_0⌝ ∗ (((c : Thread nD τ).loc cc0_stg5_0) ↦{fullShare} f))) := by
  unfold ended after0 bufs
  rw [stgQ_eq, stgO_eq]
  iintro ⟨⟨Hb, Hs, Hw, ⟨H1, H4⟩, ⟨H0, H2, H3, H5⟩, HO⟩, Hp⟩
  isplitr [HO H0 H1 H2 H3 H4 H5]
  · isplitl [Hb Hs]; · isplitl [Hb] <;> iassumption
    isplitl [Hw] <;> iassumption
  isplitl [HO]; · iapply (owes_within m t0_0.succ (owed_last m c)) $$ HO
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  iexists _; isplitr; swap; (· iexact H5); ipureintro; dsimp only [dat0]

theorem body (c : Dev nD) : BodyObligation (dat0 (F := F) m c) defs₀ 𝒱₀ () Set.univ := fun t => by
  obtain rfl := fin_N0 t
  rw [bigSep_W0, bigSep_W0]
  simp only [owns_buf]
  rw [show (dat0 m c).Φ t0_0.castSucc = iprop(before0 m c ∗ (wholeQ (F := F) c ∗ wholeO (F := F) c) ∗ ∃ r, prngReg c r) from rfl,
    show (dat0 m c).Φ t0_0.succ = iprop(after0 c ∗ (wholeQ (F := F) c ∗ wholeO (F := F) c) ∗ ∃ r, prngReg c r) from rfl]
  unfold before0 after0
  iintro ⟨⟨⟨%K, Hh, Ho⟩, Hw, Hp⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [found_0] at hf0; subst hf0
  rw [found_1] at hf1; subst hf1
  rw [found_2] at hf2; subst hf2
  rw [found_3] at hf3; subst hf3
  rw [found_4] at hf4; subst hf4
  ihave HO' := (owes_out m t0_0.castSucc (owed_first m c)) $$ HO
  have kp : iprop((heldBy (inp m) K c ∗ (bigSep Finset.univ fun i : Fin 72 => opened (F := F) ((c : Thread nD τ), ownSem i)) ∗ (wholeQ (F := F) c ∗ wholeO (F := F) c)
      ∗ (stgPtsQ (inp m) c fullShare ∗ stgPtsO (inp m) c fullShare) ∗ bufs (inp m) c f5 ∗ (∃ W, owes (c : Thread nD τ) (owed c) W)) ∗ ∃ r, prngReg c r)
    ⊢ Run c (At0 cc0_body) (fun _ => iprop(ended (inp m) c ∗ ∃ r, prngReg c r)) :=
    (BI.Laws.sep_mono (all (inp m) K c f5) (BI.Entails.refl _)).trans (wp_frame_r _ _ _)
  have ke := kp.trans (wp_mono _ _ _ fun _ => shut m c)
  iapply ke
  isplitr [Hp]
  · isplitl [Hh]; · iexact Hh
    isplitl [Ho]; · iexact Ho
    isplitl [Hw]; · iexact Hw
    isplitl [H1 H4]
    · rw [stgQ_eq, stgO_eq]
      isplitl [H1] <;> iassumption
    isplitr [HO']
    · unfold bufs
      isplitl [H0]; · iexact H0
      isplitl [H2]; · iexact H2
      isplitl [H3]; · iexact H3
      iexact H5
    iexact HO'
  iexact Hp

end Gather

end
-- ==== Proof.Open.lean ====
module

public import proofs.«01_k».proof.Proof.Region

/-! # The call as a segment of the program -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## Opening the cells -/

/-- What a device keeps for the call. -/
def waits0 (I : Inp F) (c : Dev nD) : sProp 𝕄 :=
  iprop(∃ K, heldBy I K c ∗ bigSep Finset.univ fun i : Fin 72 => openTok ER ((c : Thread nD τ), ownSem i))

theorem own_mem (c : Dev nD) (i : Fin 72) : ((c : Thread nD τ), ownSem i) ∈ barCells ∪ ownCells :=
  Finset.mem_union_right _ (Finset.mem_map.mpr ⟨(c, i), Finset.mem_univ _, rfl⟩)

theorem open_one (I : Inp F) (K : GSem nD τ sig → ℕ) (c : Dev nD) (i : Fin 72) :
    iprop(recs I K ∗ (openTok ER ((c : Thread nD τ), ownSem i) ∗ semVal ((c : Thread nD τ), ownSem i) 0))
    ⊢ iprop(|={Set.univ}=> opened (F := F) ((c : Thread nD τ), ownSem i)) := by
  iintro ⟨#HR, Ho, Hs⟩
  unfold opened
  have ki : recs I K ⊢ cellInv ER (sched I) (K ((c : Thread nD τ), ownSem i)) ((c : Thread nD τ), ownSem i) := recs_inv I K (own_mem c i)
  ihave #HI := ki $$ HR
  imod (Rounds.cell_open ER (sched I) (g := ((c : Thread nD τ), ownSem i)) (Set.mem_univ (K ((c : Thread nD τ), ownSem i)))) $$ [Ho Hs] with ⟨Ha, Hr⟩
  · isplitr; · iexact HI
    isplitl [Ho] <;> iassumption
  imodintro
  isplitl [Ha] <;> iassumption

theorem open_all (c : Dev nD) : iprop(waits0 (inp m) c ∗ Pipeline.ownSems0 ownSem c ∗ levAts L lv) ⊢ iprop(|={Set.univ}=> before0 m c) := by
  unfold waits0 before0 Pipeline.ownSems0
  iintro ⟨⟨%K, Hh, Ho⟩, Hs, -⟩
  have k : iprop(recs (inp m) K ∗ bigSep Finset.univ fun i : Fin 72 => iprop(openTok ER ((c : Thread nD τ), ownSem i) ∗ semVal ((c : Thread nD τ), ownSem i) 0))
      ⊢ iprop(|={Set.univ}=> bigSep Finset.univ fun i : Fin 72 => opened (F := F) ((c : Thread nD τ), ownSem i)) :=
    BI.Entails.trans (bigSep_with_persistent fun i _ => open_one (inp m) K c i) (BI.bigSep_fupd _ _)
  have kr : heldBy (inp m) K c ⊢ iprop(recs (inp m) K ∗ heldBy (inp m) K c) := by
    unfold heldBy
    iintro ⟨#HR, Ht⟩
    isplitr; · iexact HR
    isplitr; · iexact HR
    iexact Ht
  ihave Hh' := kr $$ Hh
  icases Hh' with ⟨HR, Hh⟩
  imod k $$ [HR Ho Hs] with Hd
  · isplitl [HR]; · iexact HR
    have kz : iprop((bigSep Finset.univ fun i : Fin 72 => openTok ER ((c : Thread nD τ), ownSem i)) ∗ bigSep Finset.univ fun i : Fin 72 => semVal ((c : Thread nD τ), ownSem i) 0)
        ⊢ (bigSep Finset.univ fun i : Fin 72 => iprop(openTok ER ((c : Thread nD τ), ownSem i) ∗ semVal ((c : Thread nD τ), ownSem i) 0) : sProp 𝕄) := by rw [bigSep_sep']
    iapply kz
    isplitl [Ho] <;> iassumption
  imodintro
  iexists K
  isplitl [Hh] <;> iassumption

/-! ## The levels -/

theorem tally_pos {g g' : GSem nD τ sig} {n : ℕ} (h : 0 < (tallyAt g () n : CellTallies nD τ sig Unit) g' ()) : g' = g := by
  rw [tallyAt_apply] at h
  split at h
  · next e => exact e.1
  · exact absurd h (Nat.lt_irrefl 0)

theorem owed_pos {c : Dev nD} {g : GSem nD τ sig} (h : 0 < owed c g ()) :
    g.1.2 = .tc ∧ 0 < lv g () := by
  have bar (d : Fin 4) (h : 0 < barDue c d g ()) : g.1.2 = .tc ∧ 0 < lv g () := by
    obtain rfl := tally_pos h
    exact ⟨rfl, by rw [lv_bar]; decide⟩
  unfold owed at h
  simp only [Pi.add_apply, Finsupp.add_apply] at h
  by_cases h0 : 0 < dues c 0 g ()
  · obtain ⟨x, hl, -, rfl⟩ := dues_pos h0
    exact ⟨rfl, by rw [lv_dest c x.1 x.2 hl]; exact lt_of_lt_of_le (by decide) (level_ge _ _ _)⟩
  by_cases h1 : 0 < barDue c 0 g ()
  · exact bar 0 h1
  by_cases h2 : 0 < barDue c 1 g ()
  · exact bar 1 h2
  by_cases h3 : 0 < barDue c 2 g ()
  · exact bar 2 h3
  exact bar 3 (by omega)

theorem cut_due (c : Dev nD) (t : Fin (cfg0.N + 1)) (g : GSem nD τ sig) (i : Unit) (h : 0 < (dat0 (F := F) m c).owed t g i) :
    i ∈ L g ∧ (0 : ℕ) < lv g i := by
  have e : (dat0 (F := F) m c).owed t = if t.val = 0 then owed c else 0 := rfl
  rw [e] at h
  split at h
  · obtain ⟨h1, h2⟩ := owed_pos (show 0 < owed c g () from h)
    exact ⟨by unfold L; rw [if_pos h1]; exact Finset.mem_singleton_self _, h2⟩
  · exact absurd h (Nat.lt_irrefl 0)

theorem role_stage : ∀ (w : Fin 6) (s : Fin (spec0 w).nbuf), role (.dma ((spec0 w).sem s)) = .stage := by decide +kernel
theorem stage_low (c : Dev nD) (w : Fin 6) (s : Fin (spec0 w).nbuf) : lv ((c : Thread nD τ), .dma ((spec0 w).sem s)) () ≤ 0 := by
  refine le_of_eq ?_
  dsimp only [lv]; rw [role_stage]

/-! ## The segment -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the call leaves in its result's array. -/
def outs : Outs (F := F) := fun _ r c => if h : r = main_v19 then h ▸ ((dat0 m c).arrAt 5 cfg0.N) else V1 m c r

theorem outs_eq (c : Dev nD) : outs m 2 main_v19 c = (dat0 m c).arrAt 5 cfg0.N := by unfold outs; rw [dif_pos rfl]

theorem arr_last (c : Dev nD) (w : Fin cfg0.W) : (dat0 m c).arrAt w cfg0.N = V2 m (outs m) c (Proc.devRef .tc (Pipeline.arrRef spec0 w)) := by
  fin_cases w
  · exact ((dat0 m c).arrAt_in 0 rfl _).trans (V2_of m (outs m) c main_arg0 (by decide)).symm
  · exact ((dat0 m c).arrAt_in 1 rfl _).trans (V2_of m (outs m) c main_v17 (by decide)).symm
  · exact ((dat0 m c).arrAt_in 2 rfl _).trans (V2_of m (outs m) c main_v15 (by decide)).symm
  · exact ((dat0 m c).arrAt_in 3 rfl _).trans (V2_of m (outs m) c main_v16 (by decide)).symm
  · exact ((dat0 m c).arrAt_in 4 rfl _).trans (V2_of m (outs m) c main_v18 (by decide)).symm
  · exact (outs_eq m c).symm.trans
      (Function.update_self (f := V1 m c) (Proc.devRef .tc main_v19 : DevRef τ sig) (outs m 2 main_v19 c)).symm

/-- The buffers the call does not name. -/
abbrev others : Finset (DevRef τ sig) := Pipeline.ucRefs τ sig \ Pipeline.arrRefs (τ := τ) (pcfgs (F := F) 0).spec

theorem held_none (c : Dev nD) (W : Valuation τ sig (Elt F)) : (StableHlo.held (c : Thread nD τ) ∅ W : sProp 𝕄) = BI.emp := BI.bigSep_empty

theorem go_in (c : Dev nD) : iprop(Pipeline.scopedRest (Pipeline.pin (pcfgs (F := F)) adm 0).spec c ∗ (∃ r, prngReg c r)
      ∗ StableHlo.held (c : Thread nD τ) ∅ (V1 m c) ∗ before0 m c) ⊢ (pdats m 0 c).Φ 0 := by
  rw [show (pdats m 0 c).Φ 0 = iprop(before0 m c ∗ (wholeQ (F := F) c ∗ wholeO (F := F) c) ∗ ∃ r, prngReg c r) from rfl,
    show (Pipeline.scopedRest (Pipeline.pin (pcfgs (F := F)) adm 0).spec c : sProp 𝕄) = iprop(wholeQ (F := F) c ∗ wholeO (F := F) c) from scopedRest0_eq c]
  iintro ⟨Hs, Hp, -, Hb⟩
  isplitl [Hb]; · iexact Hb
  isplitl [Hs] <;> iassumption

theorem go_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c : Thread nD τ) ∅ (V2 m (outs m) c)
      ∗ Pipeline.ownSems0 ownSem c ∗ semVal (barCell c) 0) := by
  rw [show (pdats m 0 c).Φ (Fin.last _) = iprop(after0 (F := F) c ∗ (wholeQ (F := F) c ∗ wholeO (F := F) c) ∗ ∃ r, prngReg c r) from rfl,
    show (Pipeline.scopedRest (Pipeline.pin (pcfgs (F := F)) adm 0).spec c : sProp 𝕄) = iprop(wholeQ (F := F) c ∗ wholeO (F := F) c) from scopedRest0_eq c,
    held_none]
  unfold after0 Pipeline.ownSems0
  iintro ⟨⟨Hb, Ho⟩, Hs, Hp⟩
  isplitl [Hs]; · iexact Hs
  isplitl [Hp]; · iexact Hp
  isplitr; · iempintro
  isplitl [Ho] <;> iassumption

theorem others_kept (c : Dev nD) (b : DevRef τ sig) (hb : b ∈ others (F := F) \ ∅) : V2 m (outs m) c b = V1 m c b := by
  rw [Finset.sdiff_empty] at hb
  refine Function.update_of_ne (fun e => ?_) _ _
  subst e
  exact (Finset.mem_sdiff.mp hb).2 (Finset.mem_map.mpr ⟨main_v19, Finset.mem_image.mpr ⟨(5 : Fin 6), Finset.mem_univ _, rfl⟩, rfl⟩)

set_option backward.isDefEq.respectTransparency.types false in
def call : Pipeline.RegionSeg (pcfgs (F := F)) adm (pdats m) () defs₀ 𝒱₀ L lv 0 :=
  Pipeline.RegionSeg.ofTalk (pcfgs (F := F)) adm (pdats m) () defs₀ 𝒱₀ L lv 0 ownSem (by decide +kernel : Pipeline.OwnSemFacts spec0 ownSem)
    ∅ (others (F := F)) (Finset.empty_subset _) kit rfl (fun c => (body m c).loose)
    (fun _ => 0) owed (fun c => (owed_first m c).trans (zero_add _).symm) (owed_last m) (fun _ => rfl)
    (fun c w => by show (if _ then fullShare else fullShare) = _; split <;> rfl)
    (V1 m) (V2 m (outs m)) (others_kept m)
    (waits0 (inp m)) (fun c => semVal (barCell c) 0) (before0 m) (fun c => semVal (barCell c) 0) (open_all m) (go_in m) (go_out m)
    (fun c => by iintro H; imodintro; iexact H)
    (fun _ => 0)
    ⟨fun c w s => by rw [L_tc]; exact Finset.mem_singleton_self _, fun c w s => stage_low c w s, fun c t g i h => cut_due m c t g i h⟩
    (fun _ => iprop(emp))
    (fun _ _ => rfl) (arr_last m)

end Gather

end
-- ==== Proof.Dues.lean ====
module

public import proofs.«01_k».proof.Proof.Enter

/-! # What the devices together owe on each cell -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## What is owed on each cell -/

theorem recv_inj {c c' : Dev nD} {w w' : Fin 2} {o o' : Fin 16} (h : recvCell c w o = recvCell c' w' o') : (c, w, o) = (c', w', o') := by
  have h1 : c = c' := congrArg (fun g : GSem nD τ sig => g.1.1) h
  have h2 : role (.dma (recvSem w o)) = role (.dma (recvSem w' o')) := congrArg (fun g : GSem nD τ sig => role g.2) h
  rw [role_recv, role_recv] at h2
  obtain ⟨rfl, rfl⟩ := Role.recv.inj h2
  rw [h1]
theorem recv_ne_bar (c c' : Dev nD) (w : Fin 2) (o : Fin 16) : recvCell c w o ≠ barCell c' := fun h => by
  have h2 : role (.dma (recvSem w o)) = role (.reg barS) := congrArg (fun g : GSem nD τ sig => role g.2) h
  rw [role_recv, role_bar] at h2
  exact Role.noConfusion h2

theorem dues_at (d : Dev nD) (g : GSem nD τ sig) : dues d 0 g () = ∑ x : Fin 10 × Fin 4, due d 0 x g () := by
  unfold dues; rw [Finset.sum_apply, Finsupp.finset_sum_apply]

theorem due_at (d c : Dev nD) (x : Fin 10 × Fin 4) (w : Fin 2) (o : Fin 16) :
    due d 0 x (recvCell c w o) () = if target (d, x) = some (c, w, o) then 8192 else 0 := by
  have hn : ¬Done (zOf d) 0 (.send x.1 x.2) := fun h => Nat.not_lt_zero _ h.2
  unfold due target
  by_cases hl : live (zOf d) x.1 x.2 = true
  · rw [if_pos ⟨hl, hn⟩, if_pos hl, tallyAt_apply]
    by_cases e : recvCell c w o = destCell d x.1 x.2
    · rw [if_pos ⟨e, rfl⟩, if_pos (congrArg some (recv_inj e).symm)]
    · rw [if_neg fun h => e h.1, if_neg fun h => e (by
        have h := Option.some.inj h
        have h1 : destOf d x.1 = c := congrArg Prod.fst h
        have h2 : kindW x.1 = w := congrArg (fun y => y.2.1) h
        have h3 : slotOf d x.2 (srcK x.1) = o := congrArg (fun y => y.2.2) h
        subst h1 h2 h3; rfl)]
  · rw [if_neg fun h => hl h.1, if_neg hl, if_neg (by simp)]
    rfl

theorem bar_at (d c : Dev nD) (e : Fin 4) : barDue d e (barCell c) () = if toward e d = c then 1 else 0 := by
  unfold barDue
  rw [tallyAt_apply]
  by_cases h : toward e d = c
  · rw [if_pos h, if_pos ⟨by rw [h], rfl⟩]
  · rw [if_neg h, if_neg fun h' => h (congrArg (fun g : GSem nD τ sig => g.1.1) h'.1).symm]

/-- Every slot but the own one is written. -/
theorem written : ∀ (c : Dev nD) (w : Fin 2) (zp k : Fin 4), foreign (zOf c) zp k = true →
    ∃ (d : Dev nD) (a : Fin 10) (zq : Fin 4), target (d, a, zq) = some (c, w, slotOf c zp k) := by decide +kernel

theorem owed_recv (c : Dev nD) (w : Fin 2) (zp k : Fin 4) (h : foreign (zOf c) zp k = true) :
    ∑ d : Dev nD, owed d (recvCell c w (slotOf c zp k)) () = 8192 := by
  have e (d : Dev nD) : owed d (recvCell c w (slotOf c zp k)) () = ∑ x : Fin 10 × Fin 4, if target (d, x) = some (c, w, slotOf c zp k) then 8192 else 0 := by
    have b (e : Fin 4) : barDue d e (recvCell c w (slotOf c zp k)) = 0 := tallyAt_ne_cell (recv_ne_bar _ _ _ _) _ _
    unfold owed
    simp only [Pi.add_apply, Finsupp.add_apply, b, Finsupp.zero_apply, Nat.add_zero]
    rw [dues_at]
    exact Finset.sum_congr rfl fun x _ => due_at d c x w _
  obtain ⟨d, a, zq, ht⟩ := written c w zp k h
  rw [Finset.sum_congr rfl fun d _ => e d, ← Fintype.sum_prod_type' (f := fun (d : Dev nD) (x : Fin 10 × Fin 4) => if target (d, x) = some (c, w, slotOf c zp k) then 8192 else 0),
    Finset.sum_eq_single (d, a, zq) (fun j _ hj => if_neg fun hj' => hj (target_inj _ _ _ hj' ht)) (fun hn => absurd (Finset.mem_univ _) hn)]
  exact if_pos ht

theorem met_once : ∀ (c : Dev nD) (e : Fin 4), ∑ d : Dev nD, (if toward e d = c then 1 else 0) = 1 := by decide +kernel

theorem owed_bar (c : Dev nD) : ∑ d : Dev nD, owed d (barCell c) () = 4 := by
  have e (d : Dev nD) : owed d (barCell c) () = (if toward 3 d = c then 1 else 0) + (if toward 2 d = c then 1 else 0) + (if toward 1 d = c then 1 else 0) + (if toward 0 d = c then 1 else 0) := by
    have b : dues d 0 (barCell c) () = 0 := by
      rw [dues_at]
      refine Finset.sum_eq_zero fun x _ => ?_
      unfold due
      split
      · rw [tallyAt_ne_cell fun h => recv_ne_bar _ _ _ _ h.symm]; rfl
      · rfl
    unfold owed
    simp only [Pi.add_apply, Finsupp.add_apply, b, bar_at, Nat.zero_add]
  rw [Finset.sum_congr rfl fun d _ => e d, Finset.sum_add_distrib, Finset.sum_add_distrib, Finset.sum_add_distrib, met_once, met_once, met_once, met_once]

end Gather

end
-- ==== Proof.Deal.lean ====
module

public import proofs.«01_k».proof.Proof.Dues

/-! # The launch: the protocol's state dealt to the devices -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Inp F)

/-! ## The credit -/

theorem credit_of (g : GSem nD τ sig) (n : ℕ) (h : ∑ d : Dev nD, owed d g () = n) :
    tallyOn g (launchCredit (Pipeline.owing owed) 0 g) = (tallyAt g () n : CellTallies nD τ sig Unit) := by
  unfold tallyAt; refine congrArg _ (Finsupp.ext fun u => ?_); cases u
  rw [Pipeline.launchCredit_owing, Finsupp.single_eq_same, h]

/-- The semaphores a device waits on. -/
def waited (c : Dev nD) : Unit ⊕ (Fin 2 × Fin 4 × Fin 4) → Option (SemLoc sig)
  | .inl _ => some (.reg barS)
  | .inr y => if foreign (zOf c) y.2.1 y.2.2 = true then some (.dma (recvSem y.1 (slotOf c y.2.1 y.2.2))) else none
theorem waited_inj (c : Dev nD) (j j' : Unit ⊕ (Fin 2 × Fin 4 × Fin 4)) (s : SemLoc sig) (h : waited c j = some s) (h' : waited c j' = some s) : j = j' := by
  cases j with
  | inl u => cases j' with
    | inl u' => rfl
    | inr y =>
      unfold waited at h h'
      dsimp only at h h'
      split at h'
      · rw [← Option.some.inj h] at h'; exact absurd (Option.some.inj h') (fun h => by cases h)
      · exact absurd h' (by simp)
  | inr y => cases j' with
    | inl u' =>
      unfold waited at h h'
      dsimp only at h h'
      split at h
      · rw [← Option.some.inj h'] at h; exact absurd (Option.some.inj h) (fun h => by cases h)
      · exact absurd h (by simp)
    | inr y' =>
      unfold waited at h h'
      dsimp only at h h'
      split at h <;> [skip; exact absurd h (by simp)]
      split at h' <;> [skip; exact absurd h' (by simp)]
      have e : role (.dma (recvSem y.1 (slotOf c y.2.1 y.2.2))) = role (.dma (recvSem y'.1 (slotOf c y'.2.1 y'.2.2))) :=
        congrArg role (Option.some.inj (h.trans h'.symm))
      rw [role_recv, role_recv] at e
      obtain ⟨e1, e2⟩ := Role.recv.inj e
      have e3 := slot_inj c y.2 y'.2 e2
      exact congrArg Sum.inr (Prod.ext e1 e3)

theorem creds (c : Dev nD) : (Pipeline.launchCred owed c : sProp 𝕄)
    ⊢ iprop(cred (tallyAt (barCell c) () 4) ∗ bigSep Finset.univ (recvCred (F := F) c)) := by
  unfold Pipeline.launchCred
  refine BI.Entails.trans (BI.bigSep_along (waited c) (waited_inj c) _) ?_
  rw [bigSep_univ_sum]
  have k1 : (bigSep Finset.univ fun a : Unit => ((waited c (Sum.inl a)).elim BI.emp fun sm =>
        cred (tallyOn ((c : Thread nD τ), sm) (launchCredit (Pipeline.owing owed) 0 ((c : Thread nD τ), sm))) : sProp 𝕄)) ⊢ cred (tallyAt (barCell c) () 4) := by
    rw [show (Finset.univ : Finset Unit) = {()} from rfl, bigSep_singleton]
    show cred (tallyOn (barCell c) (launchCredit (Pipeline.owing owed) 0 (barCell c))) ⊢ (cred (tallyAt (barCell c) () 4) : sProp 𝕄)
    rw [credit_of _ 4 (owed_bar c)]
  have k2 : (bigSep Finset.univ fun y : Fin 2 × Fin 4 × Fin 4 => ((waited c (Sum.inr y)).elim BI.emp fun sm =>
        cred (tallyOn ((c : Thread nD τ), sm) (launchCredit (Pipeline.owing owed) 0 ((c : Thread nD τ), sm))) : sProp 𝕄)) ⊢ bigSep Finset.univ (recvCred (F := F) c) := by
    refine bigSep_mono fun y _ => ?_
    unfold recvCred waited
    dsimp only
    by_cases h : foreign (zOf c) y.2.1 y.2.2 = true
    · rw [if_pos h, if_pos h]
      show cred (tallyOn (recvCell c y.1 (slotOf c y.2.1 y.2.2)) (launchCredit (Pipeline.owing owed) 0 (recvCell c y.1 (slotOf c y.2.1 y.2.2)))) ⊢ (_ : sProp 𝕄)
      rw [credit_of _ 8192 (owed_recv c y.1 y.2.1 y.2.2 h)]
    · rw [if_neg h, if_neg h]
      exact BI.Entails.refl _
  exact BI.Laws.sep_mono k1 k2

/-! ## The tokens -/

abbrev TokIx : Type := (Fin 2 × Fin 16) ⊕ ((Fin 10 × Fin 4) ⊕ Fin 4)
def tokAt (x : Dev nD × TokIx) : GSem nD τ sig × ℕ × Fin 4 := match x with
  | (c, .inl y) => (recvCell c y.1 y.2, 0, 0)
  | (c, .inr (.inl x)) => (sendCell c x.1 x.2, 0, 0)
  | (c, .inr (.inr d)) => (barCell c, 0, d)
theorem tokAt_inj : Function.Injective tokAt := by
  rintro ⟨c, x⟩ ⟨c', x'⟩ h
  have hr : role (tokAt (c, x)).1.2 = role (tokAt (c', x')).1.2 := by rw [h]
  have hd : (tokAt (c, x)).2.2 = (tokAt (c', x')).2.2 := by rw [h]
  have hc : (tokAt (c, x)).1.1.1 = (tokAt (c', x')).1.1.1 := by rw [h]
  rcases x with ⟨w, o⟩ | ⟨a, zp⟩ | d <;> rcases x' with ⟨w', o'⟩ | ⟨a', zp'⟩ | d' <;>
    simp only [tokAt, role_recv, role_send, role_bar, Role.recv.injEq, Role.send.injEq, reduceCtorEq] at hr hd
  · obtain ⟨rfl, rfl⟩ := hr; obtain rfl : c = c' := hc; rfl
  · obtain ⟨rfl, rfl⟩ := hr; obtain rfl : c = c' := hc; rfl
  · obtain rfl : c = c' := hc; rw [hd]
def tokens : Finset (GSem nD τ sig × ℕ × Fin 4) := Finset.univ.map ⟨tokAt, tokAt_inj⟩

def around : Dev nD × Fin 4 ≃ Dev nD × Fin 4 where
  toFun x := (toward x.2 x.1, opp x.2)
  invFun x := (toward x.2 x.1, opp x.2)
  left_inv x := Prod.ext (toward_opp x.2 x.1) (opp_opp x.2)
  right_inv x := Prod.ext (toward_opp x.2 x.1) (opp_opp x.2)

/-- Each token goes to the device that uses it. -/
theorem tokens_dealt : (bigSep tokens fun t => (dutyTok ER t.1 t.2.1 t.2.2 : sProp 𝕄))
    ⊢ bigSep Finset.univ fun c : Dev nD => iprop((bigSep Finset.univ fun d : Fin 4 => dutyTok ER (barCell (toward d c)) 0 (opp d)) ∗ bigSep Finset.univ (sendToks (F := F) c)) := by
  have kr : (bigSep Finset.univ fun c : Dev nD => bigSep Finset.univ fun y : Fin 2 × Fin 16 => (dutyTok ER (recvCell c y.1 y.2) 0 0 : sProp 𝕄))
      ⊢ bigSep Finset.univ fun c : Dev nD => bigSep Finset.univ fun x : Fin 10 × Fin 4 =>
        (target (c, x)).elim BI.emp fun i => dutyTok ER (recvCell i.1 i.2.1 i.2.2) 0 0 := by
    have k := BI.bigSep_along target target_inj (fun i : Dev nD × Fin 2 × Fin 16 => (dutyTok ER (recvCell i.1 i.2.1 i.2.2) 0 0 : sProp 𝕄))
    rw [bigSep_univ_prod, bigSep_univ_prod] at k
    exact k
  have kb : (bigSep Finset.univ fun c : Dev nD => bigSep Finset.univ fun d : Fin 4 => (dutyTok ER (barCell c) 0 d : sProp 𝕄))
      ⊢ bigSep Finset.univ fun c : Dev nD => bigSep Finset.univ fun d : Fin 4 => dutyTok ER (barCell (toward d c)) 0 (opp d) := by
    rw [← bigSep_univ_prod (Φ := fun x : Dev nD × Fin 4 => (dutyTok ER (barCell x.1) 0 x.2 : sProp 𝕄)),
      bigSep_univ_equiv around, bigSep_univ_prod]
    exact BI.Entails.refl _
  have ks (c : Dev nD) : iprop((bigSep Finset.univ fun x : Fin 10 × Fin 4 => (target (c, x)).elim BI.emp fun i => (dutyTok ER (recvCell i.1 i.2.1 i.2.2) 0 0 : sProp 𝕄))
      ∗ bigSep Finset.univ fun x : Fin 10 × Fin 4 => (dutyTok ER (sendCell c x.1 x.2) 0 0 : sProp 𝕄)) ⊢ bigSep Finset.univ (sendToks (F := F) c) := by
    rw [← bigSep_sep']
    refine bigSep_mono fun x _ => ?_
    unfold sendToks target
    dsimp only
    by_cases h : live (zOf c) x.1 x.2 = true
    · rw [if_pos h, if_pos h]
      show iprop(dutyTok ER (destCell c x.1 x.2) 0 0 ∗ dutyTok ER (sendCell c x.1 x.2) 0 0) ⊢ (_ : sProp 𝕄)
      iintro ⟨H1, H2⟩
      isplitl [H2] <;> iassumption
    · rw [if_neg h, if_neg h]
      show iprop((iprop(emp) : sProp 𝕄) ∗ dutyTok ER (sendCell c x.1 x.2) 0 0) ⊢ (iprop(emp) : sProp 𝕄)
      iintro -
      iempintro
  unfold tokens
  rw [bigSep_map, bigSep_univ_prod]
  have e (c : Dev nD) : (bigSep Finset.univ fun x : TokIx => (dutyTok ER (tokAt (c, x)).1 (tokAt (c, x)).2.1 (tokAt (c, x)).2.2 : sProp 𝕄))
      = iprop((bigSep Finset.univ fun y : Fin 2 × Fin 16 => dutyTok ER (recvCell c y.1 y.2) 0 0)
        ∗ (bigSep Finset.univ fun x : Fin 10 × Fin 4 => dutyTok ER (sendCell c x.1 x.2) 0 0) ∗ bigSep Finset.univ fun d : Fin 4 => dutyTok ER (barCell c) 0 d) := by
    rw [bigSep_univ_sum, bigSep_univ_sum]
    rfl
  rw [show (bigSep Finset.univ fun c : Dev nD => bigSep Finset.univ fun x : TokIx =>
    (dutyTok ER ((⟨tokAt, tokAt_inj⟩ : Dev nD × TokIx ↪ _) (c, x)).1 ((⟨tokAt, tokAt_inj⟩ : Dev nD × TokIx ↪ _) (c, x)).2.1 ((⟨tokAt, tokAt_inj⟩ : Dev nD × TokIx ↪ _) (c, x)).2.2 : sProp 𝕄)) = _
    from bigSep_congr fun c _ => e c, bigSep_sep', bigSep_sep', bigSep_sep']
  iintro ⟨H1, H2, H3⟩
  isplitl [H3]; · iapply kb; iexact H3
  ihave H1' := kr $$ H1
  have kf : iprop((bigSep Finset.univ fun c : Dev nD => bigSep Finset.univ fun x : Fin 10 × Fin 4 => (target (c, x)).elim BI.emp fun i => (dutyTok ER (recvCell i.1 i.2.1 i.2.2) 0 0 : sProp 𝕄))
      ∗ bigSep Finset.univ fun c : Dev nD => bigSep Finset.univ fun x : Fin 10 × Fin 4 => (dutyTok ER (sendCell c x.1 x.2) 0 0 : sProp 𝕄))
      ⊢ bigSep Finset.univ fun c : Dev nD => bigSep Finset.univ (sendToks (F := F) c) := by
    rw [← bigSep_sep']; exact bigSep_mono fun c _ => ks c
  iapply kf
  isplitl [H1'] <;> iassumption

/-! ## All of it -/

theorem disjoint_cells : Disjoint (barCells : Finset (GSem nD τ sig)) ownCells := by
  rw [Finset.disjoint_left]
  intro g h1 h2
  obtain ⟨c, -, rfl⟩ := Finset.mem_map.mp h1
  obtain ⟨x, -, h⟩ := Finset.mem_map.mp h2
  have e : ownSem x.2 = .reg barS := congrArg Prod.snd h
  unfold ownSem at e
  cases e

/-- What stays with one device. -/
def mine (c : Dev nD) : sProp 𝕄 :=
  iprop(atPos ER (barCell c) 0 ∅ 0 ∗ (bigSep Finset.univ fun i : Fin 72 => openTok ER ((c : Thread nD τ), ownSem i))
    ∗ ((bigSep Finset.univ fun d : Fin 4 => dutyTok ER (barCell (toward d c)) 0 (opp d)) ∗ bigSep Finset.univ (sendToks (F := F) c))
    ∗ Pipeline.launchCred owed c)

theorem dealt_one (K : GSem nD τ sig → ℕ) (c : Dev nD) :
    iprop((recs I K ∗ bigSep barCells fun g => reached ER g 0) ∗ mine (F := F) c)
    ⊢ iprop(∃ K, heldBy I K c ∗ bigSep Finset.univ fun i : Fin 72 => openTok ER ((c : Thread nD τ), ownSem i)) := by
  have kb : iprop((bigSep barCells fun g => (reached ER g 0 : sProp 𝕄)) ∗ bigSep Finset.univ fun d : Fin 4 => dutyTok ER (barCell (toward d c)) 0 (opp d))
      ⊢ bigSep Finset.univ (barTok (F := F) c) := by
    refine bigSep_with_persistent fun d _ => ?_
    have kd : (bigSep barCells fun g => (reached ER g 0 : sProp 𝕄)) ⊢ reached ER (barCell (toward d c)) 0 :=
      bigSep_elim (Finset.mem_map_of_mem barEmb (Finset.mem_univ _))
    show iprop((bigSep barCells fun g => (reached ER g 0 : sProp 𝕄)) ∗ dutyTok ER (barCell (toward d c)) 0 (opp d)) ⊢ barTok (F := F) c d
    unfold barTok
    iintro ⟨HR, H⟩
    isplitl [H]; · iexact H
    iapply kd; iexact HR
  unfold mine heldBy
  iintro ⟨⟨#HR, #Hr⟩, Ha, Ho, ⟨Hb, Hs⟩, Hc⟩
  ihave Hc' := (creds (F := F) c) $$ Hc
  icases Hc' with ⟨H4, Hv⟩
  iexists K
  isplitr [Ho]
  · isplitr; · iexact HR
    isplitl [Ha]; · iexact Ha
    isplitl [Hb]
    · iapply kb
      isplitr; · iexact Hr
      iexact Hb
    isplitl [Hs]; · iexact Hs
    isplitl [Hv] <;> iassumption
  iexact Ho

theorem deal : iprop((bigSep Finset.univ fun c : Dev nD => (semVal (barCell c) 0 : sProp 𝕄)) ∗ BI.own (ER (launchOf barCells ownCells tokens))
      ∗ (bigSep Finset.univ fun c : Dev nD => Pipeline.launchCred owed c) ∗ levAts L lv)
    ⊢ iprop(|={Set.univ}=> bigSep Finset.univ fun c : Dev nD =>
      iprop(∃ K, heldBy I K c ∗ bigSep Finset.univ fun i : Fin 72 => openTok ER ((c : Thread nD τ), ownSem i))) := by
  have hv : bigSep Finset.univ (fun c : Dev nD => (semVal (barCell c) 0 : sProp 𝕄)) ⊢ bigSep barCells (fun g => (semVal g 0 : sProp 𝕄)) := by
    unfold barCells; rw [bigSep_map]; exact BI.Entails.refl _
  have hat : bigSep barCells (fun g => (atPos ER g 0 ∅ 0 : sProp 𝕄)) ⊢ bigSep Finset.univ (fun c : Dev nD => (atPos ER (barCell c) 0 ∅ 0 : sProp 𝕄)) := by
    unfold barCells; rw [bigSep_map]; exact BI.Entails.refl _
  have ho : bigSep ownCells (fun g => (openTok ER g : sProp 𝕄))
      ⊢ bigSep Finset.univ (fun c : Dev nD => bigSep Finset.univ fun i : Fin 72 => openTok ER ((c : Thread nD τ), ownSem i)) := by
    unfold ownCells; rw [bigSep_map, bigSep_univ_prod]; exact BI.Entails.refl _
  iintro ⟨Hv, Hu, Hc, #Hl⟩
  imod (Rounds.fund_launch ER (sched I) disjoint_cells (fun g _ h => h) tokens) $$ [Hv Hu] with ⟨%κ, -, #Hi, #Hr, Ha, Ho, Ht⟩
  · isplitl [Hv]
    · iapply hv; iexact Hv
    iexact Hu
  imodintro
  iapply (bigSep_with_persistent (R := iprop(recs I κ ∗ bigSep barCells fun g => reached ER g 0)) (Φ := fun c => mine (F := F) c) fun c _ => dealt_one I κ c)
  isplitr
  · unfold recs
    isplitr
    · isplitr; · iexact Hi
      iexact Hl
    iexact Hr
  unfold mine
  rw [bigSep_sep', bigSep_sep', bigSep_sep']
  isplitl [Ha]; · iapply hat; iexact Ha
  isplitl [Ho]; · iapply ho; iexact Ho
  isplitl [Ht]; · iapply tokens_dealt; iexact Ht
  iexact Hc

end Gather

end
-- ==== Proof.Run.lean ====
module

public import proofs.«01_k».proof.Proof.Open
public import proofs.«01_k».proof.Proof.Deal
public import Idealize.ShloMosaic.Lib.Quiescent

/-! # The run of the whole program -/

@[expose] public section

set_option maxRecDepth 20000

noncomputable section

namespace Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What is held between the statements -/

/-- What a device holds beside its buffers before the call. -/
def beside (c : Dev nD) : sProp 𝕄 :=
  iprop(waits0 (inp m) c ∗ (∃ r, prngReg c r) ∗ ∃ W, owes (c : Thread nD τ) (owed c) W)
/-- … and after it. -/
def besideAfter (c : Dev nD) : sProp 𝕄 :=
  iprop(semVal (barCell c) 0 ∗ ∃ W, owes (c : Thread nD τ) (0 : CellTallies nD τ sig Unit) W)
def rest (k : Fin 2) (c : Dev nD) : sProp 𝕄 := if k = 0 then beside m c else besideAfter (F := F) c

theorem arr_plain : ∀ w : Fin 6, ¬(Proc.devRef .tc (Pipeline.arrRef spec0 w) : DevRef τ sig).isScoped = true := by decide
theorem arr_unscoped : Pipeline.arrRefs (τ := τ) (pcfgs (F := F) 0).spec ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, arr_plain w⟩

theorem enter_call (c : Dev nD) : iprop(StableHlo.held (c : Thread nD τ) (Pipeline.ucRefs τ sig) (V1 m c) ∗ rest m 0 c) ⊢ (call m).pre c := by
  show _ ⊢ iprop(StableHlo.held (c : Thread nD τ) (Pipeline.arrRefs (pcfgs (F := F) 0).spec) (V1 m c) ∗ (∃ r, prngReg c r)
    ∗ (StableHlo.held (c : Thread nD τ) (others (F := F)) (V1 m c) ∗ emp) ∗ waits0 (inp m) c ∗ ∃ Wd, owes (c : Thread nD τ) (0 + owed c) Wd)
  rw [StableHlo.held_sub_split (c : Thread nD τ) (arr_unscoped (F := F)) (V1 m c), show rest m 0 c = beside m c from if_pos rfl, zero_add]
  unfold beside
  iintro ⟨⟨Ha, Hr⟩, Hw, Hp, HO⟩
  isplitl [Ha]; · iexact Ha
  isplitl [Hp]; · iexact Hp
  isplitl [Hr]
  · isplitl [Hr]; · iexact Hr
    iempintro
  isplitl [Hw] <;> iassumption

theorem leave_call (c : Dev nD) : (call m).post c ⊢ iprop(StableHlo.held (c : Thread nD τ) (Pipeline.ucRefs τ sig) (V2 m (outs m) c) ∗ rest m 1 c) := by
  show iprop(StableHlo.held (c : Thread nD τ) (Pipeline.arrRefs (pcfgs (F := F) 0).spec) (V2 m (outs m) c) ∗ (∃ r, prngReg c r)
    ∗ (StableHlo.held (c : Thread nD τ) (others (F := F)) (V2 m (outs m) c) ∗ emp) ∗ semVal (barCell c) 0 ∗ ∃ Wd, owes (c : Thread nD τ) (0 : CellTallies nD τ sig Unit) Wd) ⊢ _
  rw [StableHlo.held_sub_split (c : Thread nD τ) (arr_unscoped (F := F)) (V2 m (outs m) c), show rest m 1 c = besideAfter (F := F) c from if_neg (by decide)]
  unfold besideAfter
  iintro ⟨Ha, -, ⟨Hr, -⟩, Hb, HO⟩
  isplitl [Ha Hr]; · isplitl [Ha] <;> iassumption
  isplitl [Hb] <;> iassumption

/-! ## The launch -/

theorem unscoped_one (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The protocol's ghost state, given to the first device to hand round. -/
def ghost (c : Dev nD) : sProp 𝕄 := if c = 0 then BI.own (ER (launchOf barCells ownCells tokens)) else iprop(emp)
theorem ghost_all : bigSep Finset.univ (ghost (F := F)) = BI.own (ER (launchOf barCells ownCells tokens)) := by
  rw [bigSep_univ_at (ghost (F := F)) 0, bigSep_congr (Ψ := fun _ => (BI.emp : sProp 𝕄)) (fun c hc => by
    unfold ghost; rw [if_neg (Finset.ne_of_mem_erase hc)]; rfl), bigSep_emp_const]
  unfold ghost; rw [if_pos rfl]
  exact BI.equiv_iff.mp sep_emp

def start : UU := (initOf (Pipeline.cells (Pipeline.pin (pcfgs (F := F)) adm) cellOf_inj) (Pipeline.launchToks (Pipeline.pin (pcfgs (F := F)) adm) cellOf_inj),
  launchOf barCells ownCells tokens)

theorem launch : iprop((bigSep Finset.univ fun c : Dev nD => iprop(unscopedSems0 c ∗ owes (c : Thread nD τ) (owed c) ∅ ∗ Pipeline.launchCred owed c ∗ prngReg c (ρ c) ∗ ghost c)) ∗ levAts L lv)
    ⊢ (|={Set.univ}=> bigSep Finset.univ (rest m 0) : sProp 𝕄) := by
  have e1 : (bigSep Finset.univ fun c : Dev nD => (unscopedSems0 c : sProp 𝕄)) = bigSep Finset.univ fun c : Dev nD => semVal (barCell c) 0 :=
    bigSep_congr fun c _ => unscoped_one c
  have ko : iprop((bigSep Finset.univ fun c : Dev nD => (waits0 (inp m) c : sProp 𝕄)) ∗ (bigSep Finset.univ fun c : Dev nD => owes (c : Thread nD τ) (owed c) ∅)
      ∗ bigSep Finset.univ fun c : Dev nD => prngReg c (ρ c)) ⊢ bigSep Finset.univ (rest m 0) := by
    rw [← bigSep_sep', ← bigSep_sep']
    refine bigSep_mono fun c _ => ?_
    show iprop(waits0 (inp m) c ∗ owes (c : Thread nD τ) (owed c) ∅ ∗ prngReg c (ρ c)) ⊢ rest m 0 c
    rw [show rest m 0 c = beside m c from if_pos rfl]
    unfold beside
    iintro ⟨Hw, HO, Hp⟩
    isplitl [Hw]; · iexact Hw
    isplitl [Hp]; · iexists (ρ c); iexact Hp
    iexists ∅; iexact HO
  have kd := deal (inp m)
  rw [bigSep_sep', bigSep_sep', bigSep_sep', bigSep_sep', ghost_all, e1]
  iintro ⟨⟨Hs, HO, Hc, Hp, Hg⟩, HL⟩
  imod kd $$ [Hs Hg Hc HL] with Hw
  · isplitl [Hs]; · iexact Hs
    isplitl [Hg]; · iexact Hg
    isplitl [Hc] <;> iassumption
  imodintro
  iapply ko
  isplitl [Hw]; · iexact Hw
  isplitl [HO] <;> iassumption

theorem unscoped_eq : ∀ sm : SemLoc sig, sm.isScoped .tc = false → sm = .reg barS := by decide

theorem read_arg (c : Dev nD) (r : Ref sig .tc) (s : MemSt nD τ sig (Elt F)) (W : Valuation τ sig (Elt F))
    (h : ∀ b ∈ Pipeline.ucRefs τ sig, s.mem ((c : Thread nD τ).1, b) = W b)
    (hr : (Proc.devRef .tc r : DevRef τ sig) ∈ Pipeline.ucRefs τ sig) : s.mem ((c : Thread nD τ).loc r) = W (Proc.devRef .tc r) := h _ hr

set_option backward.isDefEq.respectTransparency.types false in
/-- Every fair execution ends, with the arguments as launched, each device's result the sum its blocks
    accumulate, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v19) = (dat0 m c).arrAt 5 cfg0.N)
      ∧ r.2.sem = fun _ => 0) := by
  refine Pipeline.θ_run_regions_kit_dev_sems (pcfgs (F := F)) adm (pdats m) () cellOf_inj EP defs₀ 𝒱₀ L lv m ρ main
    (segs m 𝒱₀ L lv (rest m) () (pdats m) (call m))
    (fun c Q => by
      rewrite [main_chain c, Seg.run_eq_chain,
        show (segs m 𝒱₀ L lv (rest m) () (pdats m) (call m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) owed L_of_ne (ghost (F := F)) (start (F := F))
    (by
      unfold start
      iintro Hu
      ihave H := (ownU_pair _ _) $$ Hu
      icases H with ⟨HP, HX⟩
      imodintro
      isplitl [HP]; · iexact HP
      rw [ghost_all]; iexact HX)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V2 m (outs m) c) ∗ semVal (barCell c) 0))
    (hch := fun c => ⟨.rfl, enter_call m c, (leave_call m c).trans ?_⟩)
    (hinit := ?_)
    (QY := fun c s => (∀ b ∈ Pipeline.ucRefs τ sig, s.mem ((c : Thread nD τ).1, b) = V2 m (outs m) c b) ∧ s.sem (barCell c) = 0)
    (hfin := fun c s' => ?_) (hQ := fun s h hs => ⟨fun c => ?_, sem_eq_zero hs fun c sm hsm => ?_⟩)
  · rw [show rest m 1 c = besideAfter (F := F) c from if_neg (by decide)]
    unfold besideAfter
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (owed c) ∅ ∗ Pipeline.launchCred owed c ∗ prngReg c (ρ c) ∗ ghost (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed c) ∅ ∗ Pipeline.launchCred owed c ∗ prngReg c (ρ c) ∗ ghost (F := F) c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, HL⟩
    ihave H' := hsplit $$ H
    icases H' with ⟨Hh, Hr⟩
    imod (launch m ρ) $$ [Hr HL] with HE
    · isplitl [Hr] <;> iassumption
    imodintro
    rw [bigSep_sep']
    isplitl [Hh] <;> iassumption
  · unfold StableHlo.held
    iintro ⟨⟨Hh, Hb0⟩, HSI⟩
    icombine HSI Hb0 gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨h, by simpa using hb⟩
    iexact HSI
  · have hb := (h c).1
    have rd (r : Ref sig .tc) (hr : (Proc.devRef .tc r : DevRef τ sig) ∈ Pipeline.ucRefs τ sig) := read_arg c r s _ hb hr
    have u (r : Ref sig .tc) (hr : ¬(Proc.devRef .tc r : DevRef τ sig).isScoped) : (Proc.devRef .tc r : DevRef τ sig) ∈ Pipeline.ucRefs τ sig :=
      Finset.mem_filter.mpr ⟨StableHlo.devRef_mem_tcRefs r, hr⟩
    refine ⟨⟨(rd main_arg0 (u _ (by decide))).trans (V2_main_arg0 m (outs m) c), (rd main_arg1 (u _ (by decide))).trans (V2_main_arg1 m (outs m) c),
      (rd main_arg2 (u _ (by decide))).trans (V2_main_arg2 m (outs m) c), (rd main_arg3 (u _ (by decide))).trans (V2_main_arg3 m (outs m) c),
      (rd main_arg4 (u _ (by decide))).trans (V2_main_arg4 m (outs m) c)⟩, (rd main_v19 (u _ (by decide))).trans (arr_last m c 5).symm⟩
  · obtain rfl := unscoped_eq sm hsm
    exact (h c).2

end Gather

end
-- ==== Proof.Soft.lean ====
module

public import proofs.«01_k».proof.Proof.State
public import Idealize.ShloMosaic.Lib.Pointwise

/-! # Attention over the keys, at one query and one column

`soft s v` weighs the values `v` by the exponentials of the scores `s` less their largest, divided by their sum. A key whose
score is −∞ takes no part: the keys of the other batch, which the kernel holds in the same row, drop out. -/

@[expose] public section

set_option maxRecDepth 16384

noncomputable section

namespace Gather

open Idealize.ShloMosaic

/-- The largest score. -/
def top {ι : Type} [Fintype ι] (s : ι → EReal) : EReal := Finset.univ.fold max ⊥ s
/-- The weighted sum of the values. -/
def soft {ι : Type} [Fintype ι] (s v : ι → EReal) : EReal :=
  ∑ j, Ideal.div (Ideal.exp (s j - top s)) (∑ k, Ideal.exp (s k - top s)) * v j

theorem top_eq_sup {ι : Type} [Fintype ι] (s : ι → EReal) : top s = Finset.univ.sup s := rfl

theorem exp_low (x : EReal) : Ideal.exp (⊥ - x) = 0 := by
  rw [sub_eq_add_neg, EReal.bot_add]; rfl
theorem exp_nonneg (x : EReal) : 0 ≤ Ideal.exp x := by
  induction x using EReal.rec with
  | bot => exact le_refl _
  | coe r => exact EReal.coe_nonneg.mpr (Real.exp_pos r).le
  | top => exact le_top
theorem zero_share (y v : EReal) (h : y ≠ 0) : Ideal.div 0 y * v = 0 := by
  unfold Ideal.div; rw [if_neg h, zero_mul, zero_mul]

theorem bits_low : Ideal.ofBits .f32 4286578688#32 = ⊥ := by
  simp [Ideal.ofBits, Ideal.ieee]

/-! ## Real values -/

/-- A value that is neither infinity. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {ι : Type} [Fintype ι] {f : ι → EReal} (h : ∀ i, IsReal (f i)) : IsReal (∑ i, f i) :=
  Finset.sum_induction f IsReal (fun _ _ => IsReal.add) ⟨0, rfl⟩ fun i _ => h i
theorem IsReal.of {x : EReal} (h1 : x < ⊤) (h2 : ⊥ < x) : IsReal x := by
  induction x using EReal.rec with
  | bot => exact absurd h2 (lt_irrefl _)
  | coe r => exact ⟨r, rfl⟩
  | top => exact absurd h1 (lt_irrefl _)
theorem eighth_real : IsReal (Ideal.ofBits .f32 1040187392#32) := by
  refine ⟨1 / 8, ?_⟩
  simp [Ideal.ofBits, Ideal.ieee, -EReal.coe_mul]; norm_num

/-! ## Keys that take no part -/

section
variable {ι κ : Type} [Fintype ι] [Fintype κ] [DecidableEq ι]

/-- The weights do not sum to zero when some score is real and none is +∞. -/
theorem weights_ne_zero (s : κ → EReal) (hr : ∀ j, s j = ⊥ ∨ IsReal (s j)) (j₀ : κ) (h₀ : IsReal (s j₀)) :
    ∑ k, Ideal.exp (s k - top s) ≠ 0 := by
  obtain ⟨j, -, hj⟩ := Finset.exists_mem_eq_sup (Finset.univ : Finset κ) ⟨j₀, Finset.mem_univ _⟩ s
  have hle : s j₀ ≤ top s := by rw [top_eq_sup]; exact Finset.le_sup (Finset.mem_univ j₀)
  rw [← top_eq_sup] at hj
  have hs : IsReal (s j) := by
    rcases hr j with h | h
    · obtain ⟨r, hr'⟩ := h₀
      rw [hj, h, hr'] at hle
      exact absurd (le_bot_iff.mp hle) (EReal.coe_ne_bot r)
    · exact h
  have h1 : Ideal.exp (s j - top s) = 1 := by
    rw [hj]; obtain ⟨r, hr'⟩ := hs; rw [hr', ← EReal.coe_sub, sub_self]
    show ((Real.exp 0 : ℝ) : EReal) = 1
    rw [Real.exp_zero]; rfl
  have h2 : Ideal.exp (s j - top s) ≤ ∑ k, Ideal.exp (s k - top s) :=
    Finset.single_le_sum (f := fun k => Ideal.exp (s k - top s)) (fun k _ => exp_nonneg _) (Finset.mem_univ j)
  rw [h1] at h2
  intro h; rw [h] at h2
  exact absurd h2 (by exact_mod_cast (by norm_num : ¬ (1 : ℝ) ≤ 0))

/-- Keys outside the image of `e`, all at −∞, drop out. -/
theorem soft_image (e : κ → ι) (he : Function.Injective e) (s v : ι → EReal) (s' v' : κ → EReal)
    (hs : ∀ j, s (e j) = s' j) (hv : ∀ j, v (e j) = v' j) (ho : ∀ i, i ∉ Set.range e → s i = ⊥)
    (hr : ∀ j, s' j = ⊥ ∨ IsReal (s' j)) (j₀ : κ) (h₀ : IsReal (s' j₀)) : soft s v = soft s' v' := by
  have ht : top s = top s' := by
    rw [top_eq_sup, top_eq_sup]
    refine le_antisymm (Finset.sup_le fun i _ => ?_) (Finset.sup_le fun j _ => ?_)
    · by_cases hi : i ∈ Set.range e
      · obtain ⟨j, rfl⟩ := hi; rw [hs]; exact Finset.le_sup (Finset.mem_univ j)
      · rw [ho i hi]; exact bot_le
    · rw [← hs]; exact Finset.le_sup (Finset.mem_univ (e j))
  have hw : ∑ k, Ideal.exp (s k - top s) = ∑ k, Ideal.exp (s' k - top s') := by
    refine (Fintype.sum_of_injective e he _ _ (fun i hi => ?_) fun j => ?_).symm
    · rw [ho i hi, exp_low]
    · rw [hs, ht]
  unfold soft
  refine (Fintype.sum_of_injective e he _ _ (fun i hi => ?_) fun j => ?_).symm
  · rw [ho i hi, exp_low]
    exact zero_share _ _ (by rw [hw]; exact weights_ne_zero s' hr j₀ h₀)
  · rw [hs, hv, hw, ht]
end

/-! ## One head at one query -/

/-- Query `i`'s output in one column: `q` its query vector, `k` the keys, `v` the column of the values. A key of a later
block of 64 has score −∞. -/
def head (q : Fin 64 → EReal) (k : Fin 128 → Fin 64 → EReal) (v : Fin 128 → EReal) (i : ℕ) : EReal :=
  soft (fun j : Fin 128 => if j.val / 64 ≤ i / 64 then (∑ e, q e * k j e) * Ideal.ofBits .f32 1040187392#32 else ⊥) v

/-- The same over the keys of two batches, of which those of batch `b` count. -/
theorem head_of_both (q : Fin 64 → EReal) (k : Fin 2 → Fin 128 → Fin 64 → EReal) (v : Fin 2 → Fin 128 → EReal) (b : Fin 2) (i : Fin 128)
    (hq : ∀ e, IsReal (q e)) (hk : ∀ j e, IsReal (k b j e)) (s w : Fin 256 → EReal)
    (hs : ∀ j : Fin 256, s j = if b.val = j.val / 128 ∧ j.val % 128 / 64 ≤ i.val / 64 then
      (∑ e, q e * k ⟨j.val / 128, by omega⟩ ⟨j.val % 128, by omega⟩ e) * Ideal.ofBits .f32 1040187392#32 else ⊥)
    (hw : ∀ j : Fin 256, w j = v ⟨j.val / 128, by omega⟩ ⟨j.val % 128, by omega⟩) :
    soft s w = head q (k b) (v b) i.val := by
  have hb : ∀ j : Fin 128, (⟨(b.val * 128 + j.val) / 128, by omega⟩ : Fin 2) = b := fun j => Fin.ext (by simp only; omega)
  have hj : ∀ j : Fin 128, (⟨(b.val * 128 + j.val) % 128, by omega⟩ : Fin 128) = j := fun j => Fin.ext (by simp only; omega)
  have hR : ∀ j : Fin 128, IsReal ((∑ e, q e * k b j e) * Ideal.ofBits .f32 1040187392#32) := fun j =>
    (IsReal.sum fun e => (hq e).mul (hk j e)).mul eighth_real
  refine soft_image (fun j : Fin 128 => (⟨b.val * 128 + j.val, by omega⟩ : Fin 256)) (fun x y h => ?_) s w _ _ (fun j => ?_) (fun j => ?_)
    (fun x hx => ?_) (fun j => ?_) (0 : Fin 128) ?_
  · have := congrArg Fin.val h; simp only at this; exact Fin.ext (by omega)
  · rw [hs]; simp only [hb, hj]
    have e1 : b.val = (b.val * 128 + j.val) / 128 := by omega
    have e2 : (b.val * 128 + j.val) % 128 = j.val := by omega
    rw [e2]; simp only [← e1, true_and]
  · rw [hw]; simp only [hb, hj]
  · rw [hs]; refine if_neg fun h => hx ⟨⟨x.val % 128, by omega⟩, Fin.ext ?_⟩
    simp only; omega
  · by_cases h : j.val / 64 ≤ i.val / 64
    · right; simp only [if_pos h]; exact hR j
    · left; simp only [if_neg h]
  · rw [if_pos (by show 0 / 64 ≤ _; omega)]; exact hR 0

end Gather
-- ==== Proof.Chunk.lean ====
module

public import proofs.«01_k».proof.Proof.Soft

/-! # One slot's product at an index

Slot `o` holds four heads. What its product adds to the result is, over the four heads and their 64 columns, the head's output
times the matching row of the output weights. -/

@[expose] public section

set_option maxRecDepth 16384

noncomputable section

namespace Gather

open Idealize.ShloMosaic
open Cert.KernelIdeal

/-- Rows and columns of the mask: the batches agree and the key's block is not a later one. -/
theorem mask_at : ∀ r c : Fin 256, maskV (ix2 r c) = if r.val / 128 = c.val / 128 ∧ c.val % 128 / 64 ≤ r.val % 128 / 64 then 1#1 else 0#1 := by
  unfold maskV
  pointwise [Gen.k0_pay182, Gen.k0_pay178, Gen.k0_pay176, Gen.k0_pay177, Gen.k0_pay179, Gen.k0_pay180, Gen.k0_pay181]
  decide +kernel

theorem mask_select (r c : Fin 256) (x y : EReal) :
    Scalar.select (maskV (ix2 r c)) x y = if r.val / 128 = c.val / 128 ∧ c.val % 128 / 64 ≤ r.val % 128 / 64 then x else y := by
  rw [mask_at]
  by_cases h : r.val / 128 = c.val / 128 ∧ c.val % 128 / 64 ≤ r.val % 128 / 64
  · rw [if_pos h, if_pos h]; rfl
  · rw [if_neg h, if_neg h]; rfl

theorem named_low : (Named.named κ "mask" (φ := .f32) 3463342888#32 : Ideal .f32) = ⊥ := rfl

/-- The query of row `r` of head `h`. -/
def queryOf (x : FVec Ideal S256x512 .bf16) (q : FVec Ideal S512x256 .bf16) (h : Fin 4) (r : Fin 256) (e : Fin 64) : EReal :=
  ∑ n : Fin 512, x (ix2 r n) * q (ix2 n ⟨64 * h.val + e.val, by omega⟩)

theorem ctx_at (x : FVec Ideal S256x512 .bf16) (q : FVec Ideal S512x256 .bf16) (kt vt : S4x2x128x64.Idx → Ideal .f32)
    (h : Fin 4) (r : Fin 256) (d : Fin 64) :
    Gen.k0_pay187 maskV x q kt vt (ix3 h r d) =
      soft (fun j : Fin 256 => if r.val / 128 = j.val / 128 ∧ j.val % 128 / 64 ≤ r.val % 128 / 64 then
          (∑ e, queryOf x q h r e * kt (ix4 h ⟨j.val / 128, by omega⟩ ⟨j.val % 128, by omega⟩ e)) * Ideal.ofBits .f32 1040187392#32 else ⊥)
        (fun j => vt (ix4 h ⟨j.val / 128, by omega⟩ ⟨j.val % 128, by omega⟩ d)) := by
  have hq : ∀ e : Fin 64, (if _ : h.val < 1 then ∑ n, x (ix2 r n) * q (ix2 n ⟨e.val, by omega⟩)
      else if _ : h.val - 1 < 1 then ∑ n, x (ix2 r n) * q (ix2 n ⟨64 + e.val, by omega⟩)
      else if _ : h.val - 1 - 1 < 1 then ∑ n, x (ix2 r n) * q (ix2 n ⟨128 + e.val, by omega⟩)
      else ∑ n, x (ix2 r n) * q (ix2 n ⟨192 + e.val, by omega⟩) : EReal) = queryOf x q h r e := by
    intro e; unfold queryOf
    fin_cases h <;> simp
  pointwise [Gen.k0_pay187]
  simp only [mask_select, named_low, bits_low]
  simp only [hq]
  rfl

theorem out_at (x : FVec Ideal S4x256x64 .f32) (o : FVec Ideal S256x512 .bf16) (p : S2x128x512.Idx → Ideal .f32) (b : Fin 2) (i : Fin 128) (n : Fin 512) :
    Gen.k0_pay189 x (Gen.k0_pay188 o) p (ix3 b i n) =
      p (ix3 b i n) + ∑ h : Fin 4, ∑ d : Fin 64, x (ix3 h ⟨b.val * 128 + i.val, by omega⟩ d) * o (ix2 ⟨h.val * 64 + d.val, by omega⟩ n) := by
  pointwise [Gen.k0_pay189, Gen.k0_pay188]

theorem rows_at (x : S2x128x512.Idx → Ideal .f32) (r : Fin 256) (n : Fin 512) :
    (Gen.k0_pay183 x : FVec Ideal S256x512 .bf16) (ix2 r n) = x (ix3 ⟨r.val / 128, by omega⟩ ⟨r.val % 128, by omega⟩ n) := by
  pointwise [Gen.k0_pay183]

theorem zero_at (b : Fin 2) (i : Fin 128) (n : Fin 512) : (Gen.k0_pay184 : FVec Ideal S2x128x512 .f32) (ix3 b i n) = 0 := by
  pointwise [Gen.k0_pay184]

end Gather
-- ==== Proof.Slot.lean ====
module

public import proofs.«01_k».proof.Proof.Chunk

/-! # What one slot adds to the result -/

@[expose] public section

set_option maxRecDepth 16384

noncomputable section

namespace Gather

open Idealize.ShloMosaic
open Cert.KernelIdeal

/-- What one slot adds. -/
def slotTerm (x : S2x128x512.Idx → Ideal .f32) (q : S512x256.Idx → Ideal .bf16) (o : S256x512.Idx → Ideal .bf16)
    (kt vt : S4x2x128x64.Idx → Ideal .f32) (b : Fin 2) (i : Fin 128) (n : Fin 512) : EReal :=
  ∑ h : Fin 4, ∑ d : Fin 64,
    head (fun e => ∑ k : Fin 512, x (ix3 b i k) * q (ix2 k ⟨64 * h.val + e.val, by omega⟩)) (fun j e => kt (ix4 h b j e))
      (fun j => vt (ix4 h b j d)) i.val * o (ix2 ⟨h.val * 64 + d.val, by omega⟩ n)

theorem chunk_at (x : S2x128x512.Idx → Ideal .f32) (q : S512x256.Idx → Ideal .bf16) (o : S256x512.Idx → Ideal .bf16)
    (kt vt : S4x2x128x64.Idx → Ideal .f32) (p : S2x128x512.Idx → Ideal .f32) (b : Fin 2) (i : Fin 128) (n : Fin 512)
    (hx : ∀ j, IsReal (x j)) (hq : ∀ j, IsReal (q j)) (hk : ∀ j, IsReal (kt j)) :
    (chunkVal (F := Ideal) x q o kt vt p (ix3 b i n) : EReal) = (p (ix3 b i n) : EReal) + slotTerm x q o kt vt b i n := by
  unfold chunkVal slotTerm
  refine (out_at _ _ _ b i n).trans ?_
  refine congrArg (fun t : EReal => (p (ix3 b i n) : EReal) + t) (Finset.sum_congr rfl fun h _ => Finset.sum_congr rfl fun d _ => congrArg (· * _) ?_)
  rw [ctx_at]
  have hr : (b.val * 128 + i.val) / 128 = b.val := by omega
  have hm : (b.val * 128 + i.val) % 128 = i.val := by omega
  have hqe : ∀ e, queryOf (Gen.k0_pay183 x) q h ⟨b.val * 128 + i.val, by omega⟩ e = ∑ k : Fin 512, x (ix3 b i k) * q (ix2 k ⟨64 * h.val + e.val, by omega⟩) := by
    intro e; unfold queryOf; refine Finset.sum_congr rfl fun k _ => ?_
    rw [rows_at]; simp only [hr, hm]
  refine head_of_both (fun e => ∑ k : Fin 512, x (ix3 b i k) * q (ix2 k ⟨64 * h.val + e.val, by omega⟩)) (fun b j e => kt (ix4 h b j e))
    (fun b j => vt (ix4 h b j d)) b i (fun e => IsReal.sum fun k => (hx _).mul (hq _)) (fun j e => hk _) _ _ (fun j => ?_) (fun j => rfl)
  simp only [hqe, hr, hm]

end Gather
-- ==== Proof.Total.lean ====
module

public import proofs.«01_k».proof.Proof.Slot

/-! # The whole result of a device

Each of the sixteen slots is multiplied at one step of the script, so the result is the sum over the slots of what each adds. -/

@[expose] public section

set_option maxRecDepth 16384

noncomputable section

namespace Gather

open Idealize.ShloMosaic
open Cert.KernelIdeal

theorem chunk_step : ∀ z zp k : Fin 4, At z (pos z (.chunk zp k)) (.chunk zp k) ∧ pos z (.chunk zp k) < 180 := by decide +kernel

theorem chunkAt_iff (z : Fin 4) (n : ℕ) (p : Fin 4 × Fin 4) : chunkAt z n = some p ↔ n = pos z (.chunk p.1 p.2) := by
  constructor
  · intro h
    have := List.find?_some h
    simpa using (eq_of_beq this).symm
  · rintro rfl
    exact chunkAt_some (chunk_step z p.1 p.2).1

theorem slot_bijective : ∀ c : Dev nD, Function.Bijective fun p : Fin 4 × Fin 4 => slotOf c p.1 p.2 := by
  intro c
  rw [Fintype.bijective_iff_injective_and_card]
  refine ⟨?_, by decide⟩
  revert c; unfold Function.Injective; decide +kernel

/-- What step `n` adds, when slot `o` adds `T o`. -/
def stepAdds (c : Dev nD) (T : Fin 16 → EReal) (n : ℕ) : EReal :=
  match chunkAt (zOf c) n with
  | none => 0
  | some (zp, k) => T (slotOf c zp k)

theorem stepAdds_eq (c : Dev nD) (T : Fin 16 → EReal) (n : ℕ) :
    stepAdds c T n = ∑ p : Fin 4 × Fin 4, if n = pos (zOf c) (.chunk p.1 p.2) then T (slotOf c p.1 p.2) else 0 := by
  simp only [← chunkAt_iff]
  unfold stepAdds
  cases chunkAt (zOf c) n with
  | none => simp
  | some q => simp [eq_comm]

theorem steps_sum (c : Dev nD) (T : Fin 16 → EReal) : ∑ n ∈ Finset.range 180, stepAdds c T n = ∑ o, T o := by
  simp only [stepAdds_eq]
  rw [Finset.sum_comm, ← (slot_bijective c).sum_comp T]
  refine Finset.sum_congr rfl fun p _ => ?_
  rw [Finset.sum_ite_eq' , if_pos (Finset.mem_range.2 (chunk_step _ _ _).2)]

theorem heads_at (o : Fin 16) (f : S64x2x128x64.Idx → Ideal .f32) (h : Fin 4) (b : Fin 2) (j : Fin 128) (e : Fin 64) :
    heads (F := Ideal) o f (ix4 h b j e) = f (ix4 ⟨4 * o.val + h.val, by omega⟩ b j e) := by
  unfold heads
  refine congrArg f (funext fun a => ?_)
  match a with
  | ⟨0, _⟩ => rfl
  | ⟨1, _⟩ => rfl
  | ⟨2, _⟩ => rfl
  | ⟨3, _⟩ => rfl

variable (I : Inp Ideal)

/-- What slot `o` adds to device `c`'s result. -/
def slotOn (c : Dev nD) (b : Fin 2) (i : Fin 128) (n : Fin 512) (o : Fin 16) : EReal :=
  slotTerm (I.x c) (I.wq o) (I.wo o) (heads o (I.kt c)) (heads o (I.vt c)) b i n

theorem acc_at (c : Dev nD) (hx : ∀ j, IsReal (I.x c j)) (hq : ∀ o j, IsReal (I.wq o j)) (hk : ∀ j, IsReal (I.kt c j))
    (b : Fin 2) (i : Fin 128) (n : Fin 512) (t : ℕ) :
    (acc I c t (ix3 b i n) : EReal) = ∑ s ∈ Finset.range t, stepAdds c (slotOn I c b i n) s := by
  induction t with
  | zero => rw [Finset.sum_range_zero]; exact zero_at b i n
  | succ t ih =>
    rw [Finset.sum_range_succ, ← ih]
    unfold stepAdds
    rw [acc]
    cases chunkAt (zOf c) t with
    | none => exact (add_zero _).symm
    | some p => exact chunk_at _ _ _ _ _ _ b i n hx (hq _) fun j => hk _

/-- The result of a device at an index. -/
theorem total_at (c : Dev nD) (hx : ∀ j, IsReal (I.x c j)) (hq : ∀ o j, IsReal (I.wq o j)) (hk : ∀ j, IsReal (I.kt c j))
    (b : Fin 2) (i : Fin 128) (n : Fin 512) :
    (acc I c 180 (ix3 b i n) : EReal) = ∑ o, slotOn I c b i n o :=
  (acc_at I c hx hq hk b i n 180).trans (steps_sum c _)

end Gather
-- ==== Proof.RefVal.lean ====
module

public import proofs.«01_k».proof.Proof.Soft
public import proofs.«01_k».proof.Proof.Gen.ReferenceIdeal.Run
public import Idealize.ShloMosaic.Lib.Pointwise
public import Idealize.ShloMosaic.Lib.Tactic.CleanTypes

/-! # The reference's result at an index -/

@[expose] public section

set_option maxRecDepth 16384

noncomputable section

namespace Gather

open Idealize.ShloMosaic
open Idealize.ShloMosaic.TcCoe
open Cert.ReferenceIdeal

theorem word64 : id (constantI S_ 32 64#32) ix0 = 64#32 := rfl
theorem const_low : (id (constant (F := Ideal) S_ .f32 4286578688#32) ix0 : EReal) = ⊥ := bits_low

/-- The block of a position, as the reference computes it. -/
def blockWord (j : Fin 128) : BitVec 32 :=
  Scalar.select (IntOp.andi (IntOp.cmpi .ne (if BitVec.ofNat 32 j.val = 0 then 0 else if (BitVec.ofNat 32 j.val).msb = true then -1 else 1 : BitVec 32)
      (if (64#32 : BitVec 32) = 0 then 0 else if (64#32 : BitVec 32).msb = true then -1 else 1))
      (IntOp.cmpi .ne (IntOp.remsi .host (BitVec.ofNat 32 j.val) 64#32) 0#32))
    (IntOp.subi (IntOp.divsi .host (BitVec.ofNat 32 j.val) 64#32) 1#32) (IntOp.divsi .host (BitVec.ofNat 32 j.val) 64#32)

/-- Whether position `i` looks at position `j`. -/
def lookWord (j i : Fin 128) : BitVec 1 := IntOp.cmpi .sle (blockWord j) (blockWord i)

theorem look_word : ∀ j i : Fin 128, lookWord j i = if j.val / 64 ≤ i.val / 64 then 1#1 else 0#1 := by decide +kernel

theorem some_block : ∀ i : Fin 128, Finset.fold IntOp.ori 0#1 (fun j : Fin 128 => if j.val / 64 ≤ i.val / 64 then 1#1 else 0#1) Finset.univ = 1#1 := by
  decide +kernel

theorem select_ite (p : Prop) [Decidable p] (x y : EReal) : Scalar.select (if p then 1#1 else 0#1) x y = if p then x else y := by
  split <;> rfl
theorem select_one (x y : EReal) : Scalar.select 1#1 x y = x := rfl

/-- One row's weights as the reference computes them, from the scores `s`. -/
def refSoft (i : Fin 128) (s v : Fin 128 → EReal) : EReal :=
  ∑ j, v j * Scalar.select (Finset.fold IntOp.ori 0#1 (fun j => lookWord j i) Finset.univ)
    (Ideal.div (Ideal.exp (Scalar.select (lookWord j i) (s j) (id (constant (F := Ideal) S_ .f32 4286578688#32) ix0)
        - Finset.fold max (Ideal.ofBits .f32 4286578688#32) (fun j => Scalar.select (lookWord j i) (s j) (id (constant (F := Ideal) S_ .f32 4286578688#32) ix0)) Finset.univ))
      (Scalar.select (Finset.fold IntOp.ori 0#1 (fun j => lookWord j i) Finset.univ)
        (∑ j, Ideal.exp (Scalar.select (lookWord j i) (s j) (id (constant (F := Ideal) S_ .f32 4286578688#32) ix0)
          - Finset.fold max (Ideal.ofBits .f32 4286578688#32) (fun j => Scalar.select (lookWord j i) (s j) (id (constant (F := Ideal) S_ .f32 4286578688#32) ix0)) Finset.univ))
        (id (constant (F := Ideal) S_ .f32 1065353216#32) ix0)))
    (id (constant (F := Ideal) S_ .f32 0#32) ix0)

theorem refSoft_eq (i : Fin 128) (s v : Fin 128 → EReal) :
    refSoft i s v = soft (fun j => if j.val / 64 ≤ i.val / 64 then s j else ⊥) v := by
  unfold refSoft soft top
  simp only [look_word, some_block, const_low, bits_low, select_ite, select_one]
  exact Finset.sum_congr rfl fun j _ => mul_comm _ _

/-- The reference at an index, over whole arrays. -/
def refAt (X : S32x128x512.Idx → EReal) (Q : S512x4096.Idx → EReal) (K V : S32x128x64x64.Idx → EReal) (O : S4096x512.Idx → EReal)
    (b : Fin 32) (i : Fin 128) (n : Fin 512) : EReal :=
  ∑ x : Fin 4096, head (fun e => ∑ k : Fin 512, X (ix3 b i k) * Q (ix2 k ⟨x.val / 64 * 64 + e.val, by omega⟩))
    (fun j e => K (ix4 b j ⟨x.val / 64, by omega⟩ e)) (fun j => V (ix4 b j ⟨x.val / 64, by omega⟩ ⟨x.val % 64, by omega⟩)) i.val * O (ix2 x n)

theorem ref_at (m : (ℓ : Loc nD τ sig) → Buf (Elt Ideal) ℓ) (c : Dev nD) (b : Fin 32) (i : Fin 128) (n : Fin 512) :
    (Value.res_main_v33 m c (ix3 b i n) : EReal) = refAt (m (c.tc.loc main_arg0)) (m (c.tc.loc main_arg1)) (m (c.tc.loc main_arg2))
      (m (c.tc.loc main_arg3)) (m (c.tc.loc main_arg4)) b i n := by
  unfold Value.res_main_v33
  clean_types
  pointwise
  refine Finset.sum_congr rfl fun x _ => congrArg (· * _) ?_
  exact refSoft_eq i _ fun j => (m (c.tc.loc main_arg3) : S32x128x64x64.Idx → EReal) (ix4 b j ⟨x.val / 64, by omega⟩ ⟨x.val % 64, by omega⟩)

end Gather
-- ==== Proof.Inputs.lean ====
module

public import proofs.«01_k».proof.Proof.Region
public import proofs.«01_k».proof.Proof.Soft
public import Idealize.ShloMosaic.Lib.Pipeline.ValueKit
public import Idealize.ShloMosaic.Lib.Claim
public import Idealize.ShloMosaic.Lib.DynamicIndex

/-! # What the call finds in its arrays, and what the program's result is -/

@[expose] public section

set_option maxRecDepth 16384

noncomputable section

namespace Gather

open Idealize.ShloMosaic
open Idealize.ShloMosaic.TcCoe
open Cert.KernelIdeal Cert.KernelIdeal.Gen

variable (m : (ℓ : Loc nD τ sig) → Buf (Elt Ideal) ℓ) (c : Dev nD)

/-- The program's result is what the sixteen slots leave. -/
theorem result_eq : (dat0 m c).arrAt 5 cfg0.N = acc (inp m) c 180 := by
  refine (dat0 m c).arrAt_eq_of_after_last 5 t0_0 (by decide +kernel) _ fun j => ?_
  blk_simp
  rfl

/-- The query weights, cast. -/
theorem v17_eq : V1 m c main_v17 = fun j => m ((c : Thread nD τ).loc main_arg1) j := by
  unfold_abbrev_sides
  after_results
  rfl

/-- The output weights, cast. -/
theorem v18_eq : V1 m c main_v18 = fun j => m ((c : Thread nD τ).loc main_arg4) j := by
  unfold_abbrev_sides
  after_results
  rfl

/-! The keys: the device's two batches of the whole array, heads first. -/

theorem v15_at (g : Fin 64) (b : Fin 2) (j : Fin 128) (e : Fin 64) :
    V1 m c main_v15 (ix4 g b j e) = V1 m c main_v9 (ix4 b j g e) := by
  unfold_abbrev_sides
  after_results
  pointwise

theorem v9_at (g : Fin 64) (b : Fin 2) (j : Fin 128) (e : Fin 64) :
    V1 m c main_v9 (ix4 b j g e) = m ((c : Thread nD τ).loc main_arg2) (ix4 ⟨2 * c.val + b.val, by have := c.isLt; simp only [nD] at this; omega⟩ j g e) := by
  unfold_abbrev_sides
  after_results
  rw [Host.dynamicSlice_eq_extractStridedSlice S2x128x64x64 _ _ (![2 * c.val, 0, 0, 0]) _ (by revert c; decide) ?_]
  · pointwise
    blk_ext
  · intro a
    fin_cases a
    · show BitVec.toInt ((_ : Valuation τ sig (Elt Ideal)) (Proc.devRef .tc main_v8) (Shape.Idx.first h_S_)) = _
      after_results
      revert c; decide +kernel
    · show BitVec.toInt ((_ : Valuation τ sig (Elt Ideal)) (Proc.devRef .tc main_c_4) (Shape.Idx.first h_S_)) = _
      after_results
      rfl
    · show BitVec.toInt ((_ : Valuation τ sig (Elt Ideal)) (Proc.devRef .tc main_c_5) (Shape.Idx.first h_S_)) = _
      after_results
      rfl
    · show BitVec.toInt ((_ : Valuation τ sig (Elt Ideal)) (Proc.devRef .tc main_c_6) (Shape.Idx.first h_S_)) = _
      after_results
      rfl

/-! The values, in the same way. -/

theorem v16_at (g : Fin 64) (b : Fin 2) (j : Fin 128) (e : Fin 64) :
    V1 m c main_v16 (ix4 g b j e) = V1 m c main_v14 (ix4 b j g e) := by
  unfold_abbrev_sides
  after_results
  pointwise

theorem v14_at (g : Fin 64) (b : Fin 2) (j : Fin 128) (e : Fin 64) :
    V1 m c main_v14 (ix4 b j g e) = m ((c : Thread nD τ).loc main_arg3) (ix4 ⟨2 * c.val + b.val, by have := c.isLt; simp only [nD] at this; omega⟩ j g e) := by
  unfold_abbrev_sides
  after_results
  rw [Host.dynamicSlice_eq_extractStridedSlice S2x128x64x64 _ _ (![2 * c.val, 0, 0, 0]) _ (by revert c; decide) ?_]
  · pointwise
    blk_ext
  · intro a
    fin_cases a
    · show BitVec.toInt ((_ : Valuation τ sig (Elt Ideal)) (Proc.devRef .tc main_v13) (Shape.Idx.first h_S_)) = _
      after_results
      revert c; decide +kernel
    · show BitVec.toInt ((_ : Valuation τ sig (Elt Ideal)) (Proc.devRef .tc main_c_10) (Shape.Idx.first h_S_)) = _
      after_results
      rfl
    · show BitVec.toInt ((_ : Valuation τ sig (Elt Ideal)) (Proc.devRef .tc main_c_11) (Shape.Idx.first h_S_)) = _
      after_results
      rfl
    · show BitVec.toInt ((_ : Valuation τ sig (Elt Ideal)) (Proc.devRef .tc main_c_12) (Shape.Idx.first h_S_)) = _
      after_results
      rfl

/-! The call's one point reads each array whole. -/

theorem idx_0 : win0_0.index t0_0 = ![0, 0, 0] := by decide
theorem inp_x (b : Fin 2) (i : Fin 128) (n : Fin 512) : (inp m).x c (ix3 b i n) = m ((c : Thread nD τ).loc main_arg0) (ix3 b i n) := by
  show blkIn m c 0 (ix3 b i n) = _
  unfold blkIn
  blk_simp
  refine (congrArg (V1 m c (Proc.devRef .tc main_arg0)) (?_ : _ = ix3 b i n)).trans (congrFun (V1_of m c main_arg0 (by decide)) _)
  blk_ext [idx_0]

theorem idx_1 : win0_1.index t0_0 = ![0, 0] := by decide
theorem inp_wq (k : Fin 512) (e : Fin 256) : (inp m).wq c (ix2 k e) = m ((c : Thread nD τ).loc main_arg1) (ix2 k e) := by
  show blkIn m c 1 (ix2 k e) = _
  unfold blkIn
  blk_simp
  refine (congrArg (V1 m c (Proc.devRef .tc main_v17)) (?_ : _ = ix2 k e)).trans (congrFun (v17_eq m c) _)
  blk_ext [idx_1]

theorem idx_4 : win0_4.index t0_0 = ![0, 0] := by decide
theorem inp_wo (k : Fin 256) (n : Fin 512) : (inp m).wo c (ix2 k n) = m ((c : Thread nD τ).loc main_arg4) (ix2 k n) := by
  show blkIn m c 4 (ix2 k n) = _
  unfold blkIn
  blk_simp
  refine (congrArg (V1 m c (Proc.devRef .tc main_v18)) (?_ : _ = ix2 k n)).trans (congrFun (v18_eq m c) _)
  blk_ext [idx_4]

theorem idx_2 : win0_2.index t0_0 = ![0, 0, 0, 0] := by decide
theorem inp_kt (g : Fin 64) (b : Fin 2) (j : Fin 128) (e : Fin 64) : (inp m).kt c (ix4 g b j e)
    = m ((c : Thread nD τ).loc main_arg2) (ix4 ⟨2 * c.val + b.val, by have := c.isLt; simp only [nD] at this; omega⟩ j g e) := by
  show blkIn m c 2 (ix4 g b j e) = _
  unfold blkIn
  blk_simp
  refine (congrArg (V1 m c (Proc.devRef .tc main_v15)) (?_ : _ = ix4 g b j e)).trans ((v15_at m c g b j e).trans (v9_at m c g b j e))
  blk_ext [idx_2]

theorem idx_3 : win0_3.index t0_0 = ![0, 0, 0, 0] := by decide
theorem inp_vt (g : Fin 64) (b : Fin 2) (j : Fin 128) (e : Fin 64) : (inp m).vt c (ix4 g b j e)
    = m ((c : Thread nD τ).loc main_arg3) (ix4 ⟨2 * c.val + b.val, by have := c.isLt; simp only [nD] at this; omega⟩ j g e) := by
  show blkIn m c 3 (ix4 g b j e) = _
  unfold blkIn
  blk_simp
  refine (congrArg (V1 m c (Proc.devRef .tc main_v16)) (?_ : _ = ix4 g b j e)).trans ((v16_at m c g b j e).trans (v14_at m c g b j e))
  blk_ext [idx_3]

end Gather
-- ==== Proof.Finite.lean ====
module

public import proofs.«01_k».proof.Defs
public import proofs.«01_k».proof.Proof.Soft
public import Idealize.ShloMosaic.Lib.Pointwise
public import Idealize.ShloMosaic.Lib.ReduceAll

/-! # What the precondition says

Every element of the rows, of the query weights and of the keys is a real number. -/

@[expose] public section

set_option maxRecDepth 16384

noncomputable section

namespace Gather

open Idealize.ShloMosaic
open Idealize.ShloMosaic.TcCoe

theorem finite_facts : Cert.Pre_finite_KernelIdeal.Facts := by constructor <;> decide
theorem finite_facts_reference : Cert.Pre_finite_ReferenceIdeal.Facts := by constructor <;> decide

theorem bits_high : Ideal.ofBits .f32 0x7F800000#32 = ⊤ := by
  simp [Ideal.ofBits, Ideal.ieee]

instance : Subsingleton Cert.Pre_finite_KernelIdeal.S_.Idx := ⟨fun _ _ => funext fun a => a.elim0⟩

open Cert.Pre_finite_KernelIdeal in
/-- An array of which the precondition's test gives one holds reals only. -/
theorem all_real {s : Shape} {axes : List (Fin s.rank)} (x : FVec Ideal s .f32) (hb : S_.BroadcastsInDim s (![] : Fin 0 → Fin s.rank))
    (hr : s.ReducesTo axes S_) (hu : 0 < S_.numel) (init : IVec S_ 1) (k : S_.Idx)
    (e : Host.reduce IntOp.andi (andi (cmpf .olt x (broadcastInDim s ![] hb (constant (F := Ideal) S_ .f32 0x7F800000#32)))
      (cmpf .ogt x (broadcastInDim s ![] hb (constant (F := Ideal) S_ .f32 0xFF800000#32)))) init hr hu k = 1#1) (j : s.Idx) : IsReal (x j) := by
  have h := Host.reduce_andi_all _ _ hr hu k e j
  obtain ⟨h1, h2⟩ := IntOp.andi_eq_one.1 (show IntOp.andi (Ideal.cmp .olt (x j) (Ideal.ofBits .f32 0x7F800000#32))
    (Ideal.cmp .ogt (x j) (Ideal.ofBits .f32 0xFF800000#32)) = 1#1 from h)
  rw [bits_high] at h1
  rw [bits_low] at h2
  refine IsReal.of ?_ ?_
  · by_contra hn
    simp only [Ideal.cmp, hn, decide_false] at h1
    exact absurd h1 (by decide)
  · by_contra hn
    simp only [Ideal.cmp, hn, decide_false] at h2
    exact absurd h2 (by decide)

open Cert.KernelIdeal

theorem real_args (hF : Cert.Pre_finite_KernelIdeal.Facts) (m : (ℓ : Loc nD τ sig) → Buf (Elt Ideal) ℓ)
    (h : Cert.Pre_KernelIdeal_finite_KernelIdeal (hPre_finite_KernelIdeal := hF) m) (c : Dev nD) :
    (∀ j : S2x128x512.Idx, IsReal (m ((c.tc : Thread nD τ).loc main_arg0) j)) ∧ (∀ j : S512x256.Idx, IsReal (m ((c.tc : Thread nD τ).loc main_arg1) j))
      ∧ ∀ j : S32x128x64x64.Idx, IsReal (m ((c.tc : Thread nD τ).loc main_arg2) j) := by
  have e := congrFun (h c) ix0
  unfold Cert.Pre_finite_KernelIdeal.fn Cert.Pre_finite_KernelIdeal.fn_part1 at e
  obtain ⟨e1, e2⟩ := IntOp.andi_eq_one.1 e
  obtain ⟨e0, e1⟩ := IntOp.andi_eq_one.1 e1
  exact ⟨all_real _ _ _ _ _ _ e0, all_real _ _ _ _ _ _ e1, all_real _ _ _ _ _ _ e2⟩

end Gather
-- ==== Proof.Agree.lean ====
module

public import proofs.«01_k».proof.Proof.Total
public import proofs.«01_k».proof.Proof.RefVal
public import proofs.«01_k».proof.Proof.Inputs
public import proofs.«01_k».proof.Proof.Finite
public import Idealize.ShloMosaic.Lib.LayoutAt

/-! # The two results agree

The reference sums over 4096 columns, the kernel over sixteen slots of four heads of 64 columns. -/

@[expose] public section

set_option maxRecDepth 16384

noncomputable section

namespace Gather

open Idealize.ShloMosaic
open Idealize.ShloMosaic.TcCoe

/-- A column as its slot, its head in the slot and its place in the head. -/
def columnOf : Fin 16 × Fin 4 × Fin 64 ≃ Fin 4096 where
  toFun p := ⟨256 * p.1.val + 64 * p.2.1.val + p.2.2.val, by omega⟩
  invFun x := (⟨x.val / 256, by omega⟩, ⟨x.val % 256 / 64, by omega⟩, ⟨x.val % 64, by omega⟩)
  left_inv p := by
    obtain ⟨o, h, d⟩ := p
    refine Prod.ext (Fin.ext ?_) (Prod.ext (Fin.ext ?_) (Fin.ext ?_)) <;> simp only <;> omega
  right_inv x := by refine Fin.ext ?_; simp only; omega

theorem sum_columns (f : Fin 4096 → EReal) :
    ∑ x, f x = ∑ o : Fin 16, ∑ h : Fin 4, ∑ d : Fin 64, f ⟨256 * o.val + 64 * h.val + d.val, by omega⟩ := by
  rw [← columnOf.sum_comp, Fintype.sum_prod_type]
  refine Finset.sum_congr rfl fun o _ => ?_
  rw [Fintype.sum_prod_type]
  rfl

open Cert.KernelIdeal

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-! The reference's arguments. -/

abbrev whole0 : Cert.ReferenceIdeal.S32x128x512.Idx → EReal := m' (((0 : Dev Cert.ReferenceIdeal.nD).tc : Thread Cert.ReferenceIdeal.nD Cert.ReferenceIdeal.τ).loc Cert.ReferenceIdeal.main_arg0)
abbrev whole1 : Cert.ReferenceIdeal.S512x4096.Idx → EReal := m' (((0 : Dev Cert.ReferenceIdeal.nD).tc : Thread Cert.ReferenceIdeal.nD Cert.ReferenceIdeal.τ).loc Cert.ReferenceIdeal.main_arg1)
abbrev whole2 : Cert.ReferenceIdeal.S32x128x64x64.Idx → EReal := m' (((0 : Dev Cert.ReferenceIdeal.nD).tc : Thread Cert.ReferenceIdeal.nD Cert.ReferenceIdeal.τ).loc Cert.ReferenceIdeal.main_arg2)
abbrev whole3 : Cert.ReferenceIdeal.S32x128x64x64.Idx → EReal := m' (((0 : Dev Cert.ReferenceIdeal.nD).tc : Thread Cert.ReferenceIdeal.nD Cert.ReferenceIdeal.τ).loc Cert.ReferenceIdeal.main_arg3)
abbrev whole4 : Cert.ReferenceIdeal.S4096x512.Idx → EReal := m' (((0 : Dev Cert.ReferenceIdeal.nD).tc : Thread Cert.ReferenceIdeal.nD Cert.ReferenceIdeal.τ).loc Cert.ReferenceIdeal.main_arg4)

/-- Each device's arguments are its parts of the reference's. -/
def Shared : Prop := ∀ c : Dev nD,
  m ((c.tc : Thread nD τ).loc main_arg0) = Layout.block ⟨3, ![2, 128, 512]⟩ ⟨3, ![32, 128, 512]⟩ 0 16 c (whole0 m')
  ∧ m ((c.tc : Thread nD τ).loc main_arg1) = Layout.block ⟨2, ![512, 256]⟩ ⟨2, ![512, 4096]⟩ 1 16 c (whole1 m')
  ∧ m ((c.tc : Thread nD τ).loc main_arg2) = whole2 m'
  ∧ m ((c.tc : Thread nD τ).loc main_arg3) = whole3 m'
  ∧ m ((c.tc : Thread nD τ).loc main_arg4) = Layout.block ⟨2, ![256, 512]⟩ ⟨2, ![4096, 512]⟩ 0 16 c (whole4 m')

variable {m m'} (hs : Shared m m')
include hs

theorem x_at (c : Dev nD) (b : Fin 2) (i : Fin 128) (k : Fin 512) : ((inp m).x c (ix3 b i k) : EReal)
    = (whole0 m') (ix3 ⟨2 * c.val + b.val, by have := c.isLt; simp only [nD] at this; omega⟩ i k) := by
  rw [inp_x, (hs c).1]
  shard_norm
  refine congrArg (whole0 m') ?_
  shard_ext

theorem wq_at (o : Fin 16) (k : Fin 512) (e : Fin 256) : ((inp m).wq o (ix2 k e) : EReal)
    = (whole1 m') (ix2 k ⟨256 * o.val + e.val, by omega⟩) := by
  rw [inp_wq, (hs o).2.1]
  shard_norm
  refine congrArg (whole1 m') ?_
  shard_ext

theorem wo_at (o : Fin 16) (k : Fin 256) (n : Fin 512) : ((inp m).wo o (ix2 k n) : EReal)
    = (whole4 m') (ix2 ⟨256 * o.val + k.val, by omega⟩ n) := by
  rw [inp_wo, (hs o).2.2.2.2]
  shard_norm
  refine congrArg (whole4 m') ?_
  shard_ext

theorem kt_at (c : Dev nD) (g : Fin 64) (b : Fin 2) (j : Fin 128) (e : Fin 64) : ((inp m).kt c (ix4 g b j e) : EReal)
    = (whole2 m') (ix4 ⟨2 * c.val + b.val, by have := c.isLt; simp only [nD] at this; omega⟩ j g e) := by
  rw [inp_kt, (hs c).2.2.1]

theorem vt_at (c : Dev nD) (g : Fin 64) (b : Fin 2) (j : Fin 128) (e : Fin 64) : ((inp m).vt c (ix4 g b j e) : EReal)
    = (whole3 m') (ix4 ⟨2 * c.val + b.val, by have := c.isLt; simp only [nD] at this; omega⟩ j g e) := by
  rw [inp_vt, (hs c).2.2.2.1]

/-- One slot's part of the reference's sum. -/
theorem slot_eq (c : Dev nD) (b : Fin 2) (i : Fin 128) (n : Fin 512) (o : Fin 16) :
    slotOn (inp m) c b i n o = ∑ h : Fin 4, ∑ d : Fin 64,
      head (fun e => ∑ k : Fin 512, (whole0 m') (ix3 ⟨2 * c.val + b.val, by have := c.isLt; simp only [nD] at this; omega⟩ i k)
          * (whole1 m') (ix2 k ⟨256 * o.val + (64 * h.val + e.val), by omega⟩))
        (fun j e => (whole2 m') (ix4 ⟨2 * c.val + b.val, by have := c.isLt; simp only [nD] at this; omega⟩ j ⟨4 * o.val + h.val, by omega⟩ e))
        (fun j => (whole3 m') (ix4 ⟨2 * c.val + b.val, by have := c.isLt; simp only [nD] at this; omega⟩ j ⟨4 * o.val + h.val, by omega⟩ d)) i.val
      * (whole4 m') (ix2 ⟨256 * o.val + (h.val * 64 + d.val), by omega⟩ n) := by
  unfold slotOn slotTerm
  simp only [heads_at, x_at hs, wq_at hs, wo_at hs, kt_at hs, vt_at hs]

omit hs in
theorem ref_slots (X : Cert.ReferenceIdeal.S32x128x512.Idx → EReal) (Q : Cert.ReferenceIdeal.S512x4096.Idx → EReal)
    (K V : Cert.ReferenceIdeal.S32x128x64x64.Idx → EReal) (O : Cert.ReferenceIdeal.S4096x512.Idx → EReal) (b : Fin 32) (i : Fin 128) (n : Fin 512) :
    refAt X Q K V O b i n = ∑ o : Fin 16, ∑ h : Fin 4, ∑ d : Fin 64,
      head (fun e => ∑ k : Fin 512, X (ix3 b i k) * Q (ix2 k ⟨256 * o.val + (64 * h.val + e.val), by omega⟩))
        (fun j e => K (ix4 b j ⟨4 * o.val + h.val, by omega⟩ e)) (fun j => V (ix4 b j ⟨4 * o.val + h.val, by omega⟩ d)) i.val
      * O (ix2 ⟨256 * o.val + (h.val * 64 + d.val), by omega⟩ n) := by
  unfold refAt
  rw [sum_columns]
  refine Finset.sum_congr rfl fun o _ => Finset.sum_congr rfl fun h _ => Finset.sum_congr rfl fun d _ => ?_
  have e1 : ∀ e : Fin 64, (256 * o.val + 64 * h.val + d.val) / 64 * 64 + e.val = 256 * o.val + (64 * h.val + e.val) := fun e => by omega
  have e2 : (256 * o.val + 64 * h.val + d.val) / 64 = 4 * o.val + h.val := by omega
  have e3 : (256 * o.val + 64 * h.val + d.val) % 64 = d.val := by omega
  have e4 : 256 * o.val + 64 * h.val + d.val = 256 * o.val + (h.val * 64 + d.val) := by omega
  simp only [e1]
  simp only [e2, e3]
  simp only [e4]

/-- A device's result is its block of the reference's. -/
theorem agree (hF : Cert.Pre_finite_KernelIdeal.Facts) (hp : Cert.Pre_KernelIdeal_finite_KernelIdeal (hPre_finite_KernelIdeal := hF) m) (c : Dev nD) :
    acc (inp m) c 180 = Layout.block ⟨3, ![2, 128, 512]⟩ ⟨3, ![32, 128, 512]⟩ 0 16 c (Cert.ReferenceIdeal.Value.res_main_v33 m' 0) := by
  funext j
  obtain ⟨b, i, n, rfl⟩ : ∃ (b : Fin 2) (i : Fin 128) (n : Fin 512), j = ix3 b i n := ⟨j 0, j 1, j 2, by
    funext a; match a with | ⟨0, _⟩ => rfl | ⟨1, _⟩ => rfl | ⟨2, _⟩ => rfl⟩
  have hx : ∀ j : S2x128x512.Idx, IsReal ((inp m).x c j) := fun j => by
    obtain ⟨b, i, n, rfl⟩ : ∃ (b : Fin 2) (i : Fin 128) (n : Fin 512), j = ix3 b i n := ⟨j 0, j 1, j 2, by
      funext a; match a with | ⟨0, _⟩ => rfl | ⟨1, _⟩ => rfl | ⟨2, _⟩ => rfl⟩
    rw [inp_x]; exact (real_args hF m hp c).1 _
  have hq : ∀ (o : Fin 16) (j : S512x256.Idx), IsReal ((inp m).wq o j) := fun o j => by
    obtain ⟨k, e, rfl⟩ : ∃ (k : Fin 512) (e : Fin 256), j = ix2 k e := ⟨j 0, j 1, by
      funext a; match a with | ⟨0, _⟩ => rfl | ⟨1, _⟩ => rfl⟩
    rw [inp_wq]; exact (real_args hF m hp o).2.1 _
  have hk : ∀ j : S64x2x128x64.Idx, IsReal ((inp m).kt c j) := fun j => by
    obtain ⟨g, b, k, e, rfl⟩ : ∃ (g : Fin 64) (b : Fin 2) (k : Fin 128) (e : Fin 64), j = ix4 g b k e := ⟨j 0, j 1, j 2, j 3, by
      funext a; match a with | ⟨0, _⟩ => rfl | ⟨1, _⟩ => rfl | ⟨2, _⟩ => rfl | ⟨3, _⟩ => rfl⟩
    rw [inp_kt]; exact (real_args hF m hp c).2.2 _
  refine (total_at (inp m) c hx hq hk b i n).trans ?_
  refine (Finset.sum_congr rfl fun o _ => slot_eq hs c b i n o).trans ((ref_slots _ _ _ _ _ _ _ _).symm.trans ((ref_at m' 0 _ i n).symm.trans ?_))
  shard_norm
  refine congrArg (Cert.ReferenceIdeal.Value.res_main_v33 m' 0) ?_
  shard_ext

end Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ =>
  θ_run_mono (Gather.run_main (F := Ideal) m ρ) fun _ h => ⟨fun c => (h.1 c).1, h.2⟩

/-- A named constant as the words that spell it. -/
local instance namedBits : Named Bits := ⟨fun _ _ {φ} b => FloatOps.ofBits φ b⟩

/-- The body of the call is the same program in both readings. -/
theorem same_body : Cert.KernelIdeal.defs₀ (F := Bits) = Cert.Kernel.defs₀ (F := Bits) := by
  unfold Cert.KernelIdeal.defs₀ Cert.Kernel.defs₀
  refine congrArg _ (funext fun x => funext fun y => ?_)
  obtain ⟨n, hn⟩ := x
  match n, hn with
  | 0, _ => rfl
  | n + 1, hn => exact absurd hn (Nat.not_lt.2 (Nat.le_add_left _ _))

/-- … and so is the table of bodies. -/
theorem same_defs : Cert.KernelIdeal.defs (F := Bits) = Cert.Kernel.defs (F := Bits) :=
  congrArg (Pipeline.defs _) same_body

theorem frame_kernel : Cert.quiescent_Kernel := fun m ρ _ => by
  have h := θ_run_mono (Gather.run_main (F := Bits) m ρ)
    (Q' := fun r => (∀ c : Dev nD,
      r.2.mem ((c.tc).loc main_arg0) = m ((c.tc).loc main_arg0) ∧ r.2.mem ((c.tc).loc main_arg1) = m ((c.tc).loc main_arg1) ∧
      r.2.mem ((c.tc).loc main_arg2) = m ((c.tc).loc main_arg2) ∧ r.2.mem ((c.tc).loc main_arg3) = m ((c.tc).loc main_arg3) ∧
      r.2.mem ((c.tc).loc main_arg4) = m ((c.tc).loc main_arg4)) ∧ r.2.sem = fun _ => 0)
    fun _ h => ⟨fun c => (h.1 c).1, h.2⟩
  have e : θ_run (Cert.KernelIdeal.defs (F := Bits)) (onTc (Cert.KernelIdeal.main (F := Bits))) ⟨m, fun _ => 0, ρ⟩ =
      θ_run (Cert.Kernel.defs (F := Bits)) (onTc (Cert.Kernel.main (F := Bits))) ⟨m, fun _ => 0, ρ⟩ :=
    congrArg (fun D => θ_run D (onTc (Cert.Kernel.main (F := Bits))) ⟨m, fun _ => 0, ρ⟩) same_defs
  rw [e] at h
  exact h

theorem frame_reference : Cert.quiescent_ReferenceIdeal := by
  intro m ρ _
  exact θ_run_mono (Cert.ReferenceIdeal.Value.run (F := Ideal) m ρ) fun r h => ⟨fun c => (h c).2, sem_eq_zero_of_no_sems (by decide) r.2⟩

theorem preserves : Cert.preserves_Kernel_KernelIdeal :=
  IdealRules.named_const.statement Cert.KernelIdeal.κ "mask" .f32 0xCE6E6B28#32 ⊥ rfl

/-! The claims under the precondition. -/

theorem frame_ideal_finite : Cert.quiescent_KernelIdeal_pre_finite_KernelIdeal (hPre_finite_KernelIdeal := Gather.finite_facts) :=
  fun m ρ _ => frame_ideal m ρ trivial

theorem frame_reference_finite : Cert.quiescent_ReferenceIdeal_pre_finite_ReferenceIdeal (hPre_finite_ReferenceIdeal := Gather.finite_facts_reference) :=
  fun m ρ _ => frame_reference m ρ trivial

theorem algebraic : Cert.algebraic_KernelIdeal_ReferenceIdeal_pre_finite_KernelIdeal (hPre_finite_KernelIdeal := Gather.finite_facts) := by
  intro m g m' g' hpre hagree
  refine ⟨Cert.ReferenceIdeal.Value.res_main_v33 m' 0, ?_, ?_⟩
  · exact θ_run_mono (Gather.run_main (F := Ideal) m g) fun r h c =>
      ⟨(h.1 c).2.trans ((Gather.result_eq m c).trans (Gather.agree hagree Gather.finite_facts hpre c)), (h.1 c).1⟩
  · exact θ_run_mono (Cert.ReferenceIdeal.Value.run (F := Ideal) m' g') fun r h => h 0

theorem claim : Cert.Claim := ⟨Cert.Kernel.Gen.facts, Cert.KernelIdeal.Gen.facts, Cert.ReferenceIdeal.Gen.facts,
  Gather.finite_facts, Gather.finite_facts_reference,
  frame_kernel, frame_ideal, frame_ideal_finite, frame_reference, frame_reference_finite, preserves, algebraic⟩

end Cert.Proof

end
